-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v460) = v0 c
          ∧ r.2.mem ((c.tc : Thread Cert.ReferenceIdeal.nD Cert.ReferenceIdeal.τ).loc Cert.ReferenceIdeal.main_v450) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg0) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v16) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v29) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v16) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)) (v9 : (c : Dev Cert.Kernel15Ideal.nD) → Buf (Elt Ideal) ((c.tc : Thread Cert.Kernel15Ideal.nD Cert.Kernel15Ideal.τ).loc Cert.Kernel15Ideal.main_v0_9)) (v10 : (c : Dev Cert.Kernel15Ideal.nD) → Buf (Elt Ideal) ((c.tc : Thread Cert.Kernel15Ideal.nD Cert.Kernel15Ideal.τ).loc Cert.Kernel15Ideal.main_v0_10)) (v11 : (c : Dev Cert.Kernel15Ideal.nD) → Buf (Elt Ideal) ((c.tc : Thread Cert.Kernel15Ideal.nD Cert.Kernel15Ideal.τ).loc Cert.Kernel15Ideal.main_v0_11)) (v12 : (c : Dev Cert.Kernel15Ideal.nD) → Buf (Elt Ideal) ((c.tc : Thread Cert.Kernel15Ideal.nD Cert.Kernel15Ideal.τ).loc Cert.Kernel15Ideal.main_v0_12)) (v13 : (c : Dev Cert.Kernel15Ideal.nD) → Buf (Elt Ideal) ((c.tc : Thread Cert.Kernel15Ideal.nD Cert.Kernel15Ideal.τ).loc Cert.Kernel15Ideal.main_v0_13)) (v14 : (c : Dev Cert.Kernel15Ideal.nD) → Buf (Elt Ideal) ((c.tc : Thread Cert.Kernel15Ideal.nD Cert.Kernel15Ideal.τ).loc Cert.Kernel15Ideal.main_v0_14)) (v15 : (c : Dev Cert.Kernel15Ideal.nD) → Buf (Elt Ideal) ((c.tc : Thread Cert.Kernel15Ideal.nD Cert.Kernel15Ideal.τ).loc Cert.Kernel15Ideal.main_v0_15)) (v16 : (c : Dev Cert.Kernel15Ideal.nD) → Buf (Elt Ideal) ((c.tc : Thread Cert.Kernel15Ideal.nD Cert.Kernel15Ideal.τ).loc Cert.Kernel15Ideal.main_v0_16)) (v17 : (c : Dev Cert.Kernel15Ideal.nD) → Buf (Elt Ideal) ((c.tc : Thread Cert.Kernel15Ideal.nD Cert.Kernel15Ideal.τ).loc Cert.Kernel15Ideal.main_v0_17)) (v18 : (c : Dev Cert.Kernel15Ideal.nD) → Buf (Elt Ideal) ((c.tc : Thread Cert.Kernel15Ideal.nD Cert.Kernel15Ideal.τ).loc Cert.Kernel15Ideal.main_v0_18)) (v19 : (c : Dev Cert.Kernel15Ideal.nD) → Buf (Elt Ideal) ((c.tc : Thread Cert.Kernel15Ideal.nD Cert.Kernel15Ideal.τ).loc Cert.Kernel15Ideal.main_v0_19)) (v20 : (c : Dev Cert.Kernel15Ideal.nD) → Buf (Elt Ideal) ((c.tc : Thread Cert.Kernel15Ideal.nD Cert.Kernel15Ideal.τ).loc Cert.Kernel15Ideal.main_v0_20)) (v21 : (c : Dev Cert.Kernel15Ideal.nD) → Buf (Elt Ideal) ((c.tc : Thread Cert.Kernel15Ideal.nD Cert.Kernel15Ideal.τ).loc Cert.Kernel15Ideal.main_v0_21)) (v22 : (c : Dev Cert.Kernel15Ideal.nD) → Buf (Elt Ideal) ((c.tc : Thread Cert.Kernel15Ideal.nD Cert.Kernel15Ideal.τ).loc Cert.Kernel15Ideal.main_v0_22)) (v23 : (c : Dev Cert.Kernel15Ideal.nD) → Buf (Elt Ideal) ((c.tc : Thread Cert.Kernel15Ideal.nD Cert.Kernel15Ideal.τ).loc Cert.Kernel15Ideal.main_v0_23)) (v24 : (c : Dev Cert.Kernel15Ideal.nD) → Buf (Elt Ideal) ((c.tc : Thread Cert.Kernel15Ideal.nD Cert.Kernel15Ideal.τ).loc Cert.Kernel15Ideal.main_v0_24)) (v25 : (c : Dev Cert.Kernel15Ideal.nD) → Buf (Elt Ideal) ((c.tc : Thread Cert.Kernel15Ideal.nD Cert.Kernel15Ideal.τ).loc Cert.Kernel15Ideal.main_v0_25)) (v26 : (c : Dev Cert.Kernel15Ideal.nD) → Buf (Elt Ideal) ((c.tc : Thread Cert.Kernel15Ideal.nD Cert.Kernel15Ideal.τ).loc Cert.Kernel15Ideal.main_v0_26)) (v27 : (c : Dev Cert.Kernel15Ideal.nD) → Buf (Elt Ideal) ((c.tc : Thread Cert.Kernel15Ideal.nD Cert.Kernel15Ideal.τ).loc Cert.Kernel15Ideal.main_v0_27)) (v28 : (c : Dev Cert.Kernel15Ideal.nD) → Buf (Elt Ideal) ((c.tc : Thread Cert.Kernel15Ideal.nD Cert.Kernel15Ideal.τ).loc Cert.Kernel15Ideal.main_v0_28)) (v29 : (c : Dev Cert.Kernel15Ideal.nD) → Buf (Elt Ideal) ((c.tc : Thread Cert.Kernel15Ideal.nD Cert.Kernel15Ideal.τ).loc Cert.Kernel15Ideal.main_v0_29)) (v30 : (c : Dev Cert.Kernel15Ideal.nD) → Buf (Elt Ideal) ((c.tc : Thread Cert.Kernel15Ideal.nD Cert.Kernel15Ideal.τ).loc Cert.Kernel15Ideal.main_v0_30)) (v31 : (c : Dev Cert.Kernel15Ideal.nD) → Buf (Elt Ideal) ((c.tc : Thread Cert.Kernel15Ideal.nD Cert.Kernel15Ideal.τ).loc Cert.Kernel15Ideal.main_v0_31)) (v32 : (c : Dev Cert.Kernel15Ideal.nD) → Buf (Elt Ideal) ((c.tc : Thread Cert.Kernel15Ideal.nD Cert.Kernel15Ideal.τ).loc Cert.Kernel15Ideal.main_v0_32)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_v0_9) = v9 c
          ∧ r.2.mem ((c.tc : Thread Cert.Kernel15Ideal.nD Cert.Kernel15Ideal.τ).loc Cert.Kernel15Ideal.main_v0_10) = v10 c
          ∧ r.2.mem ((c.tc : Thread Cert.Kernel15Ideal.nD Cert.Kernel15Ideal.τ).loc Cert.Kernel15Ideal.main_v0_11) = v11 c
          ∧ r.2.mem ((c.tc : Thread Cert.Kernel15Ideal.nD Cert.Kernel15Ideal.τ).loc Cert.Kernel15Ideal.main_v0_12) = v12 c
          ∧ r.2.mem ((c.tc : Thread Cert.Kernel15Ideal.nD Cert.Kernel15Ideal.τ).loc Cert.Kernel15Ideal.main_v0_13) = v13 c
          ∧ r.2.mem ((c.tc : Thread Cert.Kernel15Ideal.nD Cert.Kernel15Ideal.τ).loc Cert.Kernel15Ideal.main_v0_14) = v14 c
          ∧ r.2.mem ((c.tc : Thread Cert.Kernel15Ideal.nD Cert.Kernel15Ideal.τ).loc Cert.Kernel15Ideal.main_v0_15) = v15 c
          ∧ r.2.mem ((c.tc : Thread Cert.Kernel15Ideal.nD Cert.Kernel15Ideal.τ).loc Cert.Kernel15Ideal.main_v0_16) = v16 c
          ∧ r.2.mem ((c.tc : Thread Cert.Kernel15Ideal.nD Cert.Kernel15Ideal.τ).loc Cert.Kernel15Ideal.main_v0_17) = v17 c
          ∧ r.2.mem ((c.tc : Thread Cert.Kernel15Ideal.nD Cert.Kernel15Ideal.τ).loc Cert.Kernel15Ideal.main_v0_18) = v18 c
          ∧ r.2.mem ((c.tc : Thread Cert.Kernel15Ideal.nD Cert.Kernel15Ideal.τ).loc Cert.Kernel15Ideal.main_v0_19) = v19 c
          ∧ r.2.mem ((c.tc : Thread Cert.Kernel15Ideal.nD Cert.Kernel15Ideal.τ).loc Cert.Kernel15Ideal.main_v0_20) = v20 c
          ∧ r.2.mem ((c.tc : Thread Cert.Kernel15Ideal.nD Cert.Kernel15Ideal.τ).loc Cert.Kernel15Ideal.main_v0_21) = v21 c
          ∧ r.2.mem ((c.tc : Thread Cert.Kernel15Ideal.nD Cert.Kernel15Ideal.τ).loc Cert.Kernel15Ideal.main_v0_22) = v22 c
          ∧ r.2.mem ((c.tc : Thread Cert.Kernel15Ideal.nD Cert.Kernel15Ideal.τ).loc Cert.Kernel15Ideal.main_v0_23) = v23 c
          ∧ r.2.mem ((c.tc : Thread Cert.Kernel15Ideal.nD Cert.Kernel15Ideal.τ).loc Cert.Kernel15Ideal.main_v0_24) = v24 c
          ∧ r.2.mem ((c.tc : Thread Cert.Kernel15Ideal.nD Cert.Kernel15Ideal.τ).loc Cert.Kernel15Ideal.main_v0_25) = v25 c
          ∧ r.2.mem ((c.tc : Thread Cert.Kernel15Ideal.nD Cert.Kernel15Ideal.τ).loc Cert.Kernel15Ideal.main_v0_26) = v26 c
          ∧ r.2.mem ((c.tc : Thread Cert.Kernel15Ideal.nD Cert.Kernel15Ideal.τ).loc Cert.Kernel15Ideal.main_v0_27) = v27 c
          ∧ r.2.mem ((c.tc : Thread Cert.Kernel15Ideal.nD Cert.Kernel15Ideal.τ).loc Cert.Kernel15Ideal.main_v0_28) = v28 c
          ∧ r.2.mem ((c.tc : Thread Cert.Kernel15Ideal.nD Cert.Kernel15Ideal.τ).loc Cert.Kernel15Ideal.main_v0_29) = v29 c
          ∧ r.2.mem ((c.tc : Thread Cert.Kernel15Ideal.nD Cert.Kernel15Ideal.τ).loc Cert.Kernel15Ideal.main_v0_30) = v30 c
          ∧ r.2.mem ((c.tc : Thread Cert.Kernel15Ideal.nD Cert.Kernel15Ideal.τ).loc Cert.Kernel15Ideal.main_v0_31) = v31 c
          ∧ r.2.mem ((c.tc : Thread Cert.Kernel15Ideal.nD Cert.Kernel15Ideal.τ).loc Cert.Kernel15Ideal.main_v0_32) = v32 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v3) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v5) = v3 c
          ∧ r.2.mem ((c.tc : Thread Cert.Reference15Ideal.nD Cert.Reference15Ideal.τ).loc Cert.Reference15Ideal.main_v6) = v4 c
          ∧ r.2.mem ((c.tc : Thread Cert.Reference15Ideal.nD Cert.Reference15Ideal.τ).loc Cert.Reference15Ideal.main_v7) = v5 c
          ∧ r.2.mem ((c.tc : Thread Cert.Reference15Ideal.nD Cert.Reference15Ideal.τ).loc Cert.Reference15Ideal.main_v8) = v6 c
          ∧ r.2.mem ((c.tc : Thread Cert.Reference15Ideal.nD Cert.Reference15Ideal.τ).loc Cert.Reference15Ideal.main_v9) = v7 c
          ∧ r.2.mem ((c.tc : Thread Cert.Reference15Ideal.nD Cert.Reference15Ideal.τ).loc Cert.Reference15Ideal.main_v33) = v8 c
          ∧ r.2.mem ((c.tc : Thread Cert.Reference15Ideal.nD Cert.Reference15Ideal.τ).loc Cert.Reference15Ideal.main_v57) = v9 c
          ∧ r.2.mem ((c.tc : Thread Cert.Reference15Ideal.nD Cert.Reference15Ideal.τ).loc Cert.Reference15Ideal.main_v81) = v10 c
          ∧ r.2.mem ((c.tc : Thread Cert.Reference15Ideal.nD Cert.Reference15Ideal.τ).loc Cert.Reference15Ideal.main_v105) = v11 c
          ∧ r.2.mem ((c.tc : Thread Cert.Reference15Ideal.nD Cert.Reference15Ideal.τ).loc Cert.Reference15Ideal.main_v129) = v12 c
          ∧ r.2.mem ((c.tc : Thread Cert.Reference15Ideal.nD Cert.Reference15Ideal.τ).loc Cert.Reference15Ideal.main_v153) = v13 c
          ∧ r.2.mem ((c.tc : Thread Cert.Reference15Ideal.nD Cert.Reference15Ideal.τ).loc Cert.Reference15Ideal.main_v177) = v14 c
          ∧ r.2.mem ((c.tc : Thread Cert.Reference15Ideal.nD Cert.Reference15Ideal.τ).loc Cert.Reference15Ideal.main_v201) = v15 c
          ∧ r.2.mem ((c.tc : Thread Cert.Reference15Ideal.nD Cert.Reference15Ideal.τ).loc Cert.Reference15Ideal.main_v14) = v16 c
          ∧ r.2.mem ((c.tc : Thread Cert.Reference15Ideal.nD Cert.Reference15Ideal.τ).loc Cert.Reference15Ideal.main_v38) = v17 c
          ∧ r.2.mem ((c.tc : Thread Cert.Reference15Ideal.nD Cert.Reference15Ideal.τ).loc Cert.Reference15Ideal.main_v62) = v18 c
          ∧ r.2.mem ((c.tc : Thread Cert.Reference15Ideal.nD Cert.Reference15Ideal.τ).loc Cert.Reference15Ideal.main_v86) = v19 c
          ∧ r.2.mem ((c.tc : Thread Cert.Reference15Ideal.nD Cert.Reference15Ideal.τ).loc Cert.Reference15Ideal.main_v110) = v20 c
          ∧ r.2.mem ((c.tc : Thread Cert.Reference15Ideal.nD Cert.Reference15Ideal.τ).loc Cert.Reference15Ideal.main_v134) = v21 c
          ∧ r.2.mem ((c.tc : Thread Cert.Reference15Ideal.nD Cert.Reference15Ideal.τ).loc Cert.Reference15Ideal.main_v158) = v22 c
          ∧ r.2.mem ((c.tc : Thread Cert.Reference15Ideal.nD Cert.Reference15Ideal.τ).loc Cert.Reference15Ideal.main_v182) = v23 c
          ∧ r.2.mem ((c.tc : Thread Cert.Reference15Ideal.nD Cert.Reference15Ideal.τ).loc Cert.Reference15Ideal.main_v20) = v24 c
          ∧ r.2.mem ((c.tc : Thread Cert.Reference15Ideal.nD Cert.Reference15Ideal.τ).loc Cert.Reference15Ideal.main_v44) = v25 c
          ∧ r.2.mem ((c.tc : Thread Cert.Reference15Ideal.nD Cert.Reference15Ideal.τ).loc Cert.Reference15Ideal.main_v68) = v26 c
          ∧ r.2.mem ((c.tc : Thread Cert.Reference15Ideal.nD Cert.Reference15Ideal.τ).loc Cert.Reference15Ideal.main_v92) = v27 c
          ∧ r.2.mem ((c.tc : Thread Cert.Reference15Ideal.nD Cert.Reference15Ideal.τ).loc Cert.Reference15Ideal.main_v116) = v28 c
          ∧ r.2.mem ((c.tc : Thread Cert.Reference15Ideal.nD Cert.Reference15Ideal.τ).loc Cert.Reference15Ideal.main_v140) = v29 c
          ∧ r.2.mem ((c.tc : Thread Cert.Reference15Ideal.nD Cert.Reference15Ideal.τ).loc Cert.Reference15Ideal.main_v164) = v30 c
          ∧ r.2.mem ((c.tc : Thread Cert.Reference15Ideal.nD Cert.Reference15Ideal.τ).loc Cert.Reference15Ideal.main_v188) = v31 c
          ∧ r.2.mem ((c.tc : Thread Cert.Reference15Ideal.nD Cert.Reference15Ideal.τ).loc Cert.Reference15Ideal.main_v202) = v32 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4096x512 : Shape := ⟨2, ![4096, 512]⟩
abbrev S4096x8704 : Shape := ⟨2, ![4096, 8704]⟩
abbrev S31x512 : Shape := ⟨2, ![31, 512]⟩
abbrev S_ : Shape := ⟨0, ![]⟩
abbrev S32x512 : Shape := ⟨2, ![32, 512]⟩
abbrev S256x512 : Shape := ⟨2, ![256, 512]⟩
abbrev S128x512 : Shape := ⟨2, ![128, 512]⟩
abbrev S128x1024 : Shape := ⟨2, ![128, 1024]⟩
abbrev S32x1024 : Shape := ⟨2, ![32, 1024]⟩
abbrev S160x512 : Shape := ⟨2, ![160, 512]⟩
abbrev S128x128 : Shape := ⟨2, ![128, 128]⟩
abbrev S152x128 : Shape := ⟨2, ![152, 128]⟩
abbrev S1x128 : Shape := ⟨2, ![1, 128]⟩
abbrev S144x128 : Shape := ⟨2, ![144, 128]⟩
abbrev S8x128 : Shape := ⟨2, ![8, 128]⟩
abbrev S16x8x128 : Shape := ⟨3, ![16, 8, 128]⟩
abbrev S32x8x512 : Shape := ⟨3, ![32, 8, 512]⟩

abbrev nBuf : Space → Nat
  | .hbm => 13
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x8704, .f32⟩
  | .hbm, ⟨2, _⟩ => ⟨S31x512, .f32⟩
  | .hbm, ⟨3, _⟩ => ⟨S4096x8704, .bf16⟩
  | .hbm, ⟨4, _⟩ => ⟨S_, .i32⟩
  | .hbm, ⟨5, _⟩ => ⟨S_, .f32⟩
  | .hbm, ⟨6, _⟩ => ⟨S32x512, .f32⟩
  | .hbm, ⟨7, _⟩ => ⟨S4096x8704, .bf16⟩
  | .hbm, ⟨8, _⟩ => ⟨S256x512, .f32⟩
  | .hbm, ⟨9, _⟩ => ⟨S32x8x512, .f32⟩
  | .hbm, ⟨10, _⟩ => ⟨S_, .f32⟩
  | .hbm, ⟨11, _⟩ => ⟨S32x512, .f32⟩
  | .hbm, ⟨12, _⟩ => ⟨S31x512, .f32⟩
  | .local _ .vmem, ⟨0, _⟩ => ⟨S128x512, .f32⟩
  | .local _ .vmem, ⟨1, _⟩ => ⟨S128x512, .f32⟩
  | .local _ .vmem, ⟨2, _⟩ => ⟨S32x512, .f32⟩
  | .local _ .vmem, ⟨3, _⟩ => ⟨S32x512, .f32⟩
  | .local _ .vmem, ⟨4, _⟩ => ⟨S128x1024, .f32⟩
  | .local _ .vmem, ⟨5, _⟩ => ⟨S128x1024, .f32⟩
  | .local _ .vmem, ⟨6, _⟩ => ⟨S32x1024, .f32⟩
  | .local _ .vmem, ⟨7, _⟩ => ⟨S32x1024, .f32⟩
  | .local _ .vmem, ⟨8, _⟩ => ⟨S32x512, .f32⟩
  | .local _ .vmem, ⟨9, _⟩ => ⟨S128x1024, .bf16⟩
  | .local _ .vmem, ⟨10, _⟩ => ⟨S128x1024, .bf16⟩
  | .local _ .vmem, ⟨11, _⟩ => ⟨S256x512, .f32⟩
  | .local _ .vmem, ⟨12, _⟩ => ⟨S160x512, .f32⟩
  | .local _ .vmem, ⟨13, _⟩ => ⟨S160x512, .f32⟩
  | .local _ .vmem, ⟨14, _⟩ => ⟨S160x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x512 : Shape := ⟨2, ![4096, 512]⟩
abbrev S4096x8704 : Shape := ⟨2, ![4096, 8704]⟩
abbrev S31x512 : Shape := ⟨2, ![31, 512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S512 : Shape := ⟨1, ![512]⟩
abbrev S4096x5120 : Shape := ⟨2, ![4096, 5120]⟩
abbrev S4096x2560 : Shape := ⟨2, ![4096, 2560]⟩

abbrev nBuf : Space → Nat
  | .hbm => 564
  | .vmem => 0
  | .smem => 0
  | _ => 0

abbrev hbmTy0_0 (i : Nat) : BufTy := match i % 128 with
  | 0 => ⟨S4096x512, .f32⟩
  | 1 => ⟨S4096x8704, .f32⟩
  | 2 => ⟨S31x512, .f32⟩
  | 3 => ⟨S4096x8704, .bf16⟩
  | 4 => ⟨S4096x1024, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S30x512, .f32⟩
  | 22 => ⟨S4126x512, .f32⟩
  | 23 => ⟨S_, .f32⟩
  | 24 => ⟨S30x512, .f32⟩
  | 25 => ⟨S1x512, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S4096x512, .f32⟩
  | 47 => ⟨S1x512, .f32⟩
  | 48 => ⟨S4096x512, .f32⟩
  | 49 => ⟨S4096x512, .f32⟩
  | 50 => ⟨S4096x512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S4096x512, .f32⟩
  | 67 => ⟨S1x512, .f32⟩
  | 68 => ⟨S4096x512, .f32⟩
  | 69 => ⟨S4096x512, .f32⟩
  | 70 => ⟨S4096x512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S4096x512, .f32⟩
  | 77 => ⟨S1x512, .f32⟩
  | 78 => ⟨S4096x512, .f32⟩
  | 79 => ⟨S4096x512, .f32⟩
  | 80 => ⟨S4096x512, .f32⟩
  | 81 => ⟨S4096x512, .f32⟩
  | 82 => ⟨S1x512, .f32⟩
  | 83 => ⟨S4096x512, .f32⟩
  | 84 => ⟨S4096x512, .f32⟩
  | 85 => ⟨S4096x512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S4096x512, .f32⟩
  | 97 => ⟨S1x512, .f32⟩
  | 98 => ⟨S4096x512, .f32⟩
  | 99 => ⟨S4096x512, .f32⟩
  | 100 => ⟨S4096x512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S4096x512, .f32⟩
  | 112 => ⟨S1x512, .f32⟩
  | 113 => ⟨S4096x512, .f32⟩
  | 114 => ⟨S4096x512, .f32⟩
  | 115 => ⟨S4096x512, .f32⟩
  | 116 => ⟨S4096x512, .f32⟩
  | 117 => ⟨S1x512, .f32⟩
  | 118 => ⟨S4096x512, .f32⟩
  | 119 => ⟨S4096x512, .f32⟩
  | 120 => ⟨S4096x512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S4096x512, .f32⟩
  | 127 => ⟨S1x512, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S1x512, .f32⟩
  | 5 => ⟨S4096x512, .f32⟩
  | 6 => ⟨S4096x512, .f32⟩
  | 7 => ⟨S4096x512, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S4096x512, .f32⟩
  | 14 => ⟨S1x512, .f32⟩
  | 15 => ⟨S4096x512, .f32⟩
  | 16 => ⟨S4096x512, .f32⟩
  | 17 => ⟨S4096x512, .f32⟩
  | 18 => ⟨S4096x512, .f32⟩
  | 19 => ⟨S1x512, .f32⟩
  | 20 => ⟨S4096x512, .f32⟩
  | 21 => ⟨S4096x512, .f32⟩
  | 22 => ⟨S4096x512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S4096x512, .f32⟩
  | 49 => ⟨S1x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S512, .f32⟩
  | 61 => ⟨S1x512, .f32⟩
  | 62 => ⟨S_, .f32⟩
  | 63 => ⟨S4126x512, .f32⟩
  | 64 => ⟨S_, .f32⟩
  | 65 => ⟨S31x512, .f32⟩
  | 66 => ⟨S4096x512, .f32⟩
  | 67 => ⟨S4096x512, .f32⟩
  | 68 => ⟨S4096x512, .f32⟩
  | 69 => ⟨S_, .f32⟩
  | 70 => ⟨S512, .f32⟩
  | 71 => ⟨S1x512, .f32⟩
  | 72 => ⟨S_, .f32⟩
  | 73 => ⟨S4126x512, .f32⟩
  | 74 => ⟨S4126x512, .f32⟩
  | 75 => ⟨S_, .f32⟩
  | 76 => ⟨S31x512, .f32⟩
  | 77 => ⟨S31x512, .f32⟩
  | 78 => ⟨S4096x512, .f32⟩
  | 79 => ⟨S4096x512, .f32⟩
  | 80 => ⟨S4096x512, .f32⟩
  | 81 => ⟨S_, .f32⟩
  | 82 => ⟨S512, .f32⟩
  | 83 => ⟨S1x512, .f32⟩
  | 84 => ⟨S_, .f32⟩
  | 85 => ⟨S4126x512, .f32⟩
  | 86 => ⟨S4126x512, .f32⟩
  | 87 => ⟨S_, .f32⟩
  | 88 => ⟨S31x512, .f32⟩
  | 89 => ⟨S31x512, .f32⟩
  | 90 => ⟨S4096x512, .f32⟩
  | 91 => ⟨S4096x512, .f32⟩
  | 92 => ⟨S4096x512, .f32⟩
  | 93 => ⟨S_, .f32⟩
  | 94 => ⟨S512, .f32⟩
  | 95 => ⟨S1x512, .f32⟩
  | 96 => ⟨S_, .f32⟩
  | 97 => ⟨S4126x512, .f32⟩
  | 98 => ⟨S4126x512, .f32⟩
  | 99 => ⟨S_, .f32⟩
  | 100 => ⟨S31x512, .f32⟩
  | 101 => ⟨S31x512, .f32⟩
  | 102 => ⟨S4096x512, .f32⟩
  | 103 => ⟨S4096x512, .f32⟩
  | 104 => ⟨S4096x512, .f32⟩
  | 105 => ⟨S_, .f32⟩
  | 106 => ⟨S512, .f32⟩
  | 107 => ⟨S1x512, .f32⟩
  | 108 => ⟨S_, .f32⟩
  | 109 => ⟨S4126x512, .f32⟩
  | 110 => ⟨S4126x512, .f32⟩
  | 111 => ⟨S_, .f32⟩
  | 112 => ⟨S31x512, .f32⟩
  | 113 => ⟨S31x512, .f32⟩
  | 114 => ⟨S4096x512, .f32⟩
  | 115 => ⟨S4096x512, .f32⟩
  | 116 => ⟨S4096x512, .f32⟩
  | 117 => ⟨S_, .f32⟩
  | 118 => ⟨S512, .f32⟩
  | 119 => ⟨S1x512, .f32⟩
  | 120 => ⟨S_, .f32⟩
  | 121 => ⟨S4126x512, .f32⟩
  | 122 => ⟨S4126x512, .f32⟩
  | 123 => ⟨S_, .f32⟩
  | 124 => ⟨S31x512, .f32⟩
  | 125 => ⟨S31x512, .f32⟩
  | 126 => ⟨S4096x512, .f32⟩
  | 127 => ⟨S4096x512, .f32⟩
  | _ => ⟨S4096x512, .f32⟩

abbrev hbmTy0_2 (i : Nat) : BufTy := match i % 128 with
  | 0 => ⟨S4096x512, .f32⟩
  | 1 => ⟨S_, .f32⟩
  | 2 => ⟨S512, .f32⟩
  | 3 => ⟨S1x512, .f32⟩
  | 4 => ⟨S_, .f32⟩
  | 5 => ⟨S4126x512, .f32⟩
  | 6 => ⟨S4126x512, .f32⟩
  | 7 => ⟨S_, .f32⟩
  | 8 => ⟨S31x512, .f32⟩
  | 9 => ⟨S31x512, .f32⟩
  | 10 => ⟨S4096x512, .f32⟩
  | 11 => ⟨S4096x512, .f32⟩
  | 12 => ⟨S4096x512, .f32⟩
  | 13 => ⟨S_, .f32⟩
  | 14 => ⟨S512, .f32⟩
  | 15 => ⟨S1x512, .f32⟩
  | 16 => ⟨S_, .f32⟩
  | 17 => ⟨S4126x512, .f32⟩
  | 18 => ⟨S4126x512, .f32⟩
  | 19 => ⟨S_, .f32⟩
  | 20 => ⟨S31x512, .f32⟩
  | 21 => ⟨S31x512, .f32⟩
  | 22 => ⟨S4096x512, .f32⟩
  | 23 => ⟨S4096x512, .f32⟩
  | 24 => ⟨S4096x512, .f32⟩
  | 25 => ⟨S_, .f32⟩
  | 26 => ⟨S512, .f32⟩
  | 27 => ⟨S1x512, .f32⟩
  | 28 => ⟨S_, .f32⟩
  | 29 => ⟨S4126x512, .f32⟩
  | 30 => ⟨S4126x512, .f32⟩
  | 31 => ⟨S_, .f32⟩
  | 32 => ⟨S31x512, .f32⟩
  | 33 => ⟨S31x512, .f32⟩
  | 34 => ⟨S4096x512, .f32⟩
  | 35 => ⟨S4096x512, .f32⟩
  | 36 => ⟨S4096x512, .f32⟩
  | 37 => ⟨S_, .f32⟩
  | 38 => ⟨S512, .f32⟩
  | 39 => ⟨S1x512, .f32⟩
  | 40 => ⟨S_, .f32⟩
  | 41 => ⟨S4126x512, .f32⟩
  | 42 => ⟨S4126x512, .f32⟩
  | 43 => ⟨S_, .f32⟩
  | 44 => ⟨S31x512, .f32⟩
  | 45 => ⟨S31x512, .f32⟩
  | 46 => ⟨S4096x512, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S4126x512, .f32⟩
  | 54 => ⟨S4126x512, .f32⟩
  | 55 => ⟨S_, .f32⟩
  | 56 => ⟨S31x512, .f32⟩
  | 57 => ⟨S31x512, .f32⟩
  | 58 => ⟨S4096x512, .f32⟩
  | 59 => ⟨S4096x512, .f32⟩
  | 60 => ⟨S4096x512, .f32⟩
  | 61 => ⟨S_, .f32⟩
  | 62 => ⟨S512, .f32⟩
  | 63 => ⟨S1x512, .f32⟩
  | 64 => ⟨S_, .f32⟩
  | 65 => ⟨S4126x512, .f32⟩
  | 66 => ⟨S4126x512, .f32⟩
  | 67 => ⟨S_, .f32⟩
  | 68 => ⟨S31x512, .f32⟩
  | 69 => ⟨S31x512, .f32⟩
  | 70 => ⟨S4096x512, .f32⟩
  | 71 => ⟨S4096x512, .f32⟩
  | 72 => ⟨S4096x512, .f32⟩
  | 73 => ⟨S_, .f32⟩
  | 74 => ⟨S512, .f32⟩
  | 75 => ⟨S1x512, .f32⟩
  | 76 => ⟨S_, .f32⟩
  | 77 => ⟨S4126x512, .f32⟩
  | 78 => ⟨S4126x512, .f32⟩
  | 79 => ⟨S_, .f32⟩
  | 80 => ⟨S31x512, .f32⟩
  | 81 => ⟨S31x512, .f32⟩
  | 82 => ⟨S4096x512, .f32⟩
  | 83 => ⟨S4096x512, .f32⟩
  | 84 => ⟨S4096x512, .f32⟩
  | 85 => ⟨S_, .f32⟩
  | 86 => ⟨S512, .f32⟩
  | 87 => ⟨S1x512, .f32⟩
  | 88 => ⟨S_, .f32⟩
  | 89 => ⟨S4126x512, .f32⟩
  | 90 => ⟨S4126x512, .f32⟩
  | 91 => ⟨S_, .f32⟩
  | 92 => ⟨S31x512, .f32⟩
  | 93 => ⟨S31x512, .f32⟩
  | 94 => ⟨S4096x512, .f32⟩
  | 95 => ⟨S4096x512, .f32⟩
  | 96 => ⟨S4096x512, .f32⟩
  | 97 => ⟨S_, .f32⟩
  | 98 => ⟨S512, .f32⟩
  | 99 => ⟨S1x512, .f32⟩
  | 100 => ⟨S_, .f32⟩
  | 101 => ⟨S4126x512, .f32⟩
  | 102 => ⟨S4126x512, .f32⟩
  | 103 => ⟨S_, .f32⟩
  | 104 => ⟨S31x512, .f32⟩
  | 105 => ⟨S31x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S_, .f32⟩
  | 113 => ⟨S4126x512, .f32⟩
  | 114 => ⟨S4126x512, .f32⟩
  | 115 => ⟨S_, .f32⟩
  | 116 => ⟨S31x512, .f32⟩
  | 117 => ⟨S31x512, .f32⟩
  | 118 => ⟨S4096x512, .f32⟩
  | 119 => ⟨S4096x512, .f32⟩
  | 120 => ⟨S4096x512, .f32⟩
  | 121 => ⟨S_, .f32⟩
  | 122 => ⟨S512, .f32⟩
  | 123 => ⟨S1x512, .f32⟩
  | 124 => ⟨S_, .f32⟩
  | 125 => ⟨S4126x512, .f32⟩
  | 126 => ⟨S4126x512, .f32⟩
  | 127 => ⟨S_, .f32⟩
  | _ => ⟨S4096x512, .f32⟩

abbrev hbmTy0_3 (i : Nat) : BufTy := match i % 128 with
  | 0 => ⟨S31x512, .f32⟩
  | 1 => ⟨S31x512, .f32⟩
  | 2 => ⟨S4096x512, .f32⟩
  | 3 => ⟨S4096x512, .f32⟩
  | 4 => ⟨S4096x512, .f32⟩
  | 5 => ⟨S_, .f32⟩
  | 6 => ⟨S512, .f32⟩
  | 7 => ⟨S1x512, .f32⟩
  | 8 => ⟨S_, .f32⟩
  | 9 => ⟨S4126x512, .f32⟩
  | 10 => ⟨S4126x512, .f32⟩
  | 11 => ⟨S_, .f32⟩
  | 12 => ⟨S31x512, .f32⟩
  | 13 => ⟨S31x512, .f32⟩
  | 14 => ⟨S4096x512, .f32⟩
  | 15 => ⟨S4096x512, .f32⟩
  | 16 => ⟨S4096x512, .f32⟩
  | 17 => ⟨S_, .f32⟩
  | 18 => ⟨S512, .f32⟩
  | 19 => ⟨S1x512, .f32⟩
  | 20 => ⟨S_, .f32⟩
  | 21 => ⟨S4126x512, .f32⟩
  | 22 => ⟨S4126x512, .f32⟩
  | 23 => ⟨S_, .f32⟩
  | 24 => ⟨S31x512, .f32⟩
  | 25 => ⟨S31x512, .f32⟩
  | 26 => ⟨S4096x512, .f32⟩
  | 27 => ⟨S4096x512, .f32⟩
  | 28 => ⟨S4096x512, .f32⟩
  | 29 => ⟨S_, .f32⟩
  | 30 => ⟨S512, .f32⟩
  | 31 => ⟨S1x512, .f32⟩
  | 32 => ⟨S_, .f32⟩
  | 33 => ⟨S4126x512, .f32⟩
  | 34 => ⟨S4126x512, .f32⟩
  | 35 => ⟨S_, .f32⟩
  | 36 => ⟨S31x512, .f32⟩
  | 37 => ⟨S31x512, .f32⟩
  | 38 => ⟨S4096x512, .f32⟩
  | 39 => ⟨S4096x512, .f32⟩
  | 40 => ⟨S4096x512, .f32⟩
  | 41 => ⟨S_, .f32⟩
  | 42 => ⟨S512, .f32⟩
  | 43 => ⟨S1x512, .f32⟩
  | 44 => ⟨S_, .f32⟩
  | 45 => ⟨S4126x512, .f32⟩
  | 46 => ⟨S4126x512, .f32⟩
  | 47 => ⟨S_, .f32⟩
  | 48 => ⟨S31x512, .f32⟩
  | 49 => ⟨S31x512, .f32⟩
  | 50 => ⟨S4096x512, .f32⟩
  | 51 => ⟨S4096x512, .f32⟩
  | 52 => ⟨S4096x512, .f32⟩
  | 53 => ⟨S_, .f32⟩
  | 54 => ⟨S512, .f32⟩
  | 55 => ⟨S1x512, .f32⟩
  | 56 => ⟨S_, .f32⟩
  | 57 => ⟨S4126x512, .f32⟩
  | 58 => ⟨S4126x512, .f32⟩
  | 59 => ⟨S_, .f32⟩
  | 60 => ⟨S31x512, .f32⟩
  | 61 => ⟨S31x512, .f32⟩
  | 62 => ⟨S4096x512, .f32⟩
  | 63 => ⟨S4096x512, .f32⟩
  | 64 => ⟨S4096x512, .f32⟩
  | 65 => ⟨S_, .f32⟩
  | 66 => ⟨S512, .f32⟩
  | 67 => ⟨S1x512, .f32⟩
  | 68 => ⟨S_, .f32⟩
  | 69 => ⟨S4126x512, .f32⟩
  | 70 => ⟨S4126x512, .f32⟩
  | 71 => ⟨S_, .f32⟩
  | 72 => ⟨S31x512, .f32⟩
  | 73 => ⟨S31x512, .f32⟩
  | 74 => ⟨S4096x512, .f32⟩
  | 75 => ⟨S4096x512, .f32⟩
  | 76 => ⟨S4096x512, .f32⟩
  | 77 => ⟨S_, .f32⟩
  | 78 => ⟨S512, .f32⟩
  | 79 => ⟨S1x512, .f32⟩
  | 80 => ⟨S_, .f32⟩
  | 81 => ⟨S4126x512, .f32⟩
  | 82 => ⟨S4126x512, .f32⟩
  | 83 => ⟨S_, .f32⟩
  | 84 => ⟨S31x512, .f32⟩
  | 85 => ⟨S31x512, .f32⟩
  | 86 => ⟨S4096x512, .f32⟩
  | 87 => ⟨S4096x512, .f32⟩
  | 88 => ⟨S4096x512, .f32⟩
  | 89 => ⟨S_, .f32⟩
  | 90 => ⟨S512, .f32⟩
  | 91 => ⟨S1x512, .f32⟩
  | 92 => ⟨S_, .f32⟩
  | 93 => ⟨S4126x512, .f32⟩
  | 94 => ⟨S4126x512, .f32⟩
  | 95 => ⟨S_, .f32⟩
  | 96 => ⟨S31x512, .f32⟩
  | 97 => ⟨S31x512, .f32⟩
  | 98 => ⟨S4096x512, .f32⟩
  | 99 => ⟨S4096x512, .f32⟩
  | 100 => ⟨S4096x512, .f32⟩
  | 101 => ⟨S_, .f32⟩
  | 102 => ⟨S512, .f32⟩
  | 103 => ⟨S1x512, .f32⟩
  | 104 => ⟨S_, .f32⟩
  | 105 => ⟨S4126x512, .f32⟩
  | 106 => ⟨S4126x512, .f32⟩
  | 107 => ⟨S_, .f32⟩
  | 108 => ⟨S31x512, .f32⟩
  | 109 => ⟨S31x512, .f32⟩
  | 110 => ⟨S4096x512, .f32⟩
  | 111 => ⟨S4096x512, .f32⟩
  | 112 => ⟨S4096x512, .f32⟩
  | 113 => ⟨S_, .f32⟩
  | 114 => ⟨S512, .f32⟩
  | 115 => ⟨S1x512, .f32⟩
  | 116 => ⟨S_, .f32⟩
  | 117 => ⟨S4126x512, .f32⟩
  | 118 => ⟨S4126x512, .f32⟩
  | 119 => ⟨S_, .f32⟩
  | 120 => ⟨S31x512, .f32⟩
  | 121 => ⟨S31x512, .f32⟩
  | 122 => ⟨S4096x512, .f32⟩
  | 123 => ⟨S4096x512, .f32⟩
  | 124 => ⟨S4096x512, .f32⟩
  | 125 => ⟨S_, .f32⟩
  | 126 => ⟨S512, .f32⟩
  | 127 => ⟨S1x512, .f32⟩
  | _ => ⟨S4096x512, .f32⟩

abbrev hbmTy0_4 (i : Nat) : BufTy := match i % 128 with
  | 0 => ⟨S_, .f32⟩
  | 1 => ⟨S4126x512, .f32⟩
  | 2 => ⟨S4126x512, .f32⟩
  | 3 => ⟨S_, .f32⟩
  | 4 => ⟨S31x512, .f32⟩
  | 5 => ⟨S31x512, .f32⟩
  | 6 => ⟨S4096x512, .f32⟩
  | 7 => ⟨S4096x512, .f32⟩
  | 8 => ⟨S4096x512, .f32⟩
  | 9 => ⟨S_, .f32⟩
  | 10 => ⟨S512, .f32⟩
  | 11 => ⟨S1x512, .f32⟩
  | 12 => ⟨S_, .f32⟩
  | 13 => ⟨S4126x512, .f32⟩
  | 14 => ⟨S4126x512, .f32⟩
  | 15 => ⟨S_, .f32⟩
  | 16 => ⟨S31x512, .f32⟩
  | 17 => ⟨S31x512, .f32⟩
  | 18 => ⟨S4096x512, .f32⟩
  | 19 => ⟨S4096x512, .f32⟩
  | 20 => ⟨S4096x512, .f32⟩
  | 21 => ⟨S_, .f32⟩
  | 22 => ⟨S512, .f32⟩
  | 23 => ⟨S1x512, .f32⟩
  | 24 => ⟨S_, .f32⟩
  | 25 => ⟨S4126x512, .f32⟩
  | 26 => ⟨S4126x512, .f32⟩
  | 27 => ⟨S_, .f32⟩
  | 28 => ⟨S31x512, .f32⟩
  | 29 => ⟨S31x512, .f32⟩
  | 30 => ⟨S4096x512, .f32⟩
  | 31 => ⟨S4096x512, .f32⟩
  | 32 => ⟨S4096x512, .f32⟩
  | 33 => ⟨S_, .f32⟩
  | 34 => ⟨S512, .f32⟩
  | 35 => ⟨S1x512, .f32⟩
  | 36 => ⟨S_, .f32⟩
  | 37 => ⟨S4126x512, .f32⟩
  | 38 => ⟨S4126x512, .f32⟩
  | 39 => ⟨S_, .f32⟩
  | 40 => ⟨S31x512, .f32⟩
  | 41 => ⟨S31x512, .f32⟩
  | 42 => ⟨S30x512, .f32⟩
  | 43 => ⟨S4096x512, .f32⟩
  | 44 => ⟨S4096x512, .f32⟩
  | 45 => ⟨S4096x512, .f32⟩
  | 46 => ⟨S4096x512, .f32⟩
  | 47 => ⟨S4096x1024, .f32⟩
  | 48 => ⟨S4096x5120, .bf16⟩
  | 49 => ⟨S4096x1024, .bf16⟩
  | 50 => ⟨S4096x2560, .bf16⟩
  | 51 => ⟨S4096x8704, .bf16⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_cst_5 : Ref sig .tc := ⟨.hbm, 187, rfl⟩
abbrev main_v177 : Ref sig .tc := ⟨.hbm, 188, rfl⟩
abbrev main_v178 : Ref sig .tc := ⟨.hbm, 189, rfl⟩
abbrev main_cst_6 : Ref sig .tc := ⟨.hbm, 190, rfl⟩
abbrev main_v179 : Ref sig .tc := ⟨.hbm, 191, rfl⟩
abbrev main_cst_7 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_cst_8 : Ref sig .tc := ⟨.hbm, 197, rfl⟩
abbrev main_v184 : Ref sig .tc := ⟨.hbm, 198, rfl⟩
abbrev main_v185 : Ref sig .tc := ⟨.hbm, 199, rfl⟩
abbrev main_cst_9 : Ref sig .tc := ⟨.hbm, 200, rfl⟩
abbrev main_v186 : Ref sig .tc := ⟨.hbm, 201, rfl⟩
abbrev main_v187 : Ref sig .tc := ⟨.hbm, 202, rfl⟩
abbrev main_cst_10 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_cst_11 : Ref sig .tc := ⟨.hbm, 209, rfl⟩
abbrev main_v193 : Ref sig .tc := ⟨.hbm, 210, rfl⟩
abbrev main_v194 : Ref sig .tc := ⟨.hbm, 211, rfl⟩
abbrev main_cst_12 : Ref sig .tc := ⟨.hbm, 212, rfl⟩
abbrev main_v195 : Ref sig .tc := ⟨.hbm, 213, rfl⟩
abbrev main_v196 : Ref sig .tc := ⟨.hbm, 214, rfl⟩
abbrev main_cst_13 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_cst_14 : Ref sig .tc := ⟨.hbm, 221, rfl⟩
abbrev main_v202 : Ref sig .tc := ⟨.hbm, 222, rfl⟩
abbrev main_v203 : Ref sig .tc := ⟨.hbm, 223, rfl⟩
abbrev main_cst_15 : Ref sig .tc := ⟨.hbm, 224, rfl⟩
abbrev main_v204 : Ref sig .tc := ⟨.hbm, 225, rfl⟩
abbrev main_v205 : Ref sig .tc := ⟨.hbm, 226, rfl⟩
abbrev main_cst_16 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_cst_17 : Ref sig .tc := ⟨.hbm, 233, rfl⟩
abbrev main_v211 : Ref sig .tc := ⟨.hbm, 234, rfl⟩
abbrev main_v212 : Ref sig .tc := ⟨.hbm, 235, rfl⟩
abbrev main_cst_18 : Ref sig .tc := ⟨.hbm, 236, rfl⟩
abbrev main_v213 : Ref sig .tc := ⟨.hbm, 237, rfl⟩
abbrev main_v214 : Ref sig .tc := ⟨.hbm, 238, rfl⟩
abbrev main_cst_19 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_cst_20 : Ref sig .tc := ⟨.hbm, 245, rfl⟩
abbrev main_v220 : Ref sig .tc := ⟨.hbm, 246, rfl⟩
abbrev main_v221 : Ref sig .tc := ⟨.hbm, 247, rfl⟩
abbrev main_cst_21 : Ref sig .tc := ⟨.hbm, 248, rfl⟩
abbrev main_v222 : Ref sig .tc := ⟨.hbm, 249, rfl⟩
abbrev main_v223 : Ref sig .tc := ⟨.hbm, 250, rfl⟩
abbrev main_cst_22 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_cst_23 : Ref sig .tc := ⟨.hbm, 257, rfl⟩
abbrev main_v229 : Ref sig .tc := ⟨.hbm, 258, rfl⟩
abbrev main_v230 : Ref sig .tc := ⟨.hbm, 259, rfl⟩
abbrev main_cst_24 : Ref sig .tc := ⟨.hbm, 260, rfl⟩
abbrev main_v231 : Ref sig .tc := ⟨.hbm, 261, rfl⟩
abbrev main_v232 : Ref sig .tc := ⟨.hbm, 262, rfl⟩
abbrev main_cst_25 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_cst_26 : Ref sig .tc := ⟨.hbm, 269, rfl⟩
abbrev main_v238 : Ref sig .tc := ⟨.hbm, 270, rfl⟩
abbrev main_v239 : Ref sig .tc := ⟨.hbm, 271, rfl⟩
abbrev main_cst_27 : Ref sig .tc := ⟨.hbm, 272, rfl⟩
abbrev main_v240 : Ref sig .tc := ⟨.hbm, 273, rfl⟩
abbrev main_v241 : Ref sig .tc := ⟨.hbm, 274, rfl⟩
abbrev main_cst_28 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_cst_29 : Ref sig .tc := ⟨.hbm, 281, rfl⟩
abbrev main_v247 : Ref sig .tc := ⟨.hbm, 282, rfl⟩
abbrev main_v248 : Ref sig .tc := ⟨.hbm, 283, rfl⟩
abbrev main_cst_30 : Ref sig .tc := ⟨.hbm, 284, rfl⟩
abbrev main_v249 : Ref sig .tc := ⟨.hbm, 285, rfl⟩
abbrev main_v250 : Ref sig .tc := ⟨.hbm, 286, rfl⟩
abbrev main_cst_31 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_cst_32 : Ref sig .tc := ⟨.hbm, 293, rfl⟩
abbrev main_v256 : Ref sig .tc := ⟨.hbm, 294, rfl⟩
abbrev main_v257 : Ref sig .tc := ⟨.hbm, 295, rfl⟩
abbrev main_cst_33 : Ref sig .tc := ⟨.hbm, 296, rfl⟩
abbrev main_v258 : Ref sig .tc := ⟨.hbm, 297, rfl⟩
abbrev main_v259 : Ref sig .tc := ⟨.hbm, 298, rfl⟩
abbrev main_cst_34 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_cst_35 : Ref sig .tc := ⟨.hbm, 305, rfl⟩
abbrev main_v265 : Ref sig .tc := ⟨.hbm, 306, rfl⟩
abbrev main_v266 : Ref sig .tc := ⟨.hbm, 307, rfl⟩
abbrev main_cst_36 : Ref sig .tc := ⟨.hbm, 308, rfl⟩
abbrev main_v267 : Ref sig .tc := ⟨.hbm, 309, rfl⟩
abbrev main_v268 : Ref sig .tc := ⟨.hbm, 310, rfl⟩
abbrev main_cst_37 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_cst_38 : Ref sig .tc := ⟨.hbm, 317, rfl⟩
abbrev main_v274 : Ref sig .tc := ⟨.hbm, 318, rfl⟩
abbrev main_v275 : Ref sig .tc := ⟨.hbm, 319, rfl⟩
abbrev main_cst_39 : Ref sig .tc := ⟨.hbm, 320, rfl⟩
abbrev main_v276 : Ref sig .tc := ⟨.hbm, 321, rfl⟩
abbrev main_v277 : Ref sig .tc := ⟨.hbm, 322, rfl⟩
abbrev main_cst_40 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_cst_41 : Ref sig .tc := ⟨.hbm, 329, rfl⟩
abbrev main_v283 : Ref sig .tc := ⟨.hbm, 330, rfl⟩
abbrev main_v284 : Ref sig .tc := ⟨.hbm, 331, rfl⟩
abbrev main_cst_42 : Ref sig .tc := ⟨.hbm, 332, rfl⟩
abbrev main_v285 : Ref sig .tc := ⟨.hbm, 333, rfl⟩
abbrev main_v286 : Ref sig .tc := ⟨.hbm, 334, rfl⟩
abbrev main_cst_43 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_cst_44 : Ref sig .tc := ⟨.hbm, 341, rfl⟩
abbrev main_v292 : Ref sig .tc := ⟨.hbm, 342, rfl⟩
abbrev main_v293 : Ref sig .tc := ⟨.hbm, 343, rfl⟩
abbrev main_cst_45 : Ref sig .tc := ⟨.hbm, 344, rfl⟩
abbrev main_v294 : Ref sig .tc := ⟨.hbm, 345, rfl⟩
abbrev main_v295 : Ref sig .tc := ⟨.hbm, 346, rfl⟩
abbrev main_cst_46 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_cst_47 : Ref sig .tc := ⟨.hbm, 353, rfl⟩
abbrev main_v301 : Ref sig .tc := ⟨.hbm, 354, rfl⟩
abbrev main_v302 : Ref sig .tc := ⟨.hbm, 355, rfl⟩
abbrev main_cst_48 : Ref sig .tc := ⟨.hbm, 356, rfl⟩
abbrev main_v303 : Ref sig .tc := ⟨.hbm, 357, rfl⟩
abbrev main_v304 : Ref sig .tc := ⟨.hbm, 358, rfl⟩
abbrev main_cst_49 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_cst_50 : Ref sig .tc := ⟨.hbm, 365, rfl⟩
abbrev main_v310 : Ref sig .tc := ⟨.hbm, 366, rfl⟩
abbrev main_v311 : Ref sig .tc := ⟨.hbm, 367, rfl⟩
abbrev main_cst_51 : Ref sig .tc := ⟨.hbm, 368, rfl⟩
abbrev main_v312 : Ref sig .tc := ⟨.hbm, 369, rfl⟩
abbrev main_v313 : Ref sig .tc := ⟨.hbm, 370, rfl⟩
abbrev main_cst_52 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_cst_53 : Ref sig .tc := ⟨.hbm, 377, rfl⟩
abbrev main_v319 : Ref sig .tc := ⟨.hbm, 378, rfl⟩
abbrev main_v320 : Ref sig .tc := ⟨.hbm, 379, rfl⟩
abbrev main_cst_54 : Ref sig .tc := ⟨.hbm, 380, rfl⟩
abbrev main_v321 : Ref sig .tc := ⟨.hbm, 381, rfl⟩
abbrev main_v322 : Ref sig .tc := ⟨.hbm, 382, rfl⟩
abbrev main_cst_55 : Ref sig .tc := ⟨.hbm, 383, rfl⟩
abbrev main_v323 : Ref sig .tc := ⟨.hbm, 384, rfl⟩
abbrev main_v324 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_cst_56 : Ref sig .tc := ⟨.hbm, 389, rfl⟩
abbrev main_v328 : Ref sig .tc := ⟨.hbm, 390, rfl⟩
abbrev main_v329 : Ref sig .tc := ⟨.hbm, 391, rfl⟩
abbrev main_cst_57 : Ref sig .tc := ⟨.hbm, 392, rfl⟩
abbrev main_v330 : Ref sig .tc := ⟨.hbm, 393, rfl⟩
abbrev main_v331 : Ref sig .tc := ⟨.hbm, 394, rfl⟩
abbrev main_cst_58 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_cst_59 : Ref sig .tc := ⟨.hbm, 401, rfl⟩
abbrev main_v337 : Ref sig .tc := ⟨.hbm, 402, rfl⟩
abbrev main_v338 : Ref sig .tc := ⟨.hbm, 403, rfl⟩
abbrev main_cst_60 : Ref sig .tc := ⟨.hbm, 404, rfl⟩
abbrev main_v339 : Ref sig .tc := ⟨.hbm, 405, rfl⟩
abbrev main_v340 : Ref sig .tc := ⟨.hbm, 406, rfl⟩
abbrev main_cst_61 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_cst_62 : Ref sig .tc := ⟨.hbm, 413, rfl⟩
abbrev main_v346 : Ref sig .tc := ⟨.hbm, 414, rfl⟩
abbrev main_v347 : Ref sig .tc := ⟨.hbm, 415, rfl⟩
abbrev main_cst_63 : Ref sig .tc := ⟨.hbm, 416, rfl⟩
abbrev main_v348 : Ref sig .tc := ⟨.hbm, 417, rfl⟩
abbrev main_v349 : Ref sig .tc := ⟨.hbm, 418, rfl⟩
abbrev main_cst_64 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_cst_65 : Ref sig .tc := ⟨.hbm, 425, rfl⟩
abbrev main_v355 : Ref sig .tc := ⟨.hbm, 426, rfl⟩
abbrev main_v356 : Ref sig .tc := ⟨.hbm, 427, rfl⟩
abbrev main_cst_66 : Ref sig .tc := ⟨.hbm, 428, rfl⟩
abbrev main_v357 : Ref sig .tc := ⟨.hbm, 429, rfl⟩
abbrev main_v358 : Ref sig .tc := ⟨.hbm, 430, rfl⟩
abbrev main_cst_67 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_cst_68 : Ref sig .tc := ⟨.hbm, 437, rfl⟩
abbrev main_v364 : Ref sig .tc := ⟨.hbm, 438, rfl⟩
abbrev main_v365 : Ref sig .tc := ⟨.hbm, 439, rfl⟩
abbrev main_cst_69 : Ref sig .tc := ⟨.hbm, 440, rfl⟩
abbrev main_v366 : Ref sig .tc := ⟨.hbm, 441, rfl⟩
abbrev main_v367 : Ref sig .tc := ⟨.hbm, 442, rfl⟩
abbrev main_cst_70 : Ref sig .tc := ⟨.hbm, 443, rfl⟩
abbrev main_v368 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_cst_71 : Ref sig .tc := ⟨.hbm, 449, rfl⟩
abbrev main_v373 : Ref sig .tc := ⟨.hbm, 450, rfl⟩
abbrev main_v374 : Ref sig .tc := ⟨.hbm, 451, rfl⟩
abbrev main_cst_72 : Ref sig .tc := ⟨.hbm, 452, rfl⟩
abbrev main_v375 : Ref sig .tc := ⟨.hbm, 453, rfl⟩
abbrev main_v376 : Ref sig .tc := ⟨.hbm, 454, rfl⟩
abbrev main_cst_73 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_cst_74 : Ref sig .tc := ⟨.hbm, 461, rfl⟩
abbrev main_v382 : Ref sig .tc := ⟨.hbm, 462, rfl⟩
abbrev main_v383 : Ref sig .tc := ⟨.hbm, 463, rfl⟩
abbrev main_cst_75 : Ref sig .tc := ⟨.hbm, 464, rfl⟩
abbrev main_v384 : Ref sig .tc := ⟨.hbm, 465, rfl⟩
abbrev main_v385 : Ref sig .tc := ⟨.hbm, 466, rfl⟩
abbrev main_cst_76 : Ref sig .tc := ⟨.hbm, 467, rfl⟩
abbrev main_v386 : Ref sig .tc := ⟨.hbm, 468, rfl⟩
abbrev main_v387 : Ref sig .tc := ⟨.hbm, 469, rfl⟩
abbrev main_v388 : Ref sig .tc := ⟨.hbm, 470, rfl⟩
abbrev main_v389 : Ref sig .tc := ⟨.hbm, 471, rfl⟩
abbrev main_v390 : Ref sig .tc := ⟨.hbm, 472, rfl⟩
abbrev main_cst_77 : Ref sig .tc := ⟨.hbm, 473, rfl⟩
abbrev main_v391 : Ref sig .tc := ⟨.hbm, 474, rfl⟩
abbrev main_v392 : Ref sig .tc := ⟨.hbm, 475, rfl⟩
abbrev main_cst_78 : Ref sig .tc := ⟨.hbm, 476, rfl⟩
abbrev main_v393 : Ref sig .tc := ⟨.hbm, 477, rfl⟩
abbrev main_v394 : Ref sig .tc := ⟨.hbm, 478, rfl⟩
abbrev main_cst_79 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_cst_80 : Ref sig .tc := ⟨.hbm, 485, rfl⟩
abbrev main_v400 : Ref sig .tc := ⟨.hbm, 486, rfl⟩
abbrev main_v401 : Ref sig .tc := ⟨.hbm, 487, rfl⟩
abbrev main_cst_81 : Ref sig .tc := ⟨.hbm, 488, rfl⟩
abbrev main_v402 : Ref sig .tc := ⟨.hbm, 489, rfl⟩
abbrev main_v403 : Ref sig .tc := ⟨.hbm, 490, rfl⟩
abbrev main_cst_82 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_v408 : Ref sig .tc := ⟨.hbm, 496, rfl⟩
abbrev main_cst_83 : Ref sig .tc := ⟨.hbm, 497, rfl⟩
abbrev main_v409 : Ref sig .tc := ⟨.hbm, 498, rfl⟩
abbrev main_v410 : Ref sig .tc := ⟨.hbm, 499, rfl⟩
abbrev main_cst_84 : Ref sig .tc := ⟨.hbm, 500, rfl⟩
abbrev main_v411 : Ref sig .tc := ⟨.hbm, 501, rfl⟩
abbrev main_v412 : Ref sig .tc := ⟨.hbm, 502, rfl⟩
abbrev main_cst_85 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_cst_86 : Ref sig .tc := ⟨.hbm, 509, rfl⟩
abbrev main_v418 : Ref sig .tc := ⟨.hbm, 510, rfl⟩
abbrev main_v419 : Ref sig .tc := ⟨.hbm, 511, rfl⟩
abbrev main_cst_87 : Ref sig .tc := ⟨.hbm, 512, rfl⟩
abbrev main_v420 : Ref sig .tc := ⟨.hbm, 513, rfl⟩
abbrev main_v421 : Ref sig .tc := ⟨.hbm, 514, rfl⟩
abbrev main_cst_88 : Ref sig .tc := ⟨.hbm, 515, rfl⟩
abbrev main_v422 : Ref sig .tc := ⟨.hbm, 516, rfl⟩
abbrev main_v423 : Ref sig .tc := ⟨.hbm, 517, rfl⟩
abbrev main_v424 : Ref sig .tc := ⟨.hbm, 518, rfl⟩
abbrev main_v425 : Ref sig .tc := ⟨.hbm, 519, rfl⟩
abbrev main_v426 : Ref sig .tc := ⟨.hbm, 520, rfl⟩
abbrev main_cst_89 : Ref sig .tc := ⟨.hbm, 521, rfl⟩
abbrev main_v427 : Ref sig .tc := ⟨.hbm, 522, rfl⟩
abbrev main_v428 : Ref sig .tc := ⟨.hbm, 523, rfl⟩
abbrev main_cst_90 : Ref sig .tc := ⟨.hbm, 524, rfl⟩
abbrev main_v429 : Ref sig .tc := ⟨.hbm, 525, rfl⟩
abbrev main_v430 : Ref sig .tc := ⟨.hbm, 526, rfl⟩
abbrev main_cst_91 : Ref sig .tc := ⟨.hbm, 527, rfl⟩
abbrev main_v431 : Ref sig .tc := ⟨.hbm, 528, rfl⟩
abbrev main_v432 : Ref sig .tc := ⟨.hbm, 529, rfl⟩
abbrev main_v433 : Ref sig .tc := ⟨.hbm, 530, rfl⟩
abbrev main_v434 : Ref sig .tc := ⟨.hbm, 531, rfl⟩
abbrev main_v435 : Ref sig .tc := ⟨.hbm, 532, rfl⟩
abbrev main_cst_92 : Ref sig .tc := ⟨.hbm, 533, rfl⟩
abbrev main_v436 : Ref sig .tc := ⟨.hbm, 534, rfl⟩
abbrev main_v437 : Ref sig .tc := ⟨.hbm, 535, rfl⟩
abbrev main_cst_93 : Ref sig .tc := ⟨.hbm, 536, rfl⟩
abbrev main_v438 : Ref sig .tc := ⟨.hbm, 537, rfl⟩
abbrev main_v439 : Ref sig .tc := ⟨.hbm, 538, rfl⟩
abbrev main_cst_94 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_v444 : Ref sig .tc := ⟨.hbm, 544, rfl⟩
abbrev main_cst_95 : Ref sig .tc := ⟨.hbm, 545, rfl⟩
abbrev main_v445 : Ref sig .tc := ⟨.hbm, 546, rfl⟩
abbrev main_v446 : Ref sig .tc := ⟨.hbm, 547, rfl⟩
abbrev main_cst_96 : Ref sig .tc := ⟨.hbm, 548, rfl⟩
abbrev main_v447 : Ref sig .tc := ⟨.hbm, 549, rfl⟩
abbrev main_v448 : Ref sig .tc := ⟨.hbm, 550, rfl⟩
abbrev main_cst_97 : Ref sig .tc := ⟨.hbm, 551, rfl⟩
abbrev main_v449 : Ref sig .tc := ⟨.hbm, 552, rfl⟩
abbrev main_v450 : Ref sig .tc := ⟨.hbm, 553, rfl⟩
abbrev main_v451 : Ref sig .tc := ⟨.hbm, 554, rfl⟩
abbrev main_v452 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_v457 : Ref sig .tc := ⟨.hbm, 560, rfl⟩
abbrev main_v458 : Ref sig .tc := ⟨.hbm, 561, rfl⟩
abbrev main_v459 : Ref sig .tc := ⟨.hbm, 562, rfl⟩
abbrev main_v460 : Ref sig .tc := ⟨.hbm, 563, rfl⟩

abbrev nD : Nat := 1
abbrev τ : Topo := Topo.v7x

variable {F : FTy → Type} [FloatOps F]
-- ==== Kernel2.lean ====
abbrev S4096x8704 : Shape := ⟨2, ![4096, 8704]⟩
abbrev S8704x1024 : Shape := ⟨2, ![8704, 1024]⟩
abbrev S4096x1024 : Shape := ⟨2, ![4096, 1024]⟩
abbrev S1x1024 : Shape := ⟨2, ![1, 1024]⟩
abbrev S_ : Shape := ⟨0, ![]⟩
abbrev S8x128 : Shape := ⟨2, ![8, 128]⟩
abbrev S8x1024 : Shape := ⟨2, ![8, 1024]⟩
abbrev S1024x2176 : Shape := ⟨2, ![1024, 2176]⟩
abbrev S2176x1024 : Shape := ⟨2, ![2176, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8x128, .f32⟩
  | .hbm, ⟨8, _⟩ => ⟨S4096x1024, .f32⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S8x128, .f32⟩
  | .local _ .vmem, ⟨11, _⟩ => ⟨S1024x1024, .f32⟩
  | .local _ .vmem, ⟨12, _⟩ => ⟨S1024x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S1024x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference2Ideal.lean ====
abbrev S4096x8704 : Shape := ⟨2, ![4096, 8704]⟩
abbrev S8704x1024 : Shape := ⟨2, ![8704, 1024]⟩
abbrev S4096x1024 : Shape := ⟨2, ![4096, 1024]⟩
abbrev S1x1024 : Shape := ⟨2, ![1, 1024]⟩
abbrev S1024x8704 : Shape := ⟨2, ![1024, 8704]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S8704x1024, .f32⟩
  | .hbm, ⟨7, _⟩ => ⟨S1024x8704, .f32⟩
  | .hbm, ⟨8, _⟩ => ⟨S_, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x8704, .f32⟩
  | .hbm, ⟨37, _⟩ => ⟨S4096x8704, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S8x1024, .f32⟩
  | .hbm, ⟨73, _⟩ => ⟨S8x1024, .f32⟩
  | .hbm, ⟨74, _⟩ => ⟨S8x1024, .f32⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel3.lean ====
abbrev S1024x4096 : Shape := ⟨2, ![1024, 4096]⟩
abbrev S4096x8704 : Shape := ⟨2, ![4096, 8704]⟩
abbrev S8704x1024 : Shape := ⟨2, ![8704, 1024]⟩
abbrev S1024x2048 : Shape := ⟨2, ![1024, 2048]⟩
abbrev S2048x2176 : Shape := ⟨2, ![2048, 2176]⟩
abbrev S2176x1024 : Shape := ⟨2, ![2176, 1024]⟩
abbrev S1024x2176 : Shape := ⟨2, ![1024, 2176]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S8704x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2176, .bf16⟩
  | .local _ .vmem, ⟨3, _⟩ => ⟨S2048x2176, .bf16⟩
  | .local _ .vmem, ⟨4, _⟩ => ⟨S2176x1024, .bf16⟩
  | .local _ .vmem, ⟨5, _⟩ => ⟨S2176x1024, .bf16⟩
  | .local _ .vmem, ⟨6, _⟩ => ⟨S1024x2176, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S1024x4096 : Shape := ⟨2, ![1024, 4096]⟩
abbrev S4096x8704 : Shape := ⟨2, ![4096, 8704]⟩
abbrev S4096x1024 : Shape := ⟨2, ![4096, 1024]⟩
abbrev S_ : Shape := ⟨0, ![]⟩
abbrev S1024x8704 : Shape := ⟨2, ![1024, 8704]⟩
abbrev S8704x1024 : Shape := ⟨2, ![8704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x8704, .f32⟩
  | .hbm, ⟨6, _⟩ => ⟨S4096x8704, .f32⟩
  | .hbm, ⟨7, _⟩ => ⟨S4096x8704, .f32⟩
  | .hbm, ⟨8, _⟩ => ⟨S8704x1024, .f32⟩
  | .hbm, ⟨9, _⟩ => ⟨S1024x8704, .f32⟩
  | .hbm, ⟨10, _⟩ => ⟨S8704x1024, .f32⟩
  | .hbm, ⟨11, _⟩ => ⟨S8704x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S1024x4096 : Shape := ⟨2, ![1024, 4096]⟩
abbrev S4096x1024 : Shape := ⟨2, ![4096, 1024]⟩
abbrev S_ : Shape := ⟨0, ![]⟩
abbrev S8x128 : Shape := ⟨2, ![8, 128]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S_, .f32⟩
  | .hbm, ⟨3, _⟩ => ⟨S8x128, .f32⟩
  | .hbm, ⟨4, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .bf16⟩
  | .local _ .vmem, ⟨6, _⟩ => ⟨S1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S512x4096 : Shape := ⟨2, ![512, 4096]⟩
abbrev S4096x1024 : Shape := ⟨2, ![4096, 1024]⟩
abbrev S_ : Shape := ⟨0, ![]⟩
abbrev S8x128 : Shape := ⟨2, ![8, 128]⟩
abbrev S8x512x128 : Shape := ⟨3, ![8, 512, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x1024, .bf16⟩
  | .hbm, ⟨2, _⟩ => ⟨S_, .f32⟩
  | .hbm, ⟨3, _⟩ => ⟨S8x128, .f32⟩
  | .hbm, ⟨4, _⟩ => ⟨S8x512x128, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S8x512x128, .bf16⟩
  | .local _ .vmem, ⟨6, _⟩ => ⟨S512x1024, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S512x4096 : Shape := ⟨2, ![512, 4096]⟩
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 13
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x1024, .bf16⟩
  | .hbm, ⟨2, _⟩ => ⟨S512x4096, .f32⟩
  | .hbm, ⟨3, _⟩ => ⟨S4096x512, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S512x8x128, .bf16⟩
  | .hbm, ⟨12, _⟩ => ⟨S8x512x128, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1024x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .f32⟩
  | .hbm, ⟨28, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S4096x1024 : Shape := ⟨2, ![4096, 1024]⟩
abbrev S8704x1024 : Shape := ⟨2, ![8704, 1024]⟩
abbrev S4096x8704 : Shape := ⟨2, ![4096, 8704]⟩
abbrev S1024x1024 : Shape := ⟨2, ![1024, 1024]⟩
abbrev S2176x1024 : Shape := ⟨2, ![2176, 1024]⟩
abbrev S1024x2176 : Shape := ⟨2, ![1024, 2176]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S4096x8704, .f32⟩
  | .local _ .vmem, ⟨0, _⟩ => ⟨S1024x1024, .bf16⟩
  | .local _ .vmem, ⟨1, _⟩ => ⟨S1024x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x2176, .f32⟩
  | .local _ .vmem, ⟨5, _⟩ => ⟨S1024x2176, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S8704x1024 : Shape := ⟨2, ![8704, 1024]⟩
abbrev S1024x8704 : Shape := ⟨2, ![1024, 8704]⟩
abbrev S4096x8704 : Shape := ⟨2, ![4096, 8704]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8704x1024, .bf16⟩
  | .hbm, ⟨2, _⟩ => ⟨S8704x1024, .f32⟩
  | .hbm, ⟨3, _⟩ => ⟨S1024x8704, .f32⟩
  | .hbm, ⟨4, _⟩ => ⟨S4096x1024, .f32⟩
  | .hbm, ⟨5, _⟩ => ⟨S4096x8704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference8Ideal.lean ====
abbrev S8x1024 : Shape := ⟨2, ![8, 1024]⟩
abbrev S8x384 : Shape := ⟨2, ![8, 384]⟩
abbrev S_ : Shape := ⟨0, ![]⟩
abbrev S1024x384 : Shape := ⟨2, ![1024, 384]⟩
abbrev S384x1024 : Shape := ⟨2, ![384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S_, .f32⟩
  | .hbm, ⟨3, _⟩ => ⟨S1024x384, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x384, .f32⟩
  | .hbm, ⟨14, _⟩ => ⟨S384x1024, .f32⟩
  | .hbm, ⟨15, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S8x1024 : Shape := ⟨2, ![8, 1024]⟩
abbrev S1024x384 : Shape := ⟨2, ![1024, 384]⟩
abbrev S8x384 : Shape := ⟨2, ![8, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference9Ideal.lean ====
abbrev S8x1024 : Shape := ⟨2, ![8, 1024]⟩
abbrev S1024x384 : Shape := ⟨2, ![1024, 384]⟩
abbrev S_ : Shape := ⟨0, ![]⟩
abbrev S8x384 : Shape := ⟨2, ![8, 384]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Kernel10.lean ====
abbrev S1024x384 : Shape := ⟨2, ![1024, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4x1088x1024 : Shape := ⟨3, ![4, 1088, 1024]⟩
abbrev S3x1088x1024 : Shape := ⟨3, ![3, 1088, 1024]⟩
abbrev S1088x1024 : Shape := ⟨2, ![1088, 1024]⟩
abbrev S1x272x1024 : Shape := ⟨3, ![1, 272, 1024]⟩
abbrev S3x272x1024 : Shape := ⟨3, ![3, 272, 1024]⟩
abbrev S272x1024 : Shape := ⟨2, ![272, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x1088x1024, .bf16⟩
  | .hbm, ⟨1, _⟩ => ⟨S3x1088x1024, .bf16⟩
  | .hbm, ⟨2, _⟩ => ⟨S1088x1024, .f32⟩
  | .hbm, ⟨3, _⟩ => ⟨S1088x1024, .f32⟩
  | .hbm, ⟨4, _⟩ => ⟨S1088x1024, .f32⟩
  | .hbm, ⟨5, _⟩ => ⟨S1088x1024, .f32⟩
  | .hbm, ⟨6, _⟩ => ⟨S1088x1024, .f32⟩
  | .hbm, ⟨7, _⟩ => ⟨S1088x1024, .f32⟩
  | .hbm, ⟨8, _⟩ => ⟨S1088x1024, .f32⟩
  | .local _ .vmem, ⟨0, _⟩ => ⟨S1x272x1024, .bf16⟩
  | .local _ .vmem, ⟨1, _⟩ => ⟨S1x272x1024, .bf16⟩
  | .local _ .vmem, ⟨2, _⟩ => ⟨S3x272x1024, .bf16⟩
  | .local _ .vmem, ⟨3, _⟩ => ⟨S3x272x1024, .bf16⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .f32⟩
  | _, _ => ⟨S4x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4x1088x1024 : Shape := ⟨3, ![4, 1088, 1024]⟩
abbrev S3x1088x1024 : Shape := ⟨3, ![3, 1088, 1024]⟩
abbrev S1088x1024 : Shape := ⟨2, ![1088, 1024]⟩
abbrev S1x1088x1024 : Shape := ⟨3, ![1, 1088, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1088x1024, .bf16⟩
  | .hbm, ⟨1, _⟩ => ⟨S3x1088x1024, .bf16⟩
  | .hbm, ⟨2, _⟩ => ⟨S1088x1024, .f32⟩
  | .hbm, ⟨3, _⟩ => ⟨S1088x1024, .f32⟩
  | .hbm, ⟨4, _⟩ => ⟨S1088x1024, .f32⟩
  | .hbm, ⟨5, _⟩ => ⟨S1x1088x1024, .bf16⟩
  | .hbm, ⟨6, _⟩ => ⟨S1088x1024, .bf16⟩
  | .hbm, ⟨7, _⟩ => ⟨S1088x1024, .f32⟩
  | .hbm, ⟨8, _⟩ => ⟨S3x1088x1024, .f32⟩
  | .hbm, ⟨9, _⟩ => ⟨S_, .f32⟩
  | .hbm, ⟨10, _⟩ => ⟨S1088x1024, .f32⟩
  | .hbm, ⟨11, _⟩ => ⟨S1088x1024, .f32⟩
  | .hbm, ⟨12, _⟩ => ⟨S_, .f32⟩
  | .hbm, ⟨13, _⟩ => ⟨S1088x1024, .f32⟩
  | .hbm, ⟨14, _⟩ => ⟨S1088x1024, .f32⟩
  | .hbm, ⟨15, _⟩ => ⟨S_, .f32⟩
  | .hbm, ⟨16, _⟩ => ⟨S1088x1024, .f32⟩
  | .hbm, ⟨17, _⟩ => ⟨S1088x1024, .f32⟩
  | .hbm, ⟨18, _⟩ => ⟨S1088x1024, .f32⟩
  | .hbm, ⟨19, _⟩ => ⟨S_, .f32⟩
  | .hbm, ⟨20, _⟩ => ⟨S1088x1024, .f32⟩
  | .hbm, ⟨21, _⟩ => ⟨S1088x1024, .f32⟩
  | .hbm, ⟨22, _⟩ => ⟨S1088x1024, .f32⟩
  | .hbm, ⟨23, _⟩ => ⟨S_, .f32⟩
  | .hbm, ⟨24, _⟩ => ⟨S1088x1024, .f32⟩
  | .hbm, ⟨25, _⟩ => ⟨S1088x1024, .f32⟩
  | .hbm, ⟨26, _⟩ => ⟨S1088x1024, .f32⟩
  | .hbm, ⟨27, _⟩ => ⟨S_, .f32⟩
  | .hbm, ⟨28, _⟩ => ⟨S1088x1024, .f32⟩
  | .hbm, ⟨29, _⟩ => ⟨S1088x1024, .f32⟩
  | .hbm, ⟨30, _⟩ => ⟨S_, .f32⟩
  | .hbm, ⟨31, _⟩ => ⟨S1088x1024, .f32⟩
  | .hbm, ⟨32, _⟩ => ⟨S1088x1024, .f32⟩
  | .hbm, ⟨33, _⟩ => ⟨S1088x1024, .f32⟩
  | .hbm, ⟨34, _⟩ => ⟨S_, .f32⟩
  | .hbm, ⟨35, _⟩ => ⟨S1088x1024, .f32⟩
  | .hbm, ⟨36, _⟩ => ⟨S1088x1024, .f32⟩
  | .hbm, ⟨37, _⟩ => ⟨S1088x1024, .f32⟩
  | .hbm, ⟨38, _⟩ => ⟨S_, .f32⟩
  | .hbm, ⟨39, _⟩ => ⟨S1088x1024, .f32⟩
  | .hbm, ⟨40, _⟩ => ⟨S1088x1024, .f32⟩
  | .hbm, ⟨41, _⟩ => ⟨S1088x1024, .f32⟩
  | .hbm, ⟨42, _⟩ => ⟨S_, .f32⟩
  | .hbm, ⟨43, _⟩ => ⟨S1088x1024, .f32⟩
  | .hbm, ⟨44, _⟩ => ⟨S1088x1024, .f32⟩
  | _, _ => ⟨S4x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel12.lean ====
abbrev S4x512x128 : Shape := ⟨3, ![4, 512, 128]⟩
abbrev S3x512x128 : Shape := ⟨3, ![3, 512, 128]⟩
abbrev S512x128 : Shape := ⟨2, ![512, 128]⟩
abbrev S1x256x128 : Shape := ⟨3, ![1, 256, 128]⟩
abbrev S3x256x128 : Shape := ⟨3, ![3, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S4x512x128, .bf16⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S1x256x128, .bf16⟩
  | .local _ .vmem, ⟨1, _⟩ => ⟨S1x256x128, .bf16⟩
  | .local _ .vmem, ⟨2, _⟩ => ⟨S3x256x128, .bf16⟩
  | .local _ .vmem, ⟨3, _⟩ => ⟨S3x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4x512x128 : Shape := ⟨3, ![4, 512, 128]⟩
abbrev S3x512x128 : Shape := ⟨3, ![3, 512, 128]⟩
abbrev S512x128 : Shape := ⟨2, ![512, 128]⟩
abbrev S1x512x128 : Shape := ⟨3, ![1, 512, 128]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S1x512x128, .bf16⟩
  | .hbm, ⟨6, _⟩ => ⟨S512x128, .bf16⟩
  | .hbm, ⟨7, _⟩ => ⟨S512x128, .f32⟩
  | .hbm, ⟨8, _⟩ => ⟨S3x512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel13.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference13Ideal.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel14.lean ====
abbrev S8x31x64 : Shape := ⟨3, ![8, 31, 64]⟩
abbrev S31x64 : Shape := ⟨2, ![31, 64]⟩
abbrev S1x31x64 : Shape := ⟨3, ![1, 31, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .local _ .vmem, ⟨0, _⟩ => ⟨S8x31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | .local _ .vmem, ⟨7, _⟩ => ⟨S31x64, .f32⟩
  | _, _ => ⟨S8x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x31x64 : Shape := ⟨3, ![8, 31, 64]⟩
abbrev S31x64 : Shape := ⟨2, ![31, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S_, .f32⟩
  | .hbm, ⟨5, _⟩ => ⟨S31x64, .f32⟩
  | .hbm, ⟨6, _⟩ => ⟨S_, .f32⟩
  | .hbm, ⟨7, _⟩ => ⟨S31x64, .f32⟩
  | .hbm, ⟨8, _⟩ => ⟨S31x64, .f32⟩
  | .hbm, ⟨9, _⟩ => ⟨S_, .f32⟩
  | .hbm, ⟨10, _⟩ => ⟨S31x64, .f32⟩
  | .hbm, ⟨11, _⟩ => ⟨S31x64, .f32⟩
  | .hbm, ⟨12, _⟩ => ⟨S31x64, .f32⟩
  | .hbm, ⟨13, _⟩ => ⟨S_, .f32⟩
  | .hbm, ⟨14, _⟩ => ⟨S31x64, .f32⟩
  | .hbm, ⟨15, _⟩ => ⟨S31x64, .f32⟩
  | .hbm, ⟨16, _⟩ => ⟨S31x64, .f32⟩
  | .hbm, ⟨17, _⟩ => ⟨S_, .f32⟩
  | .hbm, ⟨18, _⟩ => ⟨S31x64, .f32⟩
  | .hbm, ⟨19, _⟩ => ⟨S31x64, .f32⟩
  | .hbm, ⟨20, _⟩ => ⟨S31x64, .f32⟩
  | .hbm, ⟨21, _⟩ => ⟨S_, .f32⟩
  | .hbm, ⟨22, _⟩ => ⟨S31x64, .f32⟩
  | .hbm, ⟨23, _⟩ => ⟨S31x64, .f32⟩
  | .hbm, ⟨24, _⟩ => ⟨S_, .f32⟩
  | .hbm, ⟨25, _⟩ => ⟨S31x64, .f32⟩
  | .hbm, ⟨26, _⟩ => ⟨S31x64, .f32⟩
  | .hbm, ⟨27, _⟩ => ⟨S31x64, .f32⟩
  | .hbm, ⟨28, _⟩ => ⟨S_, .f32⟩
  | .hbm, ⟨29, _⟩ => ⟨S31x64, .f32⟩
  | .hbm, ⟨30, _⟩ => ⟨S31x64, .f32⟩
  | .hbm, ⟨31, _⟩ => ⟨S31x64, .f32⟩
  | .hbm, ⟨32, _⟩ => ⟨S_, .f32⟩
  | .hbm, ⟨33, _⟩ => ⟨S31x64, .f32⟩
  | .hbm, ⟨34, _⟩ => ⟨S31x64, .f32⟩
  | .hbm, ⟨35, _⟩ => ⟨S31x64, .f32⟩
  | .hbm, ⟨36, _⟩ => ⟨S_, .f32⟩
  | .hbm, ⟨37, _⟩ => ⟨S31x64, .f32⟩
  | .hbm, ⟨38, _⟩ => ⟨S31x64, .f32⟩
  | _, _ => ⟨S8x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S8x8x1024 : Shape := ⟨3, ![8, 8, 1024]⟩
abbrev S1x3072 : Shape := ⟨2, ![1, 3072]⟩
abbrev S1x1024 : Shape := ⟨2, ![1, 1024]⟩
abbrev S1x2048 : Shape := ⟨2, ![1, 2048]⟩
abbrev S1x64 : Shape := ⟨2, ![1, 64]⟩
abbrev S1x512 : Shape := ⟨2, ![1, 512]⟩
abbrev S1x128 : Shape := ⟨2, ![1, 128]⟩
abbrev S1x8x1024 : Shape := ⟨3, ![1, 8, 1024]⟩
abbrev S8x1024 : Shape := ⟨2, ![8, 1024]⟩

abbrev nBuf : Space → Nat
  | .hbm => 58
  | .vmem => 58
  | .smem => 0
  | _ => 0

abbrev bufTy : (tb : Table) → Fin (tcTables nBuf tb) → BufTy
  | .hbm, ⟨0, _⟩ => ⟨S8x8x1024, .f32⟩
  | .hbm, ⟨1, _⟩ => ⟨S1x3072, .f32⟩
  | .hbm, ⟨2, _⟩ => ⟨S1x1024, .f32⟩
  | .hbm, ⟨3, _⟩ => ⟨S1x2048, .f32⟩
  | .hbm, ⟨4, _⟩ => ⟨S1x64, .f32⟩
  | .hbm, ⟨5, _⟩ => ⟨S1x64, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x3072, .f32⟩
  | .hbm, ⟨10, _⟩ => ⟨S1x1024, .f32⟩
  | .hbm, ⟨11, _⟩ => ⟨S1x2048, .f32⟩
  | .hbm, ⟨12, _⟩ => ⟨S1x64, .f32⟩
  | .hbm, ⟨13, _⟩ => ⟨S1x64, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x3072, .f32⟩
  | .hbm, ⟨18, _⟩ => ⟨S1x1024, .f32⟩
  | .hbm, ⟨19, _⟩ => ⟨S1x2048, .f32⟩
  | .hbm, ⟨20, _⟩ => ⟨S1x64, .f32⟩
  | .hbm, ⟨21, _⟩ => ⟨S1x64, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x3072, .f32⟩
  | .hbm, ⟨26, _⟩ => ⟨S1x1024, .f32⟩
  | .hbm, ⟨27, _⟩ => ⟨S1x2048, .f32⟩
  | .hbm, ⟨28, _⟩ => ⟨S1x64, .f32⟩
  | .hbm, ⟨29, _⟩ => ⟨S1x64, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x3072, .f32⟩
  | .hbm, ⟨34, _⟩ => ⟨S1x1024, .f32⟩
  | .hbm, ⟨35, _⟩ => ⟨S1x2048, .f32⟩
  | .hbm, ⟨36, _⟩ => ⟨S1x64, .f32⟩
  | .hbm, ⟨37, _⟩ => ⟨S1x64, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x3072, .f32⟩
  | .hbm, ⟨42, _⟩ => ⟨S1x1024, .f32⟩
  | .hbm, ⟨43, _⟩ => ⟨S1x2048, .f32⟩
  | .hbm, ⟨44, _⟩ => ⟨S1x64, .f32⟩
  | .hbm, ⟨45, _⟩ => ⟨S1x64, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x3072, .f32⟩
  | .hbm, ⟨50, _⟩ => ⟨S1x1024, .f32⟩
  | .hbm, ⟨51, _⟩ => ⟨S1x2048, .f32⟩
  | .hbm, ⟨52, _⟩ => ⟨S1x64, .f32⟩
  | .hbm, ⟨53, _⟩ => ⟨S1x64, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x128, .f32⟩
  | .local _ .vmem, ⟨0, _⟩ => ⟨S8x8x1024, .f32⟩
  | .local _ .vmem, ⟨1, _⟩ => ⟨S1x3072, .f32⟩
  | .local _ .vmem, ⟨2, _⟩ => ⟨S1x1024, .f32⟩
  | .local _ .vmem, ⟨3, _⟩ => ⟨S1x2048, .f32⟩
  | .local _ .vmem, ⟨4, _⟩ => ⟨S1x64, .f32⟩
  | .local _ .vmem, ⟨5, _⟩ => ⟨S1x64, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x3072, .f32⟩
  | .local _ .vmem, ⟨10, _⟩ => ⟨S1x1024, .f32⟩
  | .local _ .vmem, ⟨11, _⟩ => ⟨S1x2048, .f32⟩
  | .local _ .vmem, ⟨12, _⟩ => ⟨S1x64, .f32⟩
  | .local _ .vmem, ⟨13, _⟩ => ⟨S1x64, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x3072, .f32⟩
  | .local _ .vmem, ⟨18, _⟩ => ⟨S1x1024, .f32⟩
  | .local _ .vmem, ⟨19, _⟩ => ⟨S1x2048, .f32⟩
  | .local _ .vmem, ⟨20, _⟩ => ⟨S1x64, .f32⟩
  | .local _ .vmem, ⟨21, _⟩ => ⟨S1x64, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x3072, .f32⟩
  | .local _ .vmem, ⟨26, _⟩ => ⟨S1x1024, .f32⟩
  | .local _ .vmem, ⟨27, _⟩ => ⟨S1x2048, .f32⟩
  | .local _ .vmem, ⟨28, _⟩ => ⟨S1x64, .f32⟩
  | .local _ .vmem, ⟨29, _⟩ => ⟨S1x64, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x3072, .f32⟩
  | .local _ .vmem, ⟨34, _⟩ => ⟨S1x1024, .f32⟩
  | .local _ .vmem, ⟨35, _⟩ => ⟨S1x2048, .f32⟩
  | .local _ .vmem, ⟨36, _⟩ => ⟨S1x64, .f32⟩
  | .local _ .vmem, ⟨37, _⟩ => ⟨S1x64, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x3072, .f32⟩
  | .local _ .vmem, ⟨42, _⟩ => ⟨S1x1024, .f32⟩
  | .local _ .vmem, ⟨43, _⟩ => ⟨S1x2048, .f32⟩
  | .local _ .vmem, ⟨44, _⟩ => ⟨S1x64, .f32⟩
  | .local _ .vmem, ⟨45, _⟩ => ⟨S1x64, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x3072, .f32⟩
  | .local _ .vmem, ⟨50, _⟩ => ⟨S1x1024, .f32⟩
  | .local _ .vmem, ⟨51, _⟩ => ⟨S1x2048, .f32⟩
  | .local _ .vmem, ⟨52, _⟩ => ⟨S1x64, .f32⟩
  | .local _ .vmem, ⟨53, _⟩ => ⟨S1x64, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x128, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev main_v0_3 : Ref sig .tc := ⟨.hbm, 28, rfl⟩
abbrev main_v0_4 : Ref sig .tc := ⟨.hbm, 29, rfl⟩
abbrev main_v0_5 : Ref sig .tc := ⟨.hbm, 30, rfl⟩
abbrev main_v0_6 : Ref sig .tc := ⟨.hbm, 31, rfl⟩
abbrev main_v0_7 : Ref sig .tc := ⟨.hbm, 32, rfl⟩
abbrev main_v0_8 : Ref sig .tc := ⟨.hbm, 33, rfl⟩
abbrev main_v0_9 : Ref sig .tc := ⟨.hbm, 34, rfl⟩
abbrev main_v0_10 : Ref sig .tc := ⟨.hbm, 35, rfl⟩
abbrev main_v0_11 : Ref sig .tc := ⟨.hbm, 36, rfl⟩
abbrev main_v0_12 : Ref sig .tc := ⟨.hbm, 37, rfl⟩
abbrev main_v0_13 : Ref sig .tc := ⟨.hbm, 38, rfl⟩
abbrev main_v0_14 : Ref sig .tc := ⟨.hbm, 39, rfl⟩
abbrev main_v0_15 : Ref sig .tc := ⟨.hbm, 40, rfl⟩
abbrev main_v0_16 : Ref sig .tc := ⟨.hbm, 41, rfl⟩
abbrev main_v0_17 : Ref sig .tc := ⟨.hbm, 42, rfl⟩
abbrev main_v0_18 : Ref sig .tc := ⟨.hbm, 43, rfl⟩
abbrev main_v0_19 : Ref sig .tc := ⟨.hbm, 44, rfl⟩
abbrev main_v0_20 : Ref sig .tc := ⟨.hbm, 45, rfl⟩
abbrev main_v0_21 : Ref sig .tc := ⟨.hbm, 46, rfl⟩
abbrev main_v0_22 : Ref sig .tc := ⟨.hbm, 47, rfl⟩
abbrev main_v0_23 : Ref sig .tc := ⟨.hbm, 48, rfl⟩
abbrev main_v0_24 : Ref sig .tc := ⟨.hbm, 49, rfl⟩
abbrev main_v0_25 : Ref sig .tc := ⟨.hbm, 50, rfl⟩
abbrev main_v0_26 : Ref sig .tc := ⟨.hbm, 51, rfl⟩
abbrev main_v0_27 : Ref sig .tc := ⟨.hbm, 52, rfl⟩
abbrev main_v0_28 : Ref sig .tc := ⟨.hbm, 53, rfl⟩
abbrev main_v0_29 : Ref sig .tc := ⟨.hbm, 54, rfl⟩
abbrev main_v0_30 : Ref sig .tc := ⟨.hbm, 55, rfl⟩
abbrev main_v0_31 : Ref sig .tc := ⟨.hbm, 56, rfl⟩
abbrev main_v0_32 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x3072 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x3072 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x3072 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x64 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x3072 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x2048 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== Reference15Ideal.lean ====
abbrev S8x8x1024 : Shape := ⟨3, ![8, 8, 1024]⟩
abbrev S1x3072 : Shape := ⟨2, ![1, 3072]⟩
abbrev S1x1024 : Shape := ⟨2, ![1, 1024]⟩
abbrev S1x2048 : Shape := ⟨2, ![1, 2048]⟩
abbrev S1x64 : Shape := ⟨2, ![1, 64]⟩
abbrev S1x512 : Shape := ⟨2, ![1, 512]⟩
abbrev S_ : Shape := ⟨0, ![]⟩
abbrev S8x1024 : Shape := ⟨2, ![8, 1024]⟩
abbrev S1x8192 : Shape := ⟨2, ![1, 8192]⟩
abbrev S1x128 : Shape := ⟨2, ![1, 128]⟩

abbrev nBuf : Space → Nat
  | .hbm => 301
  | .vmem => 0
  | .smem => 0
  | _ => 0

abbrev hbmTy0_0 (i : Nat) : BufTy := match i % 128 with
  | 0 => ⟨S8x8x1024, .f32⟩
  | 1 => ⟨S1x3072, .f32⟩
  | 2 => ⟨S1x1024, .f32⟩
  | 3 => ⟨S1x2048, .f32⟩
  | 4 => ⟨S1x64, .f32⟩
  | 5 => ⟨S1x64, .f32⟩
  | 6 => ⟨S1x512, .f32⟩
  | 7 => ⟨S1x512, .f32⟩
  | 8 => ⟨S1x512, .f32⟩
  | 9 => ⟨S1x3072, .f32⟩
  | 10 => ⟨S1x1024, .f32⟩
  | 11 => ⟨S1x2048, .f32⟩
  | 12 => ⟨S1x64, .f32⟩
  | 13 => ⟨S1x64, .f32⟩
  | 14 => ⟨S1x512, .f32⟩
  | 15 => ⟨S1x512, .f32⟩
  | 16 => ⟨S1x512, .f32⟩
  | 17 => ⟨S1x3072, .f32⟩
  | 18 => ⟨S1x1024, .f32⟩
  | 19 => ⟨S1x2048, .f32⟩
  | 20 => ⟨S1x64, .f32⟩
  | 21 => ⟨S1x64, .f32⟩
  | 22 => ⟨S1x512, .f32⟩
  | 23 => ⟨S1x512, .f32⟩
  | 24 => ⟨S1x512, .f32⟩
  | 25 => ⟨S_, .f32⟩
  | 26 => ⟨S8x1024, .f32⟩
  | 27 => ⟨S1x8192, .f32⟩
  | 28 => ⟨S1x3072, .f32⟩
  | 29 => ⟨S1x1024, .f32⟩
  | 30 => ⟨S1x2048, .f32⟩
  | 31 => ⟨S1x64, .f32⟩
  | 32 => ⟨S1x64, .f32⟩
  | 33 => ⟨S1x512, .f32⟩
  | 34 => ⟨S1x512, .f32⟩
  | 35 => ⟨S1x512, .f32⟩
  | 36 => ⟨S_, .f32⟩
  | 37 => ⟨S1x3072, .f32⟩
  | 38 => ⟨S1x3072, .f32⟩
  | 39 => ⟨S_, .f32⟩
  | 40 => ⟨S1x3072, .f32⟩
  | 41 => ⟨S1x3072, .f32⟩
  | 42 => ⟨S1x3072, .f32⟩
  | 43 => ⟨S_, .f32⟩
  | 44 => ⟨S1x3072, .f32⟩
  | 45 => ⟨S1x3072, .f32⟩
  | 46 => ⟨S1x3072, .f32⟩
  | 47 => ⟨S_, .f32⟩
  | 48 => ⟨S1x3072, .f32⟩
  | 49 => ⟨S1x3072, .f32⟩
  | 50 => ⟨S1x3072, .f32⟩
  | 51 => ⟨S_, .f32⟩
  | 52 => ⟨S1x3072, .f32⟩
  | 53 => ⟨S1x3072, .f32⟩
  | 54 => ⟨S_, .f32⟩
  | 55 => ⟨S1x3072, .f32⟩
  | 56 => ⟨S1x3072, .f32⟩
  | 57 => ⟨S1x3072, .f32⟩
  | 58 => ⟨S_, .f32⟩
  | 59 => ⟨S1x3072, .f32⟩
  | 60 => ⟨S1x3072, .f32⟩
  | 61 => ⟨S1x3072, .f32⟩
  | 62 => ⟨S_, .f32⟩
  | 63 => ⟨S1x3072, .f32⟩
  | 64 => ⟨S1x3072, .f32⟩
  | 65 => ⟨S1x3072, .f32⟩
  | 66 => ⟨S_, .f32⟩
  | 67 => ⟨S1x3072, .f32⟩
  | 68 => ⟨S1x3072, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S8x8x1024, .f32⟩

abbrev hbmTy0_1 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S1x512, .f32⟩
  | 80 => ⟨S_, .f32⟩
  | 81 => ⟨S1x512, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S1x512, .f32⟩
  | 88 => ⟨S_, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S1x512, .f32⟩
  | _ => ⟨S8x8x1024, .f32⟩

abbrev hbmTy0_2 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x128, .f32⟩
  | _ => ⟨S8x8x1024, .f32⟩

abbrev hbmTy (i : Nat) : BufTy := match i / 128 with
  | 0 => hbmTy0_0 i
  | 1 => hbmTy0_1 i
  | 2 => hbmTy0_2 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_v22 : Ref sig .tc := ⟨.hbm, 53, rfl⟩
abbrev main_cst_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_7 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_8 : Ref sig .tc := ⟨.hbm, 66, rfl⟩
abbrev main_v32 : Ref sig .tc := ⟨.hbm, 67, rfl⟩
abbrev main_v33 : Ref sig .tc := ⟨.hbm, 68, rfl⟩
abbrev main_cst_9 : Ref sig .tc := ⟨.hbm, 69, rfl⟩
abbrev main_v34 : Ref sig .tc := ⟨.hbm, 70, rfl⟩
abbrev main_v35 : Ref sig .tc := ⟨.hbm, 71, rfl⟩
abbrev main_cst_10 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_11 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_12 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_13 : Ref sig .tc := ⟨.hbm, 84, rfl⟩
abbrev main_v45 : Ref sig .tc := ⟨.hbm, 85, rfl⟩
abbrev main_v46 : Ref sig .tc := ⟨.hbm, 86, rfl⟩
abbrev main_cst_14 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_15 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_16 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_17 : Ref sig .tc := ⟨.hbm, 99, rfl⟩
abbrev main_v56 : Ref sig .tc := ⟨.hbm, 100, rfl⟩
abbrev main_v57 : Ref sig .tc := ⟨.hbm, 101, rfl⟩
abbrev main_cst_18 : Ref sig .tc := ⟨.hbm, 102, rfl⟩
abbrev main_v58 : Ref sig .tc := ⟨.hbm, 103, rfl⟩
abbrev main_v59 : Ref sig .tc := ⟨.hbm, 104, rfl⟩
abbrev main_cst_19 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_20 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_21 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_22 : Ref sig .tc := ⟨.hbm, 117, rfl⟩
abbrev main_v69 : Ref sig .tc := ⟨.hbm, 118, rfl⟩
abbrev main_v70 : Ref sig .tc := ⟨.hbm, 119, rfl⟩
abbrev main_cst_23 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_24 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_25 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_26 : Ref sig .tc := ⟨.hbm, 132, rfl⟩
abbrev main_v80 : Ref sig .tc := ⟨.hbm, 133, rfl⟩
abbrev main_v81 : Ref sig .tc := ⟨.hbm, 134, rfl⟩
abbrev main_cst_27 : Ref sig .tc := ⟨.hbm, 135, rfl⟩
abbrev main_v82 : Ref sig .tc := ⟨.hbm, 136, rfl⟩
abbrev main_v83 : Ref sig .tc := ⟨.hbm, 137, rfl⟩
abbrev main_cst_28 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_29 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_30 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_31 : Ref sig .tc := ⟨.hbm, 150, rfl⟩
abbrev main_v93 : Ref sig .tc := ⟨.hbm, 151, rfl⟩
abbrev main_v94 : Ref sig .tc := ⟨.hbm, 152, rfl⟩
abbrev main_cst_32 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_33 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_34 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_35 : Ref sig .tc := ⟨.hbm, 165, rfl⟩
abbrev main_v104 : Ref sig .tc := ⟨.hbm, 166, rfl⟩
abbrev main_v105 : Ref sig .tc := ⟨.hbm, 167, rfl⟩
abbrev main_cst_36 : Ref sig .tc := ⟨.hbm, 168, rfl⟩
abbrev main_v106 : Ref sig .tc := ⟨.hbm, 169, rfl⟩
abbrev main_v107 : Ref sig .tc := ⟨.hbm, 170, rfl⟩
abbrev main_cst_37 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_38 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_39 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_40 : Ref sig .tc := ⟨.hbm, 183, rfl⟩
abbrev main_v117 : Ref sig .tc := ⟨.hbm, 184, rfl⟩
abbrev main_v118 : Ref sig .tc := ⟨.hbm, 185, rfl⟩
abbrev main_cst_41 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_42 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_43 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_cst_44 : Ref sig .tc := ⟨.hbm, 198, rfl⟩
abbrev main_v128 : Ref sig .tc := ⟨.hbm, 199, rfl⟩
abbrev main_v129 : Ref sig .tc := ⟨.hbm, 200, rfl⟩
abbrev main_cst_45 : Ref sig .tc := ⟨.hbm, 201, rfl⟩
abbrev main_v130 : Ref sig .tc := ⟨.hbm, 202, rfl⟩
abbrev main_v131 : Ref sig .tc := ⟨.hbm, 203, rfl⟩
abbrev main_cst_46 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_47 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_48 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_cst_49 : Ref sig .tc := ⟨.hbm, 216, rfl⟩
abbrev main_v141 : Ref sig .tc := ⟨.hbm, 217, rfl⟩
abbrev main_v142 : Ref sig .tc := ⟨.hbm, 218, rfl⟩
abbrev main_cst_50 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_cst_51 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_cst_52 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_cst_53 : Ref sig .tc := ⟨.hbm, 231, rfl⟩
abbrev main_v152 : Ref sig .tc := ⟨.hbm, 232, rfl⟩
abbrev main_v153 : Ref sig .tc := ⟨.hbm, 233, rfl⟩
abbrev main_cst_54 : Ref sig .tc := ⟨.hbm, 234, rfl⟩
abbrev main_v154 : Ref sig .tc := ⟨.hbm, 235, rfl⟩
abbrev main_v155 : Ref sig .tc := ⟨.hbm, 236, rfl⟩
abbrev main_cst_55 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_cst_56 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_cst_57 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_cst_58 : Ref sig .tc := ⟨.hbm, 249, rfl⟩
abbrev main_v165 : Ref sig .tc := ⟨.hbm, 250, rfl⟩
abbrev main_v166 : Ref sig .tc := ⟨.hbm, 251, rfl⟩
abbrev main_cst_59 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_cst_60 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_cst_61 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_cst_62 : Ref sig .tc := ⟨.hbm, 264, rfl⟩
abbrev main_v176 : Ref sig .tc := ⟨.hbm, 265, rfl⟩
abbrev main_v177 : Ref sig .tc := ⟨.hbm, 266, rfl⟩
abbrev main_cst_63 : Ref sig .tc := ⟨.hbm, 267, rfl⟩
abbrev main_v178 : Ref sig .tc := ⟨.hbm, 268, rfl⟩
abbrev main_v179 : Ref sig .tc := ⟨.hbm, 269, rfl⟩
abbrev main_cst_64 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_cst_65 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_cst_66 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_cst_67 : Ref sig .tc := ⟨.hbm, 282, rfl⟩
abbrev main_v189 : Ref sig .tc := ⟨.hbm, 283, rfl⟩
abbrev main_v190 : Ref sig .tc := ⟨.hbm, 284, rfl⟩
abbrev main_cst_68 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_69 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_cst_70 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_cst_71 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩

abbrev nD : Nat := 1
abbrev τ : Topo := Topo.v7x

variable {F : FTy → Type} [FloatOps F]
-- ==== Proof.NormScalar.lean ====
module

public import Idealize.ShloMosaic.Lib.Pointwise

/-!
# The derivative of the root-mean-square norm along one row

Two ways to write the gradient of `x · rsqrt(mean x² + ε)` at one column agree over the extended reals, whatever the
values: the sum of squares is never negative, so the root's argument is either `⊤` (then the root is `0` and both
gradients are the plain one) or a positive real (then every `x` is real and the root is a positive real).
-/

@[expose] public section

noncomputable section

open Idealize.ShloMosaic

namespace Cert.NormScalar

/-- The row length as the programs spell it. -/
theorem len_eq : Ideal.ofBits FTy.f32 0x44800000#32 = ((1024 : ℝ) : EReal) := by
  simp [Ideal.ofBits, Ideal.ieee, -EReal.coe_mul]; norm_num

/-- The factor of the derivative of the reciprocal root. -/
theorem half_eq : Ideal.ofBits FTy.f32 0xBF000000#32 = ((-(1 / 2) : ℝ) : EReal) := by
  simp [Ideal.ofBits, Ideal.ieee, -EReal.coe_mul]; norm_num

/-- The norm's small constant is a positive real. -/
theorem eps_eq : ∃ e : ℝ, 0 < e ∧ Ideal.ofBits FTy.f32 0x358637BD#32 = (e : EReal) := by
  refine ⟨_, ?_, by simp [Ideal.ofBits, Ideal.ieee, -EReal.coe_mul]; rfl⟩
  norm_num

/-- A nonnegative real factor moves into a sum. -/
theorem sum_mul_real {n : ℕ} (f : Fin n → EReal) (r : ℝ) (hr : 0 ≤ r) :
    ∑ k, f k * (r : EReal) = (∑ k, f k) * (r : EReal) := by
  induction n with
  | zero => simp
  | succ n ih =>
    rw [Fin.sum_univ_succ, Fin.sum_univ_succ, ih,
      EReal.right_distrib_of_nonneg_of_ne_top (by exact_mod_cast hr) (EReal.coe_ne_top r)]

theorem sq_nonneg' (a : EReal) : 0 ≤ a * a := by
  induction a with
  | bot => simp
  | top => simp
  | coe a => exact_mod_cast mul_self_nonneg a

/-- A finite sum of squares has finite entries. -/
theorem real_of_sum_sq {n : ℕ} (x : Fin n → EReal) (h : ∑ k, x k * x k ≠ ⊤) (i : Fin n) : ∃ a : ℝ, x i = (a : EReal) := by
  have hle : x i * x i ≤ ∑ k, x k * x k :=
    Finset.single_le_sum (f := fun k => x k * x k) (fun k _ => sq_nonneg' (x k)) (Finset.mem_univ i)
  have hne : x i * x i ≠ ⊤ := fun hT => h (top_le_iff.mp (hT ▸ hle))
  revert hne
  generalize x i = b
  intro hne
  induction b with
  | bot => simp at hne
  | top => simp at hne
  | coe a => exact ⟨a, rfl⟩

/-- The two gradients at one column of a row. -/
theorem grad_eq {n : ℕ} (x D : Fin n → EReal) (d : EReal) (i : Fin n) (r v W : EReal)
    (hv : v = Ideal.div (∑ k, x k * x k) (Ideal.ofBits FTy.f32 0x44800000#32) + Ideal.ofBits FTy.f32 0x358637BD#32)
    (hr : r = Ideal.rsqrt v)
    (hW : W = Ideal.div ((∑ k, x k * D k) * (Ideal.ofBits FTy.f32 0xBF000000#32 * Ideal.div r v))
      (Ideal.ofBits FTy.f32 0x44800000#32)) :
    d + r * (D i - x i * r * Ideal.div (∑ k, D k * (x k * r)) (Ideal.ofBits FTy.f32 0x44800000#32))
      = d + D i * r + x i * W + W * x i := by
  obtain ⟨e, he, hee⟩ := eps_eq
  have h1024 : (1024 : ℝ) ≠ 0 := by norm_num
  rw [len_eq, hee, Ideal.div_coe h1024] at hv
  rw [len_eq, half_eq, Ideal.div_coe h1024] at hW
  rw [len_eq, Ideal.div_coe h1024]
  have hsum : 0 ≤ ∑ k, x k * x k := Finset.sum_nonneg fun k _ => sq_nonneg' (x k)
  by_cases hT : ∑ k, x k * x k = ⊤
  · have hvT : v = ⊤ := by
      rw [hv, hT, EReal.top_mul_coe_of_pos (by positivity), EReal.top_add_coe]
    have hr0 : r = 0 := by rw [hr, hvT, Ideal.rsqrt_top]
    have hW0 : W = 0 := by
      rw [hW, hr0, hvT]
      simp [Ideal.div]
    simp [hr0, hW0]
  · obtain ⟨s, hs⟩ : ∃ s : ℝ, ∑ k, x k * x k = (s : EReal) :=
      ⟨(∑ k, x k * x k).toReal, (EReal.coe_toReal hT (fun hb => by rw [hb] at hsum; simp at hsum)).symm⟩
    have hs0 : 0 ≤ s := by rw [hs] at hsum; exact_mod_cast hsum
    obtain ⟨u, hu, hvu⟩ : ∃ u : ℝ, 0 < u ∧ v = (u : EReal) :=
      ⟨s * (1 / 1024) + e, by positivity, by rw [hv, hs]; push_cast; rfl⟩
    obtain ⟨q, hq, hrq⟩ : ∃ q : ℝ, 0 < q ∧ r = (q : EReal) ∧ q * q * u = 1 := by
      refine ⟨(√u)⁻¹, by positivity, ?_, ?_⟩
      · rw [hr, hvu, Ideal.rsqrt_coe, if_neg (not_lt.mpr hu.le), if_neg hu.ne']
      · have := Real.mul_self_sqrt hu.le
        have h0 : √u ≠ 0 := (Real.sqrt_pos.mpr hu).ne'
        field_simp
        nlinarith
    obtain ⟨hrq, hqu⟩ := hrq
    obtain ⟨a, ha⟩ := real_of_sum_sq x hT i
    have hTs : ∑ k, D k * (x k * r) = (∑ k, x k * D k) * (q : EReal) := by
      rw [← sum_mul_real _ q hq.le]
      exact Finset.sum_congr rfl fun k _ => by rw [hrq, ← mul_assoc, mul_comm (D k)]
    rw [hTs, hW, ha, hrq, hvu]
    generalize ∑ k, x k * D k = T
    generalize D i = P
    rw [Ideal.div_coe hu.ne']
    have hu' : 1 / u = q * q := by
      field_simp
      linarith
    have hsub : (q : EReal) * (P - (a : EReal) * q * (T * q * ((1 / 1024 : ℝ) : EReal)))
        = P * q + T * ((-(a * q * q * q * (1 / 1024)) : ℝ) : EReal) := by
      have hY : (a : EReal) * q * (T * q * ((1 / 1024 : ℝ) : EReal)) = T * ((a * q * q * (1 / 1024) : ℝ) : EReal) := by
        push_cast
        ac_rfl
      have hZ : ((-(a * q * q * q * (1 / 1024)) : ℝ) : EReal) = -((q * (a * q * q * (1 / 1024)) : ℝ) : EReal) := by
        rw [← EReal.coe_neg]
        congr 1
        ring
      rw [hY, sub_eq_add_neg,
        EReal.left_distrib_of_nonneg_of_ne_top (by exact_mod_cast hq.le) (EReal.coe_ne_top q), hZ, mul_comm (q : EReal) P,
        mul_neg, mul_neg, EReal.coe_mul q, mul_left_comm]
    have hW2 : T * (((-(1 / 2) : ℝ) : EReal) * ((q : EReal) * ((1 / u : ℝ) : EReal))) * ((1 / 1024 : ℝ) : EReal) * (a : EReal)
        = T * ((-(a * q * q * q * (1 / 1024)) * (1 / 2) : ℝ) : EReal) := by
      rw [hu', mul_assoc, mul_assoc, ← EReal.coe_mul, ← EReal.coe_mul, ← EReal.coe_mul, ← EReal.coe_mul]
      congr 2
      ring
    rw [hsub, mul_comm (a : EReal), hW2, ← add_assoc, add_assoc (d + P * q)]
    congr 1
    generalize -(a * q * q * q * (1 / 1024)) = K
    rw [EReal.coe_mul, ← mul_assoc]
    generalize T * (K : EReal) = y
    induction y with
    | bot => rw [EReal.bot_mul_coe_of_pos (by norm_num)]; rfl
    | top => rw [EReal.top_mul_coe_of_pos (by norm_num)]; rfl
    | coe y =>
      rw [← EReal.coe_mul, ← EReal.coe_add]
      congr 1
      ring

end Cert.NormScalar
end
-- ==== Proof.NormBwd.lean ====
module

public import proofs.«01_k».proof.Proof.Gen.Kernel2Ideal.Value
public import proofs.«01_k».proof.Proof.Gen.Reference2Ideal.Run
public import proofs.«01_k».proof.Proof.NormScalar
public import Idealize.ShloMosaic.Lib.Pointwise
public import Idealize.ShloMosaic.Lib.Pipeline.ValueKit
public import Idealize.ShloMosaic.Lib.Pipeline.ReadBack

/-!
# The gradient of the norm and of the product in front of it

The kernel walks a 4 × 4 grid: four blocks of 1024 rows, and for each of them four steps over the 8704 columns of the
projection's gradient. The steps gather `dh = dproj · W` in a scratch; the last step of a row block then takes `dh`
through the scale, shift, weight and root-mean-square norm, adds `dout`, and adds the block's column sums to the
gradients of shift, scale and weight. The reference is the derivative of the plain lines. No value is assumed finite.
-/

@[expose] public section

set_option maxRecDepth 16384

noncomputable section

open Idealize.ShloMosaic Idealize.ShloMosaic.TcCoe Idealize.SL.Sem
open Idealize.ShloMosaic.Pipeline (Dat)

/-! ## The reference's terms -/

namespace Cert.Reference2Ideal.Terms

open Cert.Reference2Ideal Cert.Reference2Ideal.Gen

/-- The gradient of the normed rows: `dproj · W` in one contraction over the 8704 columns. -/
abbrev DH (dp : FVec Ideal S4096x8704 .bf16) (wt : FVec Ideal S8704x1024 .bf16) : FVec Ideal S4096x1024 .f32 :=
  Host.dotGeneral dot_S4096x8704_S1024x8704_S4096x1024_1_1_0_0_n_n none (extf .f32 dp bitsLt_bf16_f32)
    (transpose S1024x8704 [1, 0] (extf .f32 wt bitsLt_bf16_f32) transposes_S8704x1024_S1024x8704_1_0)

/-- The mean square of each row plus the norm's small constant. -/
abbrev MS (x : FVec Ideal S4096x1024 .f32) : FVec Ideal S4096x1 .f32 :=
  addf (Host.divf (broadcastInDim S4096x1 ![0] bcast_S4096_S4096x1_0
      (Host.reduceAdd (mulf x x) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32))

/-- The normed rows `x · r`. -/
abbrev XR (x : FVec Ideal S4096x1024 .f32) : FVec Ideal S4096x1024 .f32 :=
  mulf x (broadcastInDim S4096x1024 ![0, 1] bcast_S4096x1_S4096x1024_0_1 (Host.rsqrt (MS x)))

/-- `dh · (1 + scale)`. -/
abbrev DS (dh : FVec Ideal S4096x1024 .f32) (sc : FVec Ideal S1x1024 .f32) : FVec Ideal S4096x1024 .f32 :=
  mulf dh (broadcastInDim S4096x1024 ![0, 1] bcast_S1x1024_S4096x1024_0_1
    (addf (broadcastInDim S1x1024 ![] bcast_S_S1x1024 (constant S_ .f32 0x3F800000#32)) sc))

/-- The gradient of the normed rows, `dh · (1 + scale) · weight`. -/
abbrev DX (dh : FVec Ideal S4096x1024 .f32) (nw sc : FVec Ideal S1x1024 .f32) : FVec Ideal S4096x1024 .f32 :=
  mulf (DS dh sc) (broadcastInDim S4096x1024 ![0, 1] bcast_S1x1024_S4096x1024_0_1 nw)

/-- The coefficient of `x` in the gradient through the norm's root, spread over the columns. -/
abbrev CO (dh x : FVec Ideal S4096x1024 .f32) (nw sc : FVec Ideal S1x1024 .f32) : FVec Ideal S4096x1024 .f32 :=
  broadcastInDim S4096x1024 ![0] bcast_S4096_S4096x1024_0 (Host.reduceAdd (Host.divf (mulf
      (shapeCast S4096x1 (Host.reduceAdd (mulf x (DX dh nw sc)) (constant S_ .f32 0x00000000#32)
        reducesTo_S4096x1024_S4096_d1 h_S_) shapeCasts_S4096_S4096x1)
      (mulf (broadcastInDim S4096x1 ![] bcast_S_S4096x1 (constant S_ .f32 0xBF000000#32))
        (Host.divf (Host.rsqrt (MS x)) (MS x))))
      (broadcastInDim S4096x1 ![] bcast_S_S4096x1 (constant S_ .f32 0x44800000#32)))
    (constant S_ .f32 0x00000000#32) reducesTo_S4096x1_S4096_d1 h_S_)

/-- The gradient of the input rows, from the gradient `dh` of the normed rows. -/
abbrev GXof (dh x dout : FVec Ideal S4096x1024 .f32) (nw sc : FVec Ideal S1x1024 .f32) : FVec Ideal S4096x1024 .f32 :=
  addf (addf (addf dout (mulf (DX dh nw sc)
      (broadcastInDim S4096x1024 ![0, 1] bcast_S4096x1_S4096x1024_0_1 (Host.rsqrt (MS x)))))
    (mulf x (CO dh x nw sc))) (mulf (CO dh x nw sc) x)

/-- The gradient of the input rows. -/
abbrev GX (dp : FVec Ideal S4096x8704 .bf16) (wt : FVec Ideal S8704x1024 .bf16) (x dout : FVec Ideal S4096x1024 .f32)
    (nw sc : FVec Ideal S1x1024 .f32) : FVec Ideal S4096x1024 .f32 :=
  GXof (DH dp wt) x dout nw sc

/-- A sum over the 4096 rows, one value per column, written in eight equal rows. -/
abbrev COLS (a : FVec Ideal S4096x1024 .f32) : FVec Ideal S8x1024 .f32 :=
  broadcastInDim S8x1024 ![0, 1] bcast_S1x1024_S8x1024_0_1 (shapeCast S1x1024
    (Host.reduceAdd a (constant S_ .f32 0x00000000#32) reducesTo_S4096x1024_S1024_d0 h_S_) shapeCasts_S1024_S1x1024)

/-- The gradient of the shift. -/
abbrev DSH (dp : FVec Ideal S4096x8704 .bf16) (wt : FVec Ideal S8704x1024 .bf16) : FVec Ideal S8x1024 .f32 :=
  COLS (DH dp wt)

/-- The gradient of the scale. -/
abbrev DSC (dp : FVec Ideal S4096x8704 .bf16) (wt : FVec Ideal S8704x1024 .bf16) (x : FVec Ideal S4096x1024 .f32)
    (nw : FVec Ideal S1x1024 .f32) : FVec Ideal S8x1024 .f32 :=
  COLS (mulf (mulf (XR x) (broadcastInDim S4096x1024 ![0, 1] bcast_S1x1024_S4096x1024_0_1 nw)) (DH dp wt))

/-- The gradient of the norm's weight. -/
abbrev DNW (dp : FVec Ideal S4096x8704 .bf16) (wt : FVec Ideal S8704x1024 .bf16) (x : FVec Ideal S4096x1024 .f32)
    (sc : FVec Ideal S1x1024 .f32) : FVec Ideal S8x1024 .f32 :=
  COLS (mulf (XR x) (DS (DH dp wt) sc))

theorem DH_apply (dp) (wt) (i : S4096x1024.Idx) :
    DH dp wt i = ∑ k : Fin 8704, dp (ix2 (i 0) k) * wt (ix2 k (i 1)) := by
  pointwise [DH]

theorem COLS_apply (a) (i : S8x1024.Idx) : COLS a i = ∑ k : Fin 4096, a (ix2 k (i 1)) := by
  pointwise [COLS]

end Cert.Reference2Ideal.Terms

namespace Cert.Kernel2Ideal.Norm

open Cert.Kernel2Ideal Cert.Kernel2Ideal.Gen
open Cert.Reference2Ideal.Terms

variable (m : (ℓ : Loc nD τ sig) → Buf (Elt Ideal) ℓ)

/-- The root `r` of row `i` of the rows `x`, as both programs compute it. -/
abbrev root {n : ℕ} (x : FVec Ideal ⟨2, ![n, 1024]⟩ .f32) (i : Fin n) : EReal :=
  Ideal.rsqrt (Ideal.div (∑ k : Fin 1024, x (ix2 i k) * x (ix2 i k)) (Ideal.ofBits FTy.f32 0x44800000#32)
    + Ideal.ofBits FTy.f32 0x358637BD#32)

/-- The gradient of the input rows at an index, in the kernel's form. -/
abbrev inGrad {n : ℕ} (dh x dout : FVec Ideal ⟨2, ![n, 1024]⟩ .f32) (nw sc : FVec Ideal ⟨2, ![1, 1024]⟩ .f32)
    (i : Fin n) (j : Fin 1024) : EReal :=
  dout (ix2 i j) + root x i * (dh (ix2 i j) * (nw (ix2 0 j) * (1 + sc (ix2 0 j)))
      - x (ix2 i j) * root x i * Ideal.div (∑ k : Fin 1024, dh (ix2 i k) * (nw (ix2 0 k) * (1 + sc (ix2 0 k)))
          * (x (ix2 i k) * root x i)) (Ideal.ofBits FTy.f32 0x44800000#32))

/-- One row's share of the scale's gradient. -/
abbrev scaleTerm {n : ℕ} (dh x : FVec Ideal ⟨2, ![n, 1024]⟩ .f32) (nw : FVec Ideal ⟨2, ![1, 1024]⟩ .f32)
    (i : Fin n) (j : Fin 1024) : EReal :=
  x (ix2 i j) * root x i * nw (ix2 0 j) * dh (ix2 i j)

/-- One row's share of the weight's gradient. -/
abbrev weightTerm {n : ℕ} (dh x : FVec Ideal ⟨2, ![n, 1024]⟩ .f32) (sc : FVec Ideal ⟨2, ![1, 1024]⟩ .f32)
    (i : Fin n) (j : Fin 1024) : EReal :=
  x (ix2 i j) * root x i * (dh (ix2 i j) * (1 + sc (ix2 0 j)))

theorem CO_apply (dh x : FVec Ideal Cert.Reference2Ideal.S4096x1024 .f32)
    (nw sc : FVec Ideal Cert.Reference2Ideal.S1x1024 .f32) (i : Fin 4096) (j : Fin 1024) :
    CO dh x nw sc (ix2 i j) = Ideal.div ((∑ k : Fin 1024, x (ix2 i k) * (dh (ix2 i k) * (1 + sc (ix2 0 k)) * nw (ix2 0 k)))
        * (Ideal.ofBits FTy.f32 0xBF000000#32 * Ideal.div (root x i) (Ideal.div (∑ k : Fin 1024, x (ix2 i k) * x (ix2 i k))
          (Ideal.ofBits FTy.f32 0x44800000#32) + Ideal.ofBits FTy.f32 0x358637BD#32)))
      (Ideal.ofBits FTy.f32 0x44800000#32) := by
  refine Eq.trans (b := ∑ _u : Fin 1, _) ?_ (Fin.sum_univ_one _)
  pointwise [CO, DX, DS, MS]

/-- The reference's gradient of the input rows at an index, in the kernel's form. -/
theorem GXof_apply (dh x dout : FVec Ideal Cert.Reference2Ideal.S4096x1024 .f32)
    (nw sc : FVec Ideal Cert.Reference2Ideal.S1x1024 .f32) (i : Fin 4096) (j : Fin 1024) :
    GXof dh x dout nw sc (ix2 i j) = inGrad (n := 4096) dh x dout nw sc i j := by
  refine Eq.trans ?_ (Cert.NormScalar.grad_eq (fun k : Fin 1024 => x (ix2 i k))
    (fun k : Fin 1024 => dh (ix2 i k) * (nw (ix2 0 k) * (1 + sc (ix2 0 k)))) (dout (ix2 i j)) j _ _ _ rfl rfl rfl).symm
  have hD : ∀ k : Fin 1024, (dh (ix2 i k) * (nw (ix2 0 k) * (1 + sc (ix2 0 k))) : EReal)
      = dh (ix2 i k) * (1 + sc (ix2 0 k)) * nw (ix2 0 k) := fun k => by ac_rfl
  simp only [hD]
  rw [← CO_apply (j := j)]
  pointwise [GXof, DX, DS, MS]

theorem XR_apply (x : FVec Ideal Cert.Reference2Ideal.S4096x1024 .f32) (i : Fin 4096) (j : Fin 1024) :
    XR x (ix2 i j) = x (ix2 i j) * root x i := by
  pointwise [XR, MS]

theorem p8 (dh x nw sc dout) (i j : Fin 1024) :
    k0_pay8 (F := Ideal) dh (k0_pay9 x) (k0_pay10 x) (k0_pay11 sc) nw dout (ix2 i j)
      = inGrad (n := 1024) dh x dout nw sc i j := by
  pointwise [k0_pay8, k0_pay9, k0_pay10, k0_pay11]

theorem p12 (dh a) (i : S8x1024.Idx) : k0_pay12 (F := Ideal) dh a i = a i + ∑ k : Fin 1024, dh (ix2 k (i 1)) := by
  pointwise [k0_pay12]

theorem p13 (x dh nw a) (i : S8x1024.Idx) : k0_pay13 (F := Ideal) x dh nw a i
    = a i + ∑ k : Fin 1024, scaleTerm (n := 1024) dh x nw k (i 1) := by
  simp only [scaleTerm, fun k : Fin 1024 => mul_comm (x (ix2 k (i 1)) * root x k * nw (ix2 0 (i 1)) : EReal) (dh (ix2 k (i 1)))]
  pointwise [k0_pay13, k0_pay10, k0_pay9]

theorem p7 (x dh sc a) (i : S8x1024.Idx) : k0_pay7 (F := Ideal) (k0_pay11 sc) (k0_pay14 x dh) a i
    = a i + ∑ k : Fin 1024, weightTerm (n := 1024) dh x sc k (i 1) := by
  have h : k0_pay7 (F := Ideal) (k0_pay11 sc) (k0_pay14 x dh) a i
      = a i + ∑ k : Fin 1024, dh (ix2 k (i 1)) * (x (ix2 k (i 1)) * root x k) * (1 + sc (ix2 0 (i 1))) := by
    pointwise [k0_pay7, k0_pay14, k0_pay10, k0_pay9, k0_pay11]
  rw [h]
  refine congrArg (fun e : EReal => (a i : EReal) + e) (Finset.sum_congr rfl fun k _ => ?_)
  rw [mul_comm (dh _ : EReal), mul_assoc]

/-- Four steps' products, one after another, are one contraction over the 8704 columns. -/
theorem four_steps (a0 a1 a2 a3 : FVec Ideal S1024x2176 .bf16) (b0 b1 b2 b3 : FVec Ideal S2176x1024 .bf16)
    (y : S1024x1024.Idx) :
    k0_pay3 (F := Ideal) a3 b3 (k0_pay3 (F := Ideal) a2 b2 (k0_pay3 (F := Ideal) a1 b1 (k0_pay2 (F := Ideal) a0 b0))) y
      = (((∑ k : Fin 2176, a0 (ix2 (y 0) k) * b0 (ix2 k (y 1))) + ∑ k : Fin 2176, a1 (ix2 (y 0) k) * b1 (ix2 k (y 1)))
        + ∑ k : Fin 2176, a2 (ix2 (y 0) k) * b2 (ix2 k (y 1))) + ∑ k : Fin 2176, a3 (ix2 (y 0) k) * b3 (ix2 k (y 1)) := by
  pointwise [k0_pay3, k0_pay2, k0_pay1]

/-- The printed index maps over the sixteen grid points. -/
theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![0, 0]
    ∧ win0_5.index t = ![0, 0] ∧ win0_7.index t = ![t.val / 4, 0] ∧ win0_8.index t = ![0, 0]
    ∧ win0_9.index t = ![0, 0] ∧ win0_10.index t = ![0, 0] := (by decide +kernel : ∀ t : Fin grid0.N, _)

/-- The point `k` steps before `t`. -/
abbrev back (t : Fin cfg0.N) (k : ℕ) : Fin cfg0.N := ⟨t.val - k, Nat.lt_of_le_of_lt (Nat.sub_le _ _) t.isLt⟩

/-- The scratch after point `t`: the gathered products of the row block so far. -/
abbrev scr (c : Dev nD) (t : Fin cfg0.N) : FVec Ideal S1024x1024 .f32 := (outsAt0 m c t.val t.isLt).2.2.2.2

/-- The three gathered gradients after point `t`. -/
abbrev accs (c : Dev nD) (t : Fin cfg0.N) : FVec Ideal S8x1024 .f32 × FVec Ideal S8x1024 .f32 × FVec Ideal S8x1024 .f32 :=
  ((outsAt0 m c t.val t.isLt).2.1, (outsAt0 m c t.val t.isLt).2.2.1, (outsAt0 m c t.val t.isLt).2.2.2.1)

theorem scr_first (c : Dev nD) (t : Fin cfg0.N) (h : t.val % 4 = 0) :
    scr m c t = k0_pay2 (F := Ideal) (iblk m c 0 t) (iblk m c 1 t) := by
  have hN : t.val < 16 := lt_of_lt_of_eq t.isLt N_0
  unfold scr
  by_cases h2 : t.val % 16 = 0
  · rw [outsAt0_A m c t h (by omega) h2 (by omega)]
    frame_out
  · rw [outsAt0_D m c t h (by omega) h2 (by omega)]
    frame_out

theorem scr_next (c : Dev nD) (t : Fin cfg0.N) (h : t.val % 4 ≠ 0) :
    scr m c t = k0_pay3 (F := Ideal) (iblk m c 0 t) (iblk m c 1 t) (scr m c (back t 1)) := by
  have hN : t.val < 16 := lt_of_lt_of_eq t.isLt N_0
  unfold scr
  by_cases h3 : t.val % 4 = 3
  · rw [outsAt0_C m c t h (by omega) (by omega) h3]
    frame_out
    rw [read_unread_whole]
  · rw [outsAt0_B m c t h (by omega) (by omega) h3]
    frame_out
    rw [read_unread_whole]

/-- At the last step of a row block the scratch holds that block of the reference's product. -/
theorem scr_eq (c : Dev nD) (t : Fin cfg0.N) (h : t.val % 4 = 3) (y : S1024x1024.Idx) (i : Cert.Reference2Ideal.S4096x1024.Idx)
    (h0 : (i 0).val = t.val / 4 * 1024 + (y 0).val) (h1 : (i 1).val = (y 1).val) :
    scr m c t y = DH (m ((c : Thread nD τ).loc main_arg0)) (m ((c : Thread nD τ).loc main_arg1)) i := by
  have hN : t.val < 16 := lt_of_lt_of_eq t.isLt N_0
  rw [scr_next m c t (by omega), scr_next m c (back t 1) (by dsimp only; omega),
    scr_next m c (back (back t 1) 1) (by dsimp only; omega), scr_first m c (back (back (back t 1) 1) 1) (by dsimp only; omega),
    four_steps, DH_apply]
  show (_ : EReal) = _
  refine Eq.trans ?_ (Fin.sum_univ_tiles 4 2176 rfl _).symm
  simp only [Fin.sum_univ_four]
  blk_point [iblk, V, idx t, idx (back t 1), idx (back (back t 1) 1), idx (back (back (back t 1) 1) 1)]

theorem accs_first (c : Dev nD) (t : Fin cfg0.N) (h : t.val = 0) :
    accs m c t = (k0_pay4 (F := Ideal), k0_pay5 (F := Ideal), k0_pay6 (F := Ideal)) := by
  unfold accs
  rw [outsAt0_A m c t (by omega) (by omega) (by omega) (by omega)]
  frame_out

theorem accs_keep (c : Dev nD) (t : Fin cfg0.N) (h : t.val ≠ 0) (h3 : t.val % 4 ≠ 3) :
    accs m c t = accs m c (back t 1) := by
  have hN : t.val < 16 := lt_of_lt_of_eq t.isLt N_0
  unfold accs
  by_cases h0 : t.val % 4 = 0
  · rw [outsAt0_D m c t h0 (by omega) (by omega) h3]
    rfl
  · rw [outsAt0_B m c t h0 (by omega) (by omega) h3]
    rfl

theorem accs_last (c : Dev nD) (t : Fin cfg0.N) (h3 : t.val % 4 = 3) :
    accs m c t = (k0_pay12 (F := Ideal) (scr m c t) (accs m c (back t 1)).1,
      k0_pay13 (F := Ideal) (iblk m c 2 t) (scr m c t) (iblk m c 4 t) (accs m c (back t 1)).2.1,
      k0_pay7 (F := Ideal) (k0_pay11 (iblk m c 5 t)) (k0_pay14 (iblk m c 2 t) (scr m c t)) (accs m c (back t 1)).2.2) := by
  rw [scr_next m c t (by omega)]
  unfold accs scr
  rw [outsAt0_C m c t (by omega) (by omega) (by omega) h3]
  frame_out
  simp only [read_unread_whole]

/-- Row `k` of the row block of point `t` in the whole array. -/
abbrev rowOf (t : Fin cfg0.N) (k : Fin 1024) : Fin 4096 :=
  ⟨t.val / 4 * 1024 + k.val, by
    have hN : t.val < 16 := lt_of_lt_of_eq t.isLt N_0
    omega⟩

theorem x_blk (c : Dev nD) (t : Fin cfg0.N) (k j : Fin 1024) :
    iblk m c 2 t (ix2 k j) = m ((c : Thread nD τ).loc main_arg2) (ix2 (rowOf t k) j) := by
  have hN : t.val < 16 := lt_of_lt_of_eq t.isLt N_0
  blk_point [iblk, V, idx t]

theorem root_blk (c : Dev nD) (t : Fin cfg0.N) (k : Fin 1024) :
    root (n := 1024) (iblk m c 2 t) k = root (n := 4096) (m ((c : Thread nD τ).loc main_arg2)) (rowOf t k) := by
  simp only [root, x_blk]

theorem nw_blk (c : Dev nD) (t : Fin cfg0.N) (j : Fin 1024) :
    iblk m c 4 t (ix2 0 j) = m ((c : Thread nD τ).loc main_arg4) (ix2 0 j) := by
  blk_point [iblk, V, idx t]

theorem sc_blk (c : Dev nD) (t : Fin cfg0.N) (j : Fin 1024) :
    iblk m c 5 t (ix2 0 j) = m ((c : Thread nD τ).loc main_arg5) (ix2 0 j) := by
  blk_point [iblk, V, idx t]

theorem scr_blk (c : Dev nD) (t : Fin cfg0.N) (h : t.val % 4 = 3) (k j : Fin 1024) :
    scr m c t (ix2 k j) = DH (m ((c : Thread nD τ).loc main_arg0)) (m ((c : Thread nD τ).loc main_arg1)) (ix2 (rowOf t k) j) :=
  scr_eq m c t h _ _ rfl rfl

/-- Nothing is added between the last steps of two row blocks. -/
theorem accs_block (c : Dev nD) (t : Fin cfg0.N) (h3 : t.val % 4 = 3) (h : t.val ≠ 3) :
    accs m c (back t 1) = accs m c (back t 4) := by
  rw [accs_keep m c (back t 1) (by dsimp only; omega) (by dsimp only; omega),
    accs_keep m c (back (back t 1) 1) (by dsimp only; omega) (by dsimp only; omega),
    accs_keep m c (back (back (back t 1) 1) 1) (by dsimp only; omega) (by dsimp only; omega)]
  rfl

/-- Before the first row block's last step the three gradients are zero. -/
theorem accs_zero (c : Dev nD) (t : Fin cfg0.N) (h : t.val = 3) :
    accs m c (back t 1) = (k0_pay4 (F := Ideal), k0_pay5 (F := Ideal), k0_pay6 (F := Ideal)) := by
  rw [accs_keep m c (back t 1) (by dsimp only; omega) (by dsimp only; omega),
    accs_keep m c (back (back t 1) 1) (by dsimp only; omega) (by dsimp only; omega),
    accs_first m c (back (back (back t 1) 1) 1) (by dsimp only; omega)]

/-- What the four row blocks add up to, for an accumulator that starts at zero and adds a sum over the block's rows. -/
theorem gather (A : Fin cfg0.N → EReal) (f : Fin 4096 → EReal)
    (hz : ∀ t : Fin cfg0.N, t.val = 3 → A (back t 1) = 0)
    (hk : ∀ t : Fin cfg0.N, t.val % 4 = 3 → t.val ≠ 3 → A (back t 1) = A (back t 4))
    (hs : ∀ t : Fin cfg0.N, t.val % 4 = 3 → A t = A (back t 1) + ∑ k : Fin 1024, f (rowOf t k))
    (t : Fin cfg0.N) (ht : t.val = 15) : A t = ∑ k : Fin 4096, f k := by
  rw [hs t (by omega), hk t (by omega) (by omega), hs (back t 4) (by dsimp only; omega),
    hk (back t 4) (by dsimp only; omega) (by dsimp only; omega), hs (back (back t 4) 4) (by dsimp only; omega),
    hk (back (back t 4) 4) (by dsimp only; omega) (by dsimp only; omega),
    hs (back (back (back t 4) 4) 4) (by dsimp only; omega), hz (back (back (back t 4) 4) 4) (by dsimp only; omega), zero_add]
  refine Eq.trans ?_ (Fin.sum_univ_tiles 4 1024 rfl _).symm
  simp only [Fin.sum_univ_four, rowOf, ht]
  rfl

/-- The gathered gradient of the shift after the last point. -/
theorem acc_shift (c : Dev nD) (t : Fin cfg0.N) (ht : t.val = 15) (y : S8x1024.Idx) :
    (accs m c t).1 y = DSH (m ((c : Thread nD τ).loc main_arg0)) (m ((c : Thread nD τ).loc main_arg1)) y := by
  refine (gather (fun t => (accs m c t).1 y) (fun k => DH (m ((c : Thread nD τ).loc main_arg0))
    (m ((c : Thread nD τ).loc main_arg1)) (ix2 k (y 1))) (fun t h => ?_) (fun t h3 h => ?_) (fun t h3 => ?_) t ht).trans
    (COLS_apply _ y).symm
  · rw [accs_zero m c t h]
    pointwise [k0_pay4]
  · rw [accs_block m c t h3 h]
  · rw [accs_last m c t h3]
    exact (p12 _ _ y).trans (congrArg (fun e : EReal => (accs m c (back t 1)).1 y + e)
      (Finset.sum_congr rfl fun k _ => scr_blk m c t h3 k (y 1)))

theorem scale_blk (c : Dev nD) (t : Fin cfg0.N) (h3 : t.val % 4 = 3) (k j : Fin 1024) :
    scaleTerm (n := 1024) (scr m c t) (iblk m c 2 t) (iblk m c 4 t) k j
      = scaleTerm (n := 4096) (DH (m ((c : Thread nD τ).loc main_arg0)) (m ((c : Thread nD τ).loc main_arg1))) (m ((c : Thread nD τ).loc main_arg2))
        (m ((c : Thread nD τ).loc main_arg4)) (rowOf t k) j := by
  simp only [scaleTerm, root_blk, x_blk, nw_blk, scr_blk m c t h3]

theorem scale_ref (dh x : FVec Ideal Cert.Reference2Ideal.S4096x1024 .f32) (w : FVec Ideal Cert.Reference2Ideal.S1x1024 .f32)
    (k : Fin 4096) (j : Fin 1024) : scaleTerm (n := 4096) dh x w k j
      = mulf (mulf (XR x) (broadcastInDim Cert.Reference2Ideal.S4096x1024 ![0, 1]
        Cert.Reference2Ideal.Gen.bcast_S1x1024_S4096x1024_0_1 w)) dh (ix2 k j) := by
  unfold scaleTerm
  rw [← XR_apply]
  pointwise

theorem weight_blk (c : Dev nD) (t : Fin cfg0.N) (h3 : t.val % 4 = 3) (k j : Fin 1024) :
    weightTerm (n := 1024) (scr m c t) (iblk m c 2 t) (iblk m c 5 t) k j
      = weightTerm (n := 4096) (DH (m ((c : Thread nD τ).loc main_arg0)) (m ((c : Thread nD τ).loc main_arg1))) (m ((c : Thread nD τ).loc main_arg2))
        (m ((c : Thread nD τ).loc main_arg5)) (rowOf t k) j := by
  simp only [weightTerm, root_blk, x_blk, sc_blk, scr_blk m c t h3]

theorem weight_ref (dh x : FVec Ideal Cert.Reference2Ideal.S4096x1024 .f32) (w : FVec Ideal Cert.Reference2Ideal.S1x1024 .f32)
    (k : Fin 4096) (j : Fin 1024) : weightTerm (n := 4096) dh x w k j
      = mulf (XR x) (DS dh w) (ix2 k j) := by
  unfold weightTerm
  rw [← XR_apply]
  pointwise [DS]

/-- The gathered gradient of the scale after the last point. -/
theorem acc_scale (c : Dev nD) (t : Fin cfg0.N) (ht : t.val = 15) (y : S8x1024.Idx) :
    (accs m c t).2.1 y = DSC (m ((c : Thread nD τ).loc main_arg0)) (m ((c : Thread nD τ).loc main_arg1))
      (m ((c : Thread nD τ).loc main_arg2)) (m ((c : Thread nD τ).loc main_arg4)) y := by
  refine (gather (fun t => (accs m c t).2.1 y) (fun k => scaleTerm (n := 4096)
    (DH (m ((c : Thread nD τ).loc main_arg0)) (m ((c : Thread nD τ).loc main_arg1)))
    (m ((c : Thread nD τ).loc main_arg2)) (m ((c : Thread nD τ).loc main_arg4)) k (y 1))
    (fun t h => ?_) (fun t h3 h => ?_) (fun t h3 => ?_) t ht).trans ?_
  · rw [accs_zero m c t h]
    pointwise [k0_pay5]
  · rw [accs_block m c t h3 h]
  · rw [accs_last m c t h3]
    refine (p13 _ _ _ _ y).trans (congrArg (fun e : EReal => (accs m c (back t 1)).2.1 y + e)
      (Finset.sum_congr rfl fun k _ => scale_blk m c t h3 k (y 1)))
  · refine Eq.trans ?_ (COLS_apply _ y).symm
    exact Finset.sum_congr rfl fun k _ => scale_ref _ _ _ k (y 1)

/-- The gathered gradient of the norm's weight after the last point. -/
theorem acc_weight (c : Dev nD) (t : Fin cfg0.N) (ht : t.val = 15) (y : S8x1024.Idx) :
    (accs m c t).2.2 y = DNW (m ((c : Thread nD τ).loc main_arg0)) (m ((c : Thread nD τ).loc main_arg1))
      (m ((c : Thread nD τ).loc main_arg2)) (m ((c : Thread nD τ).loc main_arg5)) y := by
  refine (gather (fun t => (accs m c t).2.2 y) (fun k => weightTerm (n := 4096)
    (DH (m ((c : Thread nD τ).loc main_arg0)) (m ((c : Thread nD τ).loc main_arg1)))
    (m ((c : Thread nD τ).loc main_arg2)) (m ((c : Thread nD τ).loc main_arg5)) k (y 1))
    (fun t h => ?_) (fun t h3 h => ?_) (fun t h3 => ?_) t ht).trans ?_
  · rw [accs_zero m c t h]
    pointwise [k0_pay6]
  · rw [accs_block m c t h3 h]
  · rw [accs_last m c t h3]
    refine (p7 _ _ _ _ y).trans (congrArg (fun e : EReal => (accs m c (back t 1)).2.2 y + e)
      (Finset.sum_congr rfl fun k _ => weight_blk m c t h3 k (y 1)))
  · refine Eq.trans ?_ (COLS_apply _ y).symm
    exact Finset.sum_congr rfl fun k _ => weight_ref _ _ _ k (y 1)

/-- What the last step of a row block stores, at an index. -/
theorem point7 (c : Dev nD) (t : Fin cfg0.N) (h3 : t.val % 4 = 3) (a b : Fin 1024) :
    k0_pay8 (F := Ideal) (scr m c t) (k0_pay9 (iblk m c 2 t)) (k0_pay10 (iblk m c 2 t))
      (k0_pay11 (iblk m c 5 t)) (iblk m c 4 t) (iblk m c 3 t) (ix2 a b)
    = GX (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (ix2 (rowOf t a) b) := by
  have hd : iblk m c 3 t (ix2 a b) = m ((c : Thread nD τ).loc main_arg3) (ix2 (rowOf t a) b) := by
    blk_point [iblk, V, idx t]
  refine (p8 _ _ _ _ _ a b).trans (Eq.trans ?_ (GXof_apply _ _ _ _ _ (rowOf t a) b).symm)
  simp only [inGrad, hd, root_blk, scr_blk m c t h3, nw_blk, sc_blk, x_blk]

/-- The gradient of the input rows after the run. -/
theorem final7 (c : Dev nD) : (dats m 0 c).arrAt 7 (cfgs 0).N
    = GX (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  have h3 : t.val % 4 = 3 := (flush0_7 t).mp hf
  have hN : t.val < 16 := lt_of_lt_of_eq t.isLt N_0
  have hout : (outsAt0 m c t.val t.isLt).1 = k0_pay8 (F := Ideal) (scr m c t) (k0_pay9 (iblk m c 2 t)) (k0_pay10 (iblk m c 2 t))
      (k0_pay11 (iblk m c 5 t)) (iblk m c 4 t) (iblk m c 3 t) := by
    rw [scr_next m c t (by omega)]
    unfold scr
    rw [outsAt0_C m c t (by omega) (by omega) (by omega) h3]
    frame_out
    simp only [read_unread_whole]
  have hy : (win0_7.blk t).view.emb y = ix2 (rowOf t (y 0)) (y 1) := by
    blk_point [idx t]
  have hy' : y = ix2 (y 0) (y 1) := by
    funext a
    match a with
    | 0 => rfl
    | 1 => rfl
  blk_simp
  rw [after0_7, hout, hy]
  exact (congrArg _ hy').trans (point7 m c t h3 (y 0) (y 1))

/-- The reference's first result is its term of the arguments. -/
theorem res_input (m' : (ℓ : Loc Cert.Reference2Ideal.nD Cert.Reference2Ideal.τ Cert.Reference2Ideal.sig) → Buf (Elt Ideal) ℓ)
    (c : Dev Cert.Reference2Ideal.nD) : Cert.Reference2Ideal.Value.res_main_v53 m' c
    = GX (m' (c.tc.loc Cert.Reference2Ideal.main_arg0)) (m' (c.tc.loc Cert.Reference2Ideal.main_arg1))
      (m' (c.tc.loc Cert.Reference2Ideal.main_arg2)) (m' (c.tc.loc Cert.Reference2Ideal.main_arg3))
      (m' (c.tc.loc Cert.Reference2Ideal.main_arg4)) (m' (c.tc.loc Cert.Reference2Ideal.main_arg5)) := rfl

/-- The gradient of the shift after the run. -/
theorem final8 (c : Dev nD) : (dats m 0 c).arrAt 8 (cfgs 0).N
    = DSH (m ((c : Thread nD τ).loc main_arg0)) (m ((c : Thread nD τ).loc main_arg1)) := by
  refine (dats m 0 c).arrAt_eq_of_covers 8 _ (by decide +kernel) fun t hf y => ?_
  have hN : t.val < 16 := lt_of_lt_of_eq t.isLt N_0
  have h15 : t.val = 15 := by have := (flush0_8 t).mp hf; omega
  have hy : (win0_8.blk t).view.emb y = y := by
    blk_point [idx t]
  blk_simp
  rw [after0_8, hy]
  exact acc_shift m c t h15 y

/-- The gradient of the scale after the run. -/
theorem final9 (c : Dev nD) : (dats m 0 c).arrAt 9 (cfgs 0).N
    = DSC (m ((c : Thread nD τ).loc main_arg0)) (m ((c : Thread nD τ).loc main_arg1))
      (m ((c : Thread nD τ).loc main_arg2)) (m ((c : Thread nD τ).loc main_arg4)) := by
  refine (dats m 0 c).arrAt_eq_of_covers 9 _ (by decide +kernel) fun t hf y => ?_
  have hN : t.val < 16 := lt_of_lt_of_eq t.isLt N_0
  have h15 : t.val = 15 := by have := (flush0_9 t).mp hf; omega
  have hy : (win0_9.blk t).view.emb y = y := by
    blk_point [idx t]
  blk_simp
  rw [after0_9, hy]
  exact acc_scale m c t h15 y

/-- The gradient of the weight after the run. -/
theorem final10 (c : Dev nD) : (dats m 0 c).arrAt 10 (cfgs 0).N
    = DNW (m ((c : Thread nD τ).loc main_arg0)) (m ((c : Thread nD τ).loc main_arg1))
      (m ((c : Thread nD τ).loc main_arg2)) (m ((c : Thread nD τ).loc main_arg5)) := by
  refine (dats m 0 c).arrAt_eq_of_covers 10 _ (by decide +kernel) fun t hf y => ?_
  have hN : t.val < 16 := lt_of_lt_of_eq t.isLt N_0
  have h15 : t.val = 15 := by have := (flush0_10 t).mp hf; omega
  have hy : (win0_10.blk t).view.emb y = y := by
    blk_point [idx t]
  blk_simp
  rw [after0_10, hy]
  exact acc_weight m c t h15 y

end Cert.Kernel2Ideal.Norm
end
-- ==== Proof.MmDw.lean ====
/- The weight gradient of the input projection (`_mm_dw`): the kernel walks the rows of the step in two halves of 2048
   and adds the two products of a column block of `dproj` with the transposed activation into a scratch buffer, then
   writes the buffer transposed; the reference is one product over all 4096 rows. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

variable (m : (ℓ : Loc nD τ sig) → Buf (Elt Ideal) ℓ)

/-- The reference's term: `dprojᵀ · h` in one contraction over the 4096 rows, `h` the transpose of the saved `ht`. -/
abbrev REF (ht : FVec Ideal Cert.Reference3Ideal.S1024x4096 .bf16) (dp : FVec Ideal Cert.Reference3Ideal.S4096x8704 .bf16) :
    FVec Ideal Cert.Reference3Ideal.S8704x1024 .bf16 :=
  truncf .bf16 (transpose Cert.Reference3Ideal.S8704x1024 [1, 0] (transpose Cert.Reference3Ideal.S1024x8704 [1, 0]
    (Host.dotGeneral Cert.Reference3Ideal.dot_S4096x8704_S4096x1024_S8704x1024_0_0_1_1_n_n none
      (extf .f32 dp Cert.Reference3Ideal.Gen.bitsLt_bf16_f32)
      (transpose Cert.Reference3Ideal.S4096x1024 [1, 0] (extf .f32 ht Cert.Reference3Ideal.Gen.bitsLt_bf16_f32)
        Cert.Reference3Ideal.Gen.transposes_S1024x4096_S4096x1024_1_0))
    Cert.Reference3Ideal.Gen.transposes_S8704x1024_S1024x8704_1_0)
    Cert.Reference3Ideal.Gen.transposes_S1024x8704_S8704x1024_1_0) Cert.Reference3Ideal.Gen.bitsLt_bf16_f32

/-- What the two steps of a column block leave, stored transposed: zero, the first product, the second product. -/
theorem two_steps (a0 a1 : FVec Ideal S1024x2048 .bf16) (b0 b1 : FVec Ideal S2048x2176 .bf16) (y : S2176x1024.Idx) :
    k0_pay3 (F := Ideal) (k0_pay2 (F := Ideal) (k0_pay2 (F := Ideal) (k0_pay1 (F := Ideal)) a0 b0) a1 b1) y
      = ((0 : EReal) + ∑ k : Fin 2048, b0 (ix2 k (y 0)) * a0 (ix2 (y 1) k))
        + ∑ k : Fin 2048, b1 (ix2 k (y 0)) * a1 (ix2 (y 1) k) := by
  pointwise! [k0_pay3, k0_pay2, k0_pay1]

/-- The reference at an index. -/
theorem ref_apply (ht) (dp) (n : Cert.Reference3Ideal.S8704x1024.Idx) :
    REF ht dp n = ∑ k : Fin 4096, dp (ix2 k (n 0)) * ht (ix2 (n 1) k) := by
  pointwise [REF]

/-- The printed index maps over the eight grid points. -/
theorem idx : ∀ t : Fin cfg0.N, win0_0.index t = ![0, t.val % 2] ∧ win0_1.index t = ![t.val % 2, t.val / 2]
    ∧ win0_2.index t = ![t.val / 2, 0] := (by decide +kernel : ∀ t : Fin grid0.N, _)

/-- The result array after the run is the reference's term of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hN : t.val < 8 := lt_of_lt_of_eq t.isLt N_0
  blk_simp
  rw [after0_2, outsAt0_B m c t (by omega) h1]
  frame_out
  -- the first half's product is what the point before left in the scratch
  have hA : (outsAt0 m c (t.val - 1) (Nat.lt_of_le_of_lt (Nat.sub_le _ _) t.isLt)).2
      = k0_pay2 (F := Ideal) (k0_pay1 (F := Ideal)) (iblk m c 0 ⟨t.val - 1, Nat.lt_of_le_of_lt (Nat.sub_le _ _) t.isLt⟩)
        (iblk m c 1 ⟨t.val - 1, Nat.lt_of_le_of_lt (Nat.sub_le _ _) t.isLt⟩) := by
    rw [outsAt0_A m c ⟨t.val - 1, Nat.lt_of_le_of_lt (Nat.sub_le _ _) t.isLt⟩ (by dsimp only; omega) (by dsimp only; omega)]
    frame_out
  rw [read_unread_whole, hA]
  rw [two_steps, ref_apply, zero_add]
  show (_ : EReal) = _
  refine Eq.trans ?_ (Fin.sum_univ_two_halves 2048 2048 rfl _).symm
  blk_point [iblk, V, idx t, idx ⟨t.val - 1, Nat.lt_of_le_of_lt (Nat.sub_le _ _) t.isLt⟩]

end Cert.Kernel3Ideal.Product
end
-- ==== Proof.MmAcc.lean ====
/- The weight gradients of the projections (`_mm_acc`): the rows are walked in two halves of 2048 and the two products are
   added in a scratch buffer; the output projection's is then stored as it is, the branches' in eight column blocks of 128,
   one under the other. The references are one product over all 4096 rows. -/
module

public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.OutWeight

open Cert.Kernel4Ideal Cert.Kernel4Ideal.Gen

variable (m : (ℓ : Loc nD τ sig) → Buf (Elt Ideal) ℓ)

/-- The reference's term: the transposed input times the gradient, one contraction over the 4096 rows. -/
abbrev REF (at' : FVec Ideal Cert.Reference4Ideal.S1024x4096 .bf16) (d : FVec Ideal Cert.Reference4Ideal.S4096x1024 .bf16) :
    FVec Ideal Cert.Reference4Ideal.S1024x1024 .bf16 :=
  truncf .bf16 (transpose Cert.Reference4Ideal.S1024x1024 [1, 0]
    (Host.dotGeneral Cert.Reference4Ideal.dot_S4096x1024_S4096x1024_S1024x1024_0_0_1_1_n_n none
      (extf .f32 d Cert.Reference4Ideal.Gen.bitsLt_bf16_f32)
      (transpose Cert.Reference4Ideal.S4096x1024 [1, 0] (extf .f32 at' Cert.Reference4Ideal.Gen.bitsLt_bf16_f32)
        Cert.Reference4Ideal.Gen.transposes_S1024x4096_S4096x1024_1_0))
    Cert.Reference4Ideal.Gen.transposes_S1024x1024_S1024x1024_1_0) Cert.Reference4Ideal.Gen.bitsLt_bf16_f32

/-- What the two steps leave in the scratch: zero, the first product, the second product. -/
theorem two_steps (a0 a1 : FVec Ideal S1024x2048 .bf16) (b0 b1 : FVec Ideal S2048x1024 .bf16) (y : S1024x1024.Idx) :
    k0_pay3 (F := Ideal) (k0_pay2 (F := Ideal) (k0_pay2 (F := Ideal) (k0_pay1 (F := Ideal)) a0 b0) a1 b1) y
      = ((0 : EReal) + ∑ k : Fin 2048, a0 (ix2 (y 0) k) * b0 (ix2 k (y 1)))
        + ∑ k : Fin 2048, a1 (ix2 (y 0) k) * b1 (ix2 k (y 1)) := by
  pointwise! [k0_pay3, k0_pay2, k0_pay1]

/-- The reference at an index. -/
theorem ref_apply (at') (d) (n : Cert.Reference4Ideal.S1024x1024.Idx) :
    REF at' d n = ∑ k : Fin 4096, at' (ix2 (n 0) k) * d (ix2 k (n 1)) := by
  refine Eq.trans (b := ∑ k : Fin 4096, d (ix2 k (n 1)) * at' (ix2 (n 0) k)) (by pointwise [REF]) ?_
  show (_ : EReal) = _
  exact Finset.sum_congr rfl fun k _ => mul_comm _ _

/-- The printed index maps over the two grid points. -/
theorem idx : ∀ t : Fin cfg0.N, win0_0.index t = ![0, t.val] ∧ win0_1.index t = ![t.val, 0]
    ∧ win0_3.index t = ![0, 0] := (by decide +kernel : ∀ t : Fin grid0.N, _)

/-- The result array after the run is the reference's term of the argument arrays. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  have h1 : t.val % 2 = 1 := (flush0_3 t).mp hf
  have hN : t.val < 2 := lt_of_lt_of_eq t.isLt N_0
  blk_simp
  rw [after0_3, outsAt0_B m c t (by omega) h1]
  frame_out
  have hA : (outsAt0 m c (t.val - 1) (Nat.lt_of_le_of_lt (Nat.sub_le _ _) t.isLt)).2
      = k0_pay2 (F := Ideal) (k0_pay1 (F := Ideal)) (iblk m c 0 ⟨t.val - 1, Nat.lt_of_le_of_lt (Nat.sub_le _ _) t.isLt⟩)
        (iblk m c 1 ⟨t.val - 1, Nat.lt_of_le_of_lt (Nat.sub_le _ _) t.isLt⟩) := by
    rw [outsAt0_A m c ⟨t.val - 1, Nat.lt_of_le_of_lt (Nat.sub_le _ _) t.isLt⟩ (by dsimp only; omega) (by dsimp only; omega)]
    frame_out
  rw [read_unread_whole, hA]
  rw [two_steps, ref_apply, zero_add]
  show (_ : EReal) = _
  refine Eq.trans ?_ (Fin.sum_univ_two_halves 2048 2048 rfl _).symm
  blk_point [iblk, V, idx t, idx ⟨t.val - 1, Nat.lt_of_le_of_lt (Nat.sub_le _ _) t.isLt⟩]

end Cert.Kernel4Ideal.OutWeight

namespace Cert.Kernel5Ideal.BranchWeight

open Cert.Kernel5Ideal Cert.Kernel5Ideal.Gen

variable (m : (ℓ : Loc nD τ sig) → Buf (Elt Ideal) ℓ)

/-- The reference's term: the transposed input times the gradient, its columns cut in eight blocks. -/
abbrev REF (at' : FVec Ideal Cert.Reference5Ideal.S512x4096 .bf16) (d : FVec Ideal Cert.Reference5Ideal.S4096x1024 .bf16) :
    FVec Ideal Cert.Reference5Ideal.S8x512x128 .bf16 :=
  transpose Cert.Reference5Ideal.S8x512x128 [1, 0, 2] (shapeCast Cert.Reference5Ideal.S512x8x128
    (truncf .bf16 (transpose Cert.Reference5Ideal.S512x1024 [1, 0]
    (Host.dotGeneral Cert.Reference5Ideal.dot_S4096x1024_S4096x512_S1024x512_0_0_1_1_n_n none
      (extf .f32 d Cert.Reference5Ideal.Gen.bitsLt_bf16_f32)
      (transpose Cert.Reference5Ideal.S4096x512 [1, 0] (extf .f32 at' Cert.Reference5Ideal.Gen.bitsLt_bf16_f32)
        Cert.Reference5Ideal.Gen.transposes_S512x4096_S4096x512_1_0))
    Cert.Reference5Ideal.Gen.transposes_S1024x512_S512x1024_1_0) Cert.Reference5Ideal.Gen.bitsLt_bf16_f32)
    Cert.Reference5Ideal.Gen.shapeCasts_S512x1024_S512x8x128) Cert.Reference5Ideal.Gen.transposes_S512x8x128_S8x512x128_1_0_2

/-- What the two steps leave in the scratch: zero, the first product, the second product. -/
theorem two_steps (a0 a1 : FVec Ideal S512x2048 .bf16) (b0 b1 : FVec Ideal S2048x1024 .bf16) (y : S512x1024.Idx) :
    k0_pay2 (F := Ideal) (k0_pay2 (F := Ideal) (k0_pay1 (F := Ideal)) a0 b0) a1 b1 y
      = ((0 : EReal) + ∑ k : Fin 2048, a0 (ix2 (y 0) k) * b0 (ix2 k (y 1)))
        + ∑ k : Fin 2048, a1 (ix2 (y 0) k) * b1 (ix2 k (y 1)) := by
  pointwise! [k0_pay2, k0_pay1]

/-- The reference at an index: block `n 0`'s column `n 2` is column `128 · n 0 + n 2`. -/
theorem ref_apply (at') (d) (n : Cert.Reference5Ideal.S8x512x128.Idx) (i : S512x1024.Idx)
    (h0 : (i 0 : ℕ) = n 1) (h1 : (i 1 : ℕ) = 128 * n 0 + n 2) :
    REF at' d n = ∑ k : Fin 4096, at' (ix2 (i 0) k) * d (ix2 k (i 1)) := by
  refine Eq.trans (b := ∑ k : Fin 4096, d (ix2 k (i 1)) * at' (ix2 (i 0) k)) ?_ ?_
  · pointwise [REF]
    blk_point []
  · show (_ : EReal) = _
    exact Finset.sum_congr rfl fun k _ => mul_comm _ _

/-- The printed index maps over the two grid points. -/
theorem idx : ∀ t : Fin cfg0.N, win0_0.index t = ![0, t.val] ∧ win0_1.index t = ![t.val, 0]
    ∧ win0_3.index t = ![0, 0, 0] := (by decide +kernel : ∀ t : Fin grid0.N, _)

/-- The scratch after the last step, at an index, is the reference at the index of its block. -/
theorem core (c : Dev nD) (t t' : Fin cfg0.N) (ht : t.val = 1) (ht' : t'.val = 0) (n : Cert.Reference5Ideal.S8x512x128.Idx)
    (i : S512x1024.Idx) (h0 : (i 0 : ℕ) = n 1) (h1 : (i 1 : ℕ) = 128 * n 0 + n 2) :
    k0_pay2 (F := Ideal) (k0_pay2 (F := Ideal) (k0_pay1 (F := Ideal)) (iblk m c 0 t') (iblk m c 1 t')) (iblk m c 0 t)
        (iblk m c 1 t) i
      = REF (m ((c : Thread nD τ).loc main_arg0)) (m ((c : Thread nD τ).loc main_arg1)) n := by
  rw [two_steps, ref_apply _ _ n i h0 h1, zero_add]
  show (_ : EReal) = _
  refine Eq.trans ?_ (Fin.sum_univ_two_halves 2048 2048 rfl _).symm
  blk_point [iblk, V, idx t, idx t']

/-- The result array after the run is the reference's term of the argument arrays. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  have h1 : t.val % 2 = 1 := (flush0_3 t).mp hf
  have hN : t.val < 2 := lt_of_lt_of_eq t.isLt N_0
  blk_simp
  rw [after0_3, outsAt0_B m c t (by omega) h1]
  frame_out
  have hA : (outsAt0 m c (t.val - 1) (Nat.lt_of_le_of_lt (Nat.sub_le _ _) t.isLt)).2
      = k0_pay2 (F := Ideal) (k0_pay1 (F := Ideal)) (iblk m c 0 ⟨t.val - 1, Nat.lt_of_le_of_lt (Nat.sub_le _ _) t.isLt⟩)
        (iblk m c 1 ⟨t.val - 1, Nat.lt_of_le_of_lt (Nat.sub_le _ _) t.isLt⟩) := by
    rw [outsAt0_A m c ⟨t.val - 1, Nat.lt_of_le_of_lt (Nat.sub_le _ _) t.isLt⟩ (by dsimp only; omega) (by dsimp only; omega)]
    frame_out
  simp only [read_unread_whole, hA]
  obtain_idx i : S512x1024 := [(y 1 : ℕ), 128 * (y 0 : ℕ) + (y 2 : ℕ)] with hi
  refine Eq.trans (b := k0_pay2 (F := Ideal) (k0_pay2 (F := Ideal) (k0_pay1 (F := Ideal))
      (iblk m c 0 ⟨t.val - 1, Nat.lt_of_le_of_lt (Nat.sub_le _ _) t.isLt⟩)
      (iblk m c 1 ⟨t.val - 1, Nat.lt_of_le_of_lt (Nat.sub_le _ _) t.isLt⟩)) (iblk m c 0 t) (iblk m c 1 t) i) ?_
    (core m c t _ (by omega) (by dsimp only; omega) _ i ?_ ?_)
  · generalize k0_pay2 (F := Ideal) (k0_pay2 (F := Ideal) (k0_pay1 (F := Ideal))
      (iblk m c 0 ⟨t.val - 1, Nat.lt_of_le_of_lt (Nat.sub_le _ _) t.isLt⟩)
      (iblk m c 1 ⟨t.val - 1, Nat.lt_of_le_of_lt (Nat.sub_le _ _) t.isLt⟩)) (iblk m c 0 t) (iblk m c 1 t) = T
    simp (discharger := decide) only [View.readCov_fill]
    canon_tiles x h
    all_goals (pointwise [k0_pay3, k0_pay4, k0_pay5, k0_pay6, k0_pay7, k0_pay8, k0_pay9, k0_pay10, k0_pay11]; blk_ext)
  all_goals (blk_simp [idx t] <;> try omega)

end Cert.Kernel5Ideal.BranchWeight
end
-- ==== Proof.NormFwd.lean ====
/- The adaptive root-mean-square norm (`_norm_fwd`): each grid point norms 1024 rows, scales and shifts them and stores
   them once as they are and once transposed; the reference does the same over all 4096 rows. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.NormFwd

open Cert.Kernel6Ideal Cert.Kernel6Ideal.Gen

variable (m : (ℓ : Loc nD τ sig) → Buf (Elt Ideal) ℓ)

/-- The reference's normed, scaled and shifted rows. -/
abbrev H (x : FVec Ideal Cert.Reference6Ideal.S4096x1024 .f32) (nw sc sh : FVec Ideal Cert.Reference6Ideal.S1x1024 .f32) :
    FVec Ideal Cert.Reference6Ideal.S4096x1024 .f32 :=
  addf (mulf (mulf (mulf x (broadcastInDim Cert.Reference6Ideal.S4096x1024 ![0, 1] Cert.Reference6Ideal.Gen.bcast_S4096x1_S4096x1024_0_1 (Host.rsqrt (addf (Host.divf (broadcastInDim Cert.Reference6Ideal.S4096x1 ![0] Cert.Reference6Ideal.Gen.bcast_S4096_S4096x1_0 (Host.reduceAdd (mulf x x) (constant Cert.Reference6Ideal.S_ .f32 0x00000000#32) Cert.Reference6Ideal.Gen.reducesTo_S4096x1024_S4096_d1 Cert.Reference6Ideal.Gen.h_S_)) (broadcastInDim Cert.Reference6Ideal.S4096x1 ![] Cert.Reference6Ideal.Gen.bcast_S_S4096x1 (constant Cert.Reference6Ideal.S_ .f32 0x44800000#32))) (broadcastInDim Cert.Reference6Ideal.S4096x1 ![] Cert.Reference6Ideal.Gen.bcast_S_S4096x1 (constant Cert.Reference6Ideal.S_ .f32 0x358637BD#32))))))
    (broadcastInDim Cert.Reference6Ideal.S4096x1024 ![0, 1] Cert.Reference6Ideal.Gen.bcast_S1x1024_S4096x1024_0_1 nw))
    (broadcastInDim Cert.Reference6Ideal.S4096x1024 ![0, 1] Cert.Reference6Ideal.Gen.bcast_S1x1024_S4096x1024_0_1 (addf (broadcastInDim Cert.Reference6Ideal.S1x1024 ![] Cert.Reference6Ideal.Gen.bcast_S_S1x1024 (constant Cert.Reference6Ideal.S_ .f32 0x3F800000#32)) sc)))
    (broadcastInDim Cert.Reference6Ideal.S4096x1024 ![0, 1] Cert.Reference6Ideal.Gen.bcast_S1x1024_S4096x1024_0_1 sh)

/-- The first result: the rows, cast. -/
abbrev REF (x : FVec Ideal Cert.Reference6Ideal.S4096x1024 .f32) (nw sc sh : FVec Ideal Cert.Reference6Ideal.S1x1024 .f32) : FVec Ideal Cert.Reference6Ideal.S4096x1024 .bf16 :=
  truncf .bf16 (H x nw sc sh) Cert.Reference6Ideal.Gen.bitsLt_bf16_f32

/-- The second result: the rows transposed, cast. -/
abbrev REFT (x : FVec Ideal Cert.Reference6Ideal.S4096x1024 .f32) (nw sc sh : FVec Ideal Cert.Reference6Ideal.S1x1024 .f32) : FVec Ideal Cert.Reference6Ideal.S1024x4096 .bf16 :=
  truncf .bf16 (transpose Cert.Reference6Ideal.S1024x4096 [1, 0] (H x nw sc sh)
    Cert.Reference6Ideal.Gen.transposes_S4096x1024_S1024x4096_1_0) Cert.Reference6Ideal.Gen.bitsLt_bf16_f32

/-- The printed index maps over the four grid points. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] :=
  (by decide +kernel : ∀ t : Fin grid0.N, _)

/-- The rows as the run leaves them. -/
theorem final4 (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have hN : t.val < 4 := lt_of_lt_of_eq t.isLt N_0
  blk_simp
  rw [after0_4]
  frame_out
  pointwise [k0_pay2, k0_pay1, REF, H]
  blk_point [iblk, V, idx t]

/-- The transposed rows as the run leaves them. -/
theorem final5 (c : Dev nD) : (dats m 0 c).arrAt 5 (cfgs 0).N
    = REFT (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have hN : t.val < 4 := lt_of_lt_of_eq t.isLt N_0
  blk_simp
  rw [after0_5]
  frame_out
  pointwise [k0_pay3, k0_pay1, REFT, H]
  blk_point [iblk, V, idx t]

end Cert.Kernel6Ideal.NormFwd
end
-- ==== Proof.MmIn.lean ====
/- The input projection (`_mm_in`): each grid point multiplies 1024 rows of the normed activations with a block of 2176
   rows of the transposed weight, contracting both second axes; the reference is one product with the weight transposed
   back. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.Project

open Cert.Kernel7Ideal Cert.Kernel7Ideal.Gen

variable (m : (ℓ : Loc nD τ sig) → Buf (Elt Ideal) ℓ)

/-- The reference's term: the activations times the transposed back weight. -/
abbrev REF (h : FVec Ideal Cert.Reference7Ideal.S4096x1024 .bf16) (wt : FVec Ideal Cert.Reference7Ideal.S8704x1024 .bf16) :
    FVec Ideal Cert.Reference7Ideal.S4096x8704 .f32 :=
  Host.dotGeneral Cert.Reference7Ideal.dot_S4096x1024_S1024x8704_S4096x8704_1_0_0_1_n_n none
    (extf .f32 h Cert.Reference7Ideal.Gen.bitsLt_bf16_f32)
    (transpose Cert.Reference7Ideal.S1024x8704 [1, 0] (extf .f32 wt Cert.Reference7Ideal.Gen.bitsLt_bf16_f32)
      Cert.Reference7Ideal.Gen.transposes_S8704x1024_S1024x8704_1_0)

/-- The block a point stores, at an index: one row of activations against one row of the transposed weight. -/
theorem block_apply (h : FVec Ideal S1024x1024 .bf16) (w : FVec Ideal S2176x1024 .bf16) (y : S1024x2176.Idx) :
    k0_pay1 (F := Ideal) h w y = ∑ k : Fin 1024, h (ix2 (y 0) k) * w (ix2 (y 1) k) := by
  pointwise! [k0_pay1]

/-- The reference at an index. -/
theorem ref_apply (h) (wt) (n : Cert.Reference7Ideal.S4096x8704.Idx) :
    REF h wt n = ∑ k : Fin 1024, h (ix2 (n 0) k) * wt (ix2 (n 1) k) := by
  pointwise [REF]

/-- The printed index maps over the sixteen grid points. -/
theorem idx : ∀ t : Fin cfg0.N, win0_0.index t = ![t.val % 4, 0] ∧ win0_1.index t = ![t.val / 4, 0]
    ∧ win0_2.index t = ![t.val % 4, t.val / 4] := (by decide +kernel : ∀ t : Fin grid0.N, _)

/-- The result array after the run is the reference's term of the argument arrays. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hN : t.val < 16 := lt_of_lt_of_eq t.isLt N_0
  blk_simp
  rw [after0_2]
  frame_out
  rw [block_apply, ref_apply]
  show (_ : EReal) = _
  refine Fin.sum_fin_congr fun k => ?_
  blk_point [iblk, V, idx t]

end Cert.Kernel7Ideal.Project
end
-- ==== Proof.ConvKit.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Conv
open Cert.KernelIdeal Cert.KernelIdeal.Gen
/-- The `k` rows and `l` columns of `D` from row `o` and column `q`. -/
def win {α : Type} {m n k l : ℕ} (D : (⟨2, ![m, n]⟩ : Shape).Idx → α) (o q : ℕ) (ho : o + k ≤ m) (hq : q + l ≤ n) :
    (⟨2, ![k, l]⟩ : Shape).Idx → α :=
  fun i => D (ix2 (⟨o + (i 0).val, by have : (i 0).val < k := (i 0).isLt; omega⟩ : Fin m)
    (⟨q + (i 1).val, by have : (i 1).val < l := (i 1).isLt; omega⟩ : Fin n))

/-- A rectangle within a rectangle. -/
theorem win_win {α : Type} {m n k l k' l' : ℕ} (D : (⟨2, ![m, n]⟩ : Shape).Idx → α) (o q o' q' : ℕ) (ho : o + k ≤ m)
    (hq : q + l ≤ n) (ho' : o' + k' ≤ k) (hq' : q' + l' ≤ l) :
    (win (win D o q ho hq : (⟨2, ![k, l]⟩ : Shape).Idx → α) o' q' ho' hq' : (⟨2, ![k', l']⟩ : Shape).Idx → α)
      = win D (o + o') (q + q') (by omega) (by omega) := by
  funext i
  simp only [win]
  congr 1
  congr 1
  · apply Fin.ext; show o + (o' + _) = _; simp only [Nat.add_assoc]
  · apply Fin.ext; show q + (q' + _) = _; simp only [Nat.add_assoc]

/-- A rectangle that fits in an array fits by rows. -/
theorem rows_fit {m n k l o q : ℕ}
    (inb : ∀ a, (![o, q] : Fin 2 → ℕ) a + (⟨2, ![k, l]⟩ : Shape).size a ≤ (⟨2, ![m, n]⟩ : Shape).size a) : o + k ≤ m := inb 0

/-- A rectangle that fits in an array fits by columns. -/
theorem cols_fit {m n k l o q : ℕ}
    (inb : ∀ a, (![o, q] : Fin 2 → ℕ) a + (⟨2, ![k, l]⟩ : Shape).size a ≤ (⟨2, ![m, n]⟩ : Shape).size a) : q + l ≤ n := inb 1

section
variable {Val : EltTy → Type} [∀ e, Nonempty (Val e)] {sig : RefSig} {κ : Kind} {sp : Space} {e : EltTy}

/-- What a load of a rectangle reads, from what the stores before it left. -/
theorem load_win {m n k l o q : ℕ} (v : View sig κ sp (⟨2, ![m, n]⟩ : Shape) e)
    (L : List (View.Piece Val (⟨2, ![m, n]⟩ : Shape) e))
    (inb : ∀ a, (![o, q] : Fin 2 → ℕ) a + (⟨2, ![k, l]⟩ : Shape).size a ≤ (⟨2, ![m, n]⟩ : Shape).size a) :
    v.readCov L (Rect.unit (s := (⟨2, ![m, n]⟩ : Shape)) ![o, q] (⟨2, ![k, l]⟩ : Shape).size inb).toLoadRect
      = (win (View.canon L) o q (rows_fit inb) (cols_fit inb) : (⟨2, ![k, l]⟩ : Shape).Idx → Val e) := by
  rw [View.readCov_eq_canon']
  funext i
  refine congrArg (View.canon L) ?_
  funext a; apply Fin.ext
  fin_cases a
  · show o + 1 * (i 0).val = o + (i 0).val; omega
  · show q + 1 * (i 1).val = q + (i 1).val; omega

/-- A load inside the rectangle stored last reads that store. -/
theorem load_last {m n k l o q k' l' o' q' : ℕ} (v : View sig κ sp (⟨2, ![m, n]⟩ : Shape) .f32)
    (w : (⟨2, ![k, l]⟩ : Shape).Idx → Elt Ideal .f32) (L : List (View.Piece (Elt Ideal) (⟨2, ![m, n]⟩ : Shape) .f32))
    (inb : ∀ a, (![o, q] : Fin 2 → ℕ) a + (⟨2, ![k, l]⟩ : Shape).size a ≤ (⟨2, ![m, n]⟩ : Shape).size a)
    (inb' : ∀ a, (![o', q'] : Fin 2 → ℕ) a + (⟨2, ![k', l']⟩ : Shape).size a ≤ (⟨2, ![m, n]⟩ : Shape).size a)
    (h : o ≤ o' ∧ q ≤ q') (h1 : o' - o + k' ≤ k) (h2 : q' - q + l' ≤ l) :
    v.readCov (Val := Elt Ideal) (no_index ((⟨Rect.unit (s := (⟨2, ![m, n]⟩ : Shape)) ![o, q] (⟨2, ![k, l]⟩ : Shape).size inb, w⟩ :
        View.Piece (Elt Ideal) (⟨2, ![m, n]⟩ : Shape) .f32) :: L))
      (no_index (Rect.unit (s := (⟨2, ![m, n]⟩ : Shape)) ![o', q'] (⟨2, ![k', l']⟩ : Shape).size inb').toLoadRect)
      = (win (α := Elt Ideal .f32) w (o' - o) (q' - q) h1 h2 : (⟨2, ![k', l']⟩ : Shape).Idx → Elt Ideal .f32) := by
  rw [load_win]
  funext i
  simp only [win]
  rw [show (ix2 (⟨o' + (i 0).val, _⟩ : Fin m) (⟨q' + (i 1).val, _⟩ : Fin n) : (⟨2, ![m, n]⟩ : Shape).Idx)
      = (Rect.unit (s := (⟨2, ![m, n]⟩ : Shape)) ![o, q] (⟨2, ![k, l]⟩ : Shape).size inb).emb
        (ix2 (⟨o' - o + (i 0).val, by have : (i 0).val < k' := (i 0).isLt; omega⟩ : Fin k)
          (⟨q' - q + (i 1).val, by have : (i 1).val < l' := (i 1).isLt; omega⟩ : Fin l)) from ?_, View.canon_cons_emb]
  funext a; apply Fin.ext
  fin_cases a
  · show o' + (i 0).val = o + 1 * (o' - o + (i 0).val); omega
  · show q' + (i 1).val = q + 1 * (q' - q + (i 1).val); omega
end
variable (m : (ℓ : Loc nD τ sig) → Buf (Elt Ideal) ℓ)

/-- The gradient's rows of a point with the next rows after them, as its scratch array holds them. -/
def extD (c : Dev nD) (t : Fin cfg0.N) : Vec Ideal S160x512 .f32 :=
  View.canon (Val := Elt Ideal) [⟨Rect.unit (s := S160x512) ![128, 0] ![32, 512] inb_S160x512_S32x512_128_0,
      k0_pay6 (F := Ideal) (BitVec.ofNat 32 (grid0.coords t 0).val) (iblk m c 1 t)⟩,
    ⟨Rect.unit (s := S160x512) ![0, 0] ![128, 512] inb_S160x512_S128x512_0_0, k0_pay5 (F := Ideal) (iblk m c 0 t)⟩]

/-- The gated values' rows of a point with the previous rows before them, as its scratch array holds them. -/
def extG (c : Dev nD) (t : Fin cfg0.N) : Vec Ideal S160x512 .f32 :=
  View.canon (Val := Elt Ideal) [⟨Rect.unit (s := S160x512) ![32, 0] ![128, 512] inb_S160x512_S128x512_32_0,
      k0_pay4 (F := Ideal) (X0_2 m c t)⟩,
    ⟨Rect.unit (s := S160x512) ![0, 0] ![32, 512] inb_S160x512_S32x512_0_0, k0_pay3 (F := Ideal) (grid0.coords t) (X0_3 m c t)⟩]

/-- A load of the gradient's scratch array is a window of it. -/
theorem load_extD {κ sp} (v : View sig κ sp S160x512 .f32) (c : Dev nD) (t : Fin cfg0.N) {k l o q : ℕ}
    (inb : ∀ a, (![o, q] : Fin 2 → ℕ) a + (⟨2, ![k, l]⟩ : Shape).size a ≤ S160x512.size a) :
    v.readCov (Val := Elt Ideal) (no_index [⟨Rect.unit (s := S160x512) ![128, 0] ![32, 512] inb_S160x512_S32x512_128_0,
      k0_pay6 (F := Ideal) (BitVec.ofNat 32 (grid0.coords t 0).val) (iblk m c 1 t)⟩,
    ⟨Rect.unit (s := S160x512) ![0, 0] ![128, 512] inb_S160x512_S128x512_0_0, k0_pay5 (F := Ideal) (iblk m c 0 t)⟩])
      (no_index (Rect.unit (s := S160x512) ![o, q] (⟨2, ![k, l]⟩ : Shape).size inb).toLoadRect)
      = (win (α := Elt Ideal .f32) (extD m c t) o q (rows_fit inb) (cols_fit inb) : Vec Ideal (⟨2, ![k, l]⟩ : Shape) .f32) := load_win v _ inb

/-- A load of the gated values' scratch array is a window of it. -/
theorem load_extG {κ sp} (v : View sig κ sp S160x512 .f32) (c : Dev nD) (t : Fin cfg0.N) {k l o q : ℕ}
    (inb : ∀ a, (![o, q] : Fin 2 → ℕ) a + (⟨2, ![k, l]⟩ : Shape).size a ≤ S160x512.size a) :
    v.readCov (Val := Elt Ideal) (no_index [⟨Rect.unit (s := S160x512) ![32, 0] ![128, 512] inb_S160x512_S128x512_32_0,
      k0_pay4 (F := Ideal) (X0_2 m c t)⟩,
    ⟨Rect.unit (s := S160x512) ![0, 0] ![32, 512] inb_S160x512_S32x512_0_0, k0_pay3 (F := Ideal) (grid0.coords t) (X0_3 m c t)⟩])
      (no_index (Rect.unit (s := S160x512) ![o, q] (⟨2, ![k, l]⟩ : Shape).size inb).toLoadRect)
      = (win (α := Elt Ideal .f32) (extG m c t) o q (rows_fit inb) (cols_fit inb) : Vec Ideal (⟨2, ![k, l]⟩ : Shape) .f32) := load_win v _ inb

/-- A load of an array is a window of it. -/
theorem ld_win {m n k l o q : ℕ} (X : Vec Ideal (⟨2, ![m, n]⟩ : Shape) .f32)
    (inb : ∀ a, (![o, q] : Fin 2 → ℕ) a + (⟨2, ![k, l]⟩ : Shape).size a ≤ (⟨2, ![m, n]⟩ : Shape).size a) :
    View.ld (Val := Elt Ideal) (e' := .f32) X (no_index (Rect.unit (s := (⟨2, ![m, n]⟩ : Shape)) ![o, q] (⟨2, ![k, l]⟩ : Shape).size inb))
      = (win (α := Elt Ideal .f32) X o q (rows_fit inb) (cols_fit inb) : Vec Ideal (⟨2, ![k, l]⟩ : Shape) .f32) := by
  funext i
  refine congrArg X ?_
  funext a; apply Fin.ext
  fin_cases a
  · show o + 1 * (i 0).val = o + (i 0).val; omega
  · show q + 1 * (i 1).val = q + (i 1).val; omega

/-- Each of the first `n` stores of a list is a block of `G`. -/
def BlocksOf {S : Shape} {e : EltTy} (G : S.Idx → Elt Ideal e) : ℕ → List (View.Piece (Elt Ideal) S e) → Prop
  | 0, _ => True
  | _ + 1, [] => False
  | n + 1, p :: L => (∀ x : p.1.shape.Idx, p.2 x = G (p.1.emb x)) ∧ BlocksOf G n L

/-- The first stores of the list, as a list of blocks of `G`. -/
theorem BlocksOf.take {S : Shape} {e : EltTy} {G : S.Idx → Elt Ideal e} : ∀ (n : ℕ) (L : List (View.Piece (Elt Ideal) S e)),
    BlocksOf G n L → View.PiecesOf (Val := Elt Ideal) (e := e) G (L.take n)
  | 0, _, _ => trivial
  | _ + 1, [], h => h.elim
  | n + 1, _ :: L, h => ⟨h.1, BlocksOf.take n L h.2⟩

/-- Some of the first `n` stores holds the index, when these and the further rectangles tile the array and none of the
    further ones holds it. -/
theorem mem_of_tiled {S : Shape} {e : EltTy} (n : ℕ) (L R : List (View.Piece (Elt Ideal) S e)) (g : Fin S.rank → ℕ)
    (ht : View.Piece.tiledBy (L.take n ++ R) g = true) (y : S.Idx) (hy : ∀ p ∈ R, y ∉ p.1.set) : ∃ p ∈ L.take n, y ∈ p.1.set := by
  obtain ⟨p, hp, hm⟩ := View.cover_of_tiledBy (L.take n ++ R) g ht y
  rcases List.mem_append.mp hp with h | h
  · exact ⟨p, h, hm⟩
  · exact absurd hm (hy p h)

/-- What a list of stores whose first `n` are blocks of `G` leaves where these reach. -/
theorem canon_of_blocks {S : Shape} {e : EltTy} (G : S.Idx → Elt Ideal e) (n : ℕ) (L R : List (View.Piece (Elt Ideal) S e))
    (g : Fin S.rank → ℕ) (h : BlocksOf G n L) (ht : View.Piece.tiledBy (L.take n ++ R) g = true) (y : S.Idx)
    (hy : ∀ p ∈ R, y ∉ p.1.set) : View.canon L y = G y := by
  rw [← List.take_append_drop n L]
  exact View.canon_append_of_piecesOf (Val := Elt Ideal) (e := e) G _ _ (h.take n L) y (mem_of_tiled n L R g ht y hy)

/-- Two coordinates of an index of a matrix. -/
theorem exists_ix2 {k l : ℕ} (x : (⟨2, ![k, l]⟩ : Shape).Idx) : ∃ (i : Fin k) (j : Fin l), x = ix2 i j := by
  refine ⟨x 0, x 1, ?_⟩
  funext a
  fin_cases a <;> rfl

/-- The sum over the sixteen groups of eight rows of a product of two tiles, at one row of a group. -/
theorem groups_sum (A B : FVec Ideal S128x128 .f32) (i : Fin 8) (l : Fin 128) :
    multiReduction (F := Ideal) .add [0] S8x128 (shapeCast S16x8x128 (mulf A B) shapeCasts_S128x128_S16x8x128) 0x00000000#32
        reduces_S16x8x128_S8x128 (.inl rfl) rfl (ix2 i l)
      = ∑ k : Fin 16, A (ix2 (⟨k.val * 8 + i.val, by omega⟩ : Fin 128) l) * B (ix2 (⟨k.val * 8 + i.val, by omega⟩ : Fin 128) l) := by
  pointwise

/-- Half of a hyperbolic tangent of half, plus a half: the logistic function, at the infinities too. -/
theorem sigm_eq (z : EReal) : ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot, show (-1 : EReal) = ((-1 : ℝ) : EReal) from rfl,
      ← EReal.coe_mul, ← EReal.coe_add]
    norm_num
  | top =>
    rw [EReal.coe_mul_top_of_pos (by norm_num), Ideal.tanh_top, Ideal.logistic_top, show (1 : EReal) = ((1 : ℝ) : EReal) from rfl,
      ← EReal.coe_mul, ← EReal.coe_add]
    norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq, show -r = -(1 / 2 * r) + -(1 / 2 * r) by ring, Real.exp_add,
      Real.exp_neg]
    have h := Real.exp_pos (1 / 2 * r)
    field_simp
    ring

/-- The sum over the taps in the order of the kernel's passes. -/
theorem taps_sum (f : Fin 31 → EReal) :
    f 6 + f 14 + f 22 + f 30 + f 5 + f 13 + f 21 + f 29 + f 4 + f 12 + f 20 + f 28 + f 3 + f 11 + f 19 + f 27 + f 2 + f 10 + f 18
      + f 26 + f 1 + f 9 + f 17 + f 25 + f 0 + f 8 + f 16 + f 24 + f 7 + f 15 + f 23 = ∑ j, f j := by
  rw [Fin.sum_univ_def]
  have h : List.Perm ([6, 14, 22, 30, 5, 13, 21, 29, 4, 12, 20, 28, 3, 11, 19, 27, 2, 10, 18, 26, 1, 9, 17, 25, 0, 8, 16, 24, 7,
    15, 23] : List (Fin 31)) (List.finRange 31) := by decide
  rw [← (h.map f).sum_eq]
  simp only [List.map_cons, List.map_nil, List.sum_cons, List.sum_nil, add_zero, add_assoc]

/-- What the kernel leaves in a block of the gradient: in the first half of the columns the taps' sum times the gate, in
    the second half times the gated value and the gate's derivative. -/
def gradTile (w : Vec Ideal S32x512 .f32) (D : Vec Ideal S160x512 .f32) (u : Vec Ideal S128x1024 .f32) : S128x1024.Idx → EReal :=
  fun y =>
    let r : Fin 128 := y 0
    let k : Fin 1024 := y 1
    let q : Fin 512 := ⟨k.val % 512, Nat.mod_lt _ (by norm_num)⟩
    let s : EReal := ∑ j : Fin 31, w (ix2 (⟨j.val, by omega⟩ : Fin 32) q) * D (ix2 (⟨30 - j.val + r.val, by omega⟩ : Fin 160) q)
    let z : EReal := Ideal.logistic (u (ix2 r (⟨512 + q.val, by omega⟩ : Fin 1024)))
    if k.val < 512 then s * z else s * u (ix2 r (⟨q.val, by omega⟩ : Fin 1024)) * (z * (1 - z))

/-- `gradTile` in its first half. -/
theorem gradTile_lo (w D u) (r : Fin 128) (q : Fin 512) :
    gradTile w D u (ix2 r (⟨q.val, by omega⟩ : Fin 1024))
      = (∑ j : Fin 31, w (ix2 (⟨j.val, by omega⟩ : Fin 32) q) * D (ix2 (⟨30 - j.val + r.val, by omega⟩ : Fin 160) q))
        * Ideal.logistic (u (ix2 r (⟨512 + q.val, by omega⟩ : Fin 1024))) := by
  unfold gradTile
  have e : (⟨q.val % 512, Nat.mod_lt _ (by norm_num)⟩ : Fin 512) = q := Fin.ext (Nat.mod_eq_of_lt q.isLt)
  show (if q.val < 512 then _ else _) = _
  rw [if_pos q.isLt]
  simp only [ix2]
  show (∑ j : Fin 31, w (ix2 _ (⟨q.val % 512, _⟩ : Fin 512)) * D (ix2 _ (⟨q.val % 512, _⟩ : Fin 512))) * Ideal.logistic (u (ix2 _ (⟨512 + q.val % 512, _⟩ : Fin 1024))) = _
  simp only [Nat.mod_eq_of_lt q.isLt]

/-- `gradTile` in its second half. -/
theorem gradTile_hi (w D u) (r : Fin 128) (q : Fin 512) :
    gradTile w D u (ix2 r (⟨512 + q.val, by omega⟩ : Fin 1024))
      = (∑ j : Fin 31, w (ix2 (⟨j.val, by omega⟩ : Fin 32) q) * D (ix2 (⟨30 - j.val + r.val, by omega⟩ : Fin 160) q))
        * u (ix2 r (⟨q.val, by omega⟩ : Fin 1024))
        * (Ideal.logistic (u (ix2 r (⟨512 + q.val, by omega⟩ : Fin 1024)))
          * (1 - Ideal.logistic (u (ix2 r (⟨512 + q.val, by omega⟩ : Fin 1024))))) := by
  unfold gradTile
  show (if 512 + q.val < 512 then _ else _) = _
  rw [if_neg (by omega)]
  have e : (512 + q.val) % 512 = q.val := by omega
  show (∑ j : Fin 31, w (ix2 _ (⟨(512 + q.val) % 512, _⟩ : Fin 512)) * D (ix2 _ (⟨(512 + q.val) % 512, _⟩ : Fin 512)))
    * u (ix2 _ (⟨(512 + q.val) % 512, _⟩ : Fin 1024)) * (Ideal.logistic (u (ix2 _ (⟨512 + (512 + q.val) % 512, _⟩ : Fin 1024)))
      * (1 - Ideal.logistic (u (ix2 _ (⟨512 + (512 + q.val) % 512, _⟩ : Fin 1024))))) = _
  simp only [e]
  rfl

/-- `gradTile` at an index of a tile in the first half. -/
theorem gradTile_lo_tile (w D u) (o : ℕ) (ho : o + 128 ≤ 512) (i l : Fin 128) (a : Fin 128) (b : Fin 1024) (ha : a.val = i.val)
    (hb : b.val = o + l.val) :
    gradTile w D u (ix2 a b)
      = (∑ j : Fin 31, (win w j.val o (by omega) ho : Vec Ideal S1x128 .f32) (ix2 0 l)
            * (win D (30 - j.val) o (by omega) ho : Vec Ideal S128x128 .f32) (ix2 i l))
        * Ideal.logistic ((win u 0 (512 + o) (by omega) (by omega) : Vec Ideal S128x128 .f32) (ix2 i l)) := by
  obtain rfl : a = i := Fin.ext ha
  have hb' : b = ⟨(⟨o + l.val, by omega⟩ : Fin 512).val, by have := l.isLt; show o + l.val < 1024; omega⟩ := Fin.ext hb
  refine (congrArg (fun z => gradTile w D u (ix2 a z)) hb').trans ?_
  rw [gradTile_lo]
  refine congrArg₂ (· * ·) (Finset.sum_congr rfl fun j _ => rfl) (congrArg (fun k => Ideal.logistic (u k)) ?_)
  exact congrArg₂ ix2 (Fin.ext (Nat.zero_add _).symm) (Fin.ext (Nat.add_assoc _ _ _).symm)

/-- `gradTile` at an index of a tile in the second half. -/
theorem gradTile_hi_tile (w D u) (o : ℕ) (ho : o + 128 ≤ 512) (i l : Fin 128) (a : Fin 128) (b : Fin 1024) (ha : a.val = i.val)
    (hb : b.val = 512 + o + l.val) :
    gradTile w D u (ix2 a b)
      = (∑ j : Fin 31, (win w j.val o (by omega) ho : Vec Ideal S1x128 .f32) (ix2 0 l)
            * (win D (30 - j.val) o (by omega) ho : Vec Ideal S128x128 .f32) (ix2 i l))
        * (win u 0 o (by omega) (by omega) : Vec Ideal S128x128 .f32) (ix2 i l)
        * (Ideal.logistic ((win u 0 (512 + o) (by omega) (by omega) : Vec Ideal S128x128 .f32) (ix2 i l))
          * (1 - Ideal.logistic ((win u 0 (512 + o) (by omega) (by omega) : Vec Ideal S128x128 .f32) (ix2 i l)))) := by
  obtain rfl : a = i := Fin.ext ha
  have hb' : b = ⟨512 + (⟨o + l.val, by omega⟩ : Fin 512).val, by have := l.isLt; show 512 + (o + l.val) < 1024; omega⟩ :=
    Fin.ext (hb.trans (Nat.add_assoc _ _ _))
  refine (congrArg (fun z => gradTile w D u (ix2 a z)) hb').trans ?_
  rw [gradTile_hi]
  have e1 : (ix2 a (⟨o + l.val, by omega⟩ : Fin 1024) : S128x1024.Idx)
      = ix2 (⟨0 + a.val, by omega⟩ : Fin 128) (⟨o + l.val, by omega⟩ : Fin 1024) :=
    congrArg₂ ix2 (Fin.ext (Nat.zero_add _).symm) rfl
  have e2 : (ix2 a (⟨512 + (o + l.val), by omega⟩ : Fin 1024) : S128x1024.Idx)
      = ix2 (⟨0 + a.val, by omega⟩ : Fin 128) (⟨512 + o + l.val, by omega⟩ : Fin 1024) :=
    congrArg₂ ix2 (Fin.ext (Nat.zero_add _).symm) (Fin.ext (Nat.add_assoc _ _ _).symm)
  rw [e1, e2]
  rfl

/-- Where a tile's index lies in the array. -/
theorem tile_idx {m n k l o q : ℕ}
    (inb : ∀ a, (![o, q] : Fin 2 → ℕ) a + (⟨2, ![k, l]⟩ : Shape).size a ≤ (⟨2, ![m, n]⟩ : Shape).size a) (i : Fin k) (j : Fin l) :
    (Rect.unit (s := (⟨2, ![m, n]⟩ : Shape)) ![o, q] (⟨2, ![k, l]⟩ : Shape).size inb).emb (ix2 i j)
      = ix2 (⟨o + i.val, by have := rows_fit inb; omega⟩ : Fin m) (⟨q + j.val, by have := cols_fit inb; omega⟩ : Fin n) := by
  funext a; apply Fin.ext
  fin_cases a
  · show o + 1 * i.val = o + i.val; omega
  · show q + 1 * j.val = q + j.val; omega

/-- The kernel's constant one half. -/
theorem half_def : (Ideal.ofBits FTy.f32 1056964608#32 : EReal) = ((1 / 2 : ℝ) : EReal) := by
  simp [Ideal.ofBits, Ideal.ieee, -EReal.coe_mul]; norm_num

/-- What the kernel leaves in its partial sums of the taps' gradient at a point: to what was there, in eight rows for each
    tap, it adds the point's products, row by row modulo eight. -/
def tapTile (P : Vec Ideal S256x512 .f32) (d : Vec Ideal S128x512 .f32) (G : Vec Ideal S160x512 .f32) : S256x512.Idx → EReal :=
  fun y =>
    let r : Fin 256 := y 0
    let q : Fin 512 := y 1
    P (ix2 r q) + ∑ k : Fin 16, d (ix2 (⟨k.val * 8 + r.val % 8, by omega⟩ : Fin 128) q)
      * G (ix2 (⟨min (r.val / 8) 30 + 2 + (k.val * 8 + r.val % 8), by omega⟩ : Fin 160) q)

/-- `tapTile` at an index of a tile. -/
theorem tapTile_tile (P d G) (o p q : ℕ) (ho : o = 8 * (p - 2)) (hp : 2 ≤ p) (hp' : p ≤ 32) (hq : q + 128 ≤ 512)
    (i : Fin 8) (l : Fin 128) (a : Fin 256) (b : Fin 512) (ha : a.val = o + i.val) (hb : b.val = q + l.val) :
    tapTile P d G (ix2 a b)
      = (win P o q (by omega) hq : Vec Ideal S8x128 .f32) (ix2 i l)
        + ∑ k : Fin 16, (win d 0 q (by omega) hq : Vec Ideal S128x128 .f32) (ix2 (⟨k.val * 8 + i.val, by omega⟩ : Fin 128) l)
            * (win G p q (by omega) hq : Vec Ideal S128x128 .f32) (ix2 (⟨k.val * 8 + i.val, by omega⟩ : Fin 128) l) := by
  have h8 : a.val % 8 = i.val := by have := i.isLt; omega
  have hd : min (a.val / 8) 30 + 2 = p := by have := i.isLt; have := a.isLt; omega
  have e0 : (ix2 a b : S256x512.Idx) = ix2 (⟨o + i.val, by omega⟩ : Fin 256) (⟨q + l.val, by omega⟩ : Fin 512) :=
    congrArg₂ ix2 (Fin.ext ha) (Fin.ext hb)
  refine congrArg₂ (· + ·) (congrArg P e0) (Finset.sum_congr rfl fun k _ => congrArg₂ (· * ·) (congrArg d ?_) (congrArg G ?_))
  · refine congrArg₂ ix2 (Fin.ext ?_) (Fin.ext hb)
    show k.val * 8 + a.val % 8 = 0 + (k.val * 8 + i.val)
    omega
  · refine congrArg₂ ix2 (Fin.ext ?_) (Fin.ext hb)
    show min (a.val / 8) 30 + 2 + (k.val * 8 + a.val % 8) = p + (k.val * 8 + i.val)
    omega

/-- A rectangle lies in an array, from its two extents. -/
theorem fits {m n k l o q : ℕ} (h1 : o + k ≤ m) (h2 : q + l ≤ n) :
    ∀ a, (![o, q] : Fin 2 → ℕ) a + (⟨2, ![k, l]⟩ : Shape).size a ≤ (⟨2, ![m, n]⟩ : Shape).size a := fun a => by
  fin_cases a
  · exact h1
  · exact h2

/-- One store of the partial sums is a block of `tapTile`. -/
theorem tap_piece (P : Vec Ideal S256x512 .f32) (d : Vec Ideal S128x512 .f32) (G : Vec Ideal S160x512 .f32) {o p q : ℕ}
    (h1 : o + 8 ≤ 256) (h2 : q + 128 ≤ 512) (h4 : p + 128 ≤ 160)
    (ho : o = 8 * (p - 2)) (hp : 2 ≤ p) (x : S8x128.Idx) :
    (addf (win (α := Elt Ideal .f32) P o q h1 h2 : FVec Ideal S8x128 .f32)
      (multiReduction (F := Ideal) .add [0] S8x128 (shapeCast S16x8x128 (mulf (win (α := Elt Ideal .f32) d 0 q (Nat.le_refl 128) h2 : FVec Ideal S128x128 .f32)
        (win (α := Elt Ideal .f32) G p q h4 h2)) shapeCasts_S128x128_S16x8x128) 0x00000000#32 reduces_S16x8x128_S8x128 (.inl rfl) rfl)) x
      = tapTile P d G ((Rect.unit (s := S256x512) ![o, q] S8x128.size (fits h1 h2)).emb x) := by
  obtain ⟨i, l, rfl⟩ : ∃ (i : Fin 8) (l : Fin 128), x = ix2 i l := exists_ix2 x
  rw [tile_idx, tapTile_tile P d G o p q ho hp (by omega) h2 i l _ _ rfl rfl]
  exact congrArg₂ (· + ·) rfl (groups_sum _ _ i l)

/-- The rows beyond the last tap's. -/
theorem not_mem_last (y : S256x512.Idx) (hy : (y 0).val < 248) (w) :
    ∀ p ∈ ([⟨Rect.unit (s := S256x512) ![248, 0] ![8, 512] (by decide), w⟩] : List (View.Piece (Elt Ideal) S256x512 .f32)),
      y ∉ p.1.set := by
  intro p hp hm
  obtain rfl := List.mem_singleton.mp hp
  have hm' : y ∈ (Rect.unit (s := S256x512) ![248, 0] ![8, 512] (by decide)).set := hm
  have h : (248 : ℕ) ≤ (y 0).val := (Rect.mem_set_unit.mp hm' 0).1
  omega

end Cert.KernelIdeal.Conv
end
-- ==== Proof.ConvBlocks.lean ====
module

public import proofs.«01_k».proof.Proof.ConvKit

@[expose] public section

set_option maxRecDepth 16384

noncomputable section

open Idealize.ShloMosaic Idealize.ShloMosaic.TcCoe Idealize.SL.Sem
open Idealize.ShloMosaic.Pipeline (Dat)

namespace Cert.KernelIdeal.Conv
open Cert.KernelIdeal Cert.KernelIdeal.Gen

variable (m : (ℓ : Loc nD τ sig) → Buf (Elt Ideal) ℓ)

/-- The printed index maps over the 32 grid points. -/
theorem idx : ∀ t : Fin cfg0.N, win0_0.index t = ![t.val, 0] ∧ win0_1.index t = ![min ((t.val + 1) * 4) 127, 0]
    ∧ win0_2.index t = ![t.val, 5] ∧ win0_3.index t = ![t.val * 4 - 1, 5] ∧ win0_4.index t = ![0, 0]
    ∧ win0_5.index t = ![t.val, 5] ∧ win0_6.index t = ![0, 0] := (by decide +kernel : ∀ t : Fin grid0.N, _)

/-- The kernel's comparison of the grid coordinate with the last point. -/
theorem not_last : ∀ t : Fin cfg0.N, Scalar.cmpi .slt (BitVec.ofNat 32 (grid0.coords t 0).val) 31#32 = if t.val < 31 then 1#1 else 0#1 :=
  (by decide +kernel : ∀ t : Fin grid0.N, _)

/-- The kernel's comparison of the grid coordinate with the first point. -/
theorem not_first : ∀ t : Fin cfg0.N, Scalar.cmpi .sgt (BitVec.ofNat 32 (grid0.coords t 0).val) 0#32 = if 0 < t.val then 1#1 else 0#1 :=
  (by decide +kernel : ∀ t : Fin grid0.N, _)

/-- The gradient of the convolution's result, zero beyond its last row. -/
def late (d : FVec Ideal S4096x512 .f32) (x : ℕ) (q : Fin 512) : EReal := if h : x < 4096 then d (ix2 (⟨x, h⟩ : Fin 4096) q) else 0

/-- The gated value of a row of the projection. -/
def gated (p : FVec Ideal S4096x8704 .f32) (r : Fin 4096) (q : Fin 512) : EReal :=
  p (ix2 r (⟨5120 + q.val, by omega⟩ : Fin 8704)) * Ideal.logistic (p (ix2 r (⟨5632 + q.val, by omega⟩ : Fin 8704)))

/-- The gated values after thirty rows of zeros, which the convolution runs over. -/
def past (p : FVec Ideal S4096x8704 .f32) (x : ℕ) (q : Fin 512) : EReal :=
  if h : 30 ≤ x ∧ x < 4126 then gated p (⟨x - 30, by omega⟩ : Fin 4096) q else 0

/-- The gated value from its two factors. -/
theorem gated_eq (p : FVec Ideal S4096x8704 .f32) (r r' : Fin 4096) (a b : Fin 8704) (q : Fin 512) (hr : r.val = r'.val)
    (ha : a.val = 5120 + q.val) (hb : b.val = 5632 + q.val) : p (ix2 r a) * Ideal.logistic (p (ix2 r b)) = gated p r' q := by
  obtain rfl : r = r' := Fin.ext hr
  exact congrArg₂ (fun a b => p (ix2 r a) * Ideal.logistic (p (ix2 r b))) (Fin.ext ha) (Fin.ext hb)

/-- A row above a rectangle's first is not in it. -/
theorem above {m n k l o : ℕ} (inb : ∀ a, (![o, 0] : Fin 2 → ℕ) a + (⟨2, ![k, l]⟩ : Shape).size a ≤ (⟨2, ![m, n]⟩ : Shape).size a)
    (r : Fin m) (q : Fin n) (hr : r.val < o) :
    ix2 r q ∉ (Rect.unit (s := (⟨2, ![m, n]⟩ : Shape)) ![o, 0] (⟨2, ![k, l]⟩ : Shape).size inb).set := fun hm => by
  have h : o ≤ r.val := (Rect.mem_set_unit.mp hm 0).1
  omega

/-- The gradient's block. -/
theorem blk0 (c : Dev nD) (t : Fin cfg0.N) (r : Fin 128) (q : Fin 512) :
    (iblk m c 0 t : Vec Ideal S128x512 .f32) (ix2 r q) = late (m ((c : Thread nD τ).loc main_arg0)) (128 * t.val + r.val) q := by
  have hN : t.val < 32 := lt_of_lt_of_eq t.isLt N_0
  unfold late
  rw [dif_pos (by omega)]
  blk_simp [iblk]
  entry_read
  blk_ext [idx t]

/-- The gradient's next rows. -/
theorem blk1 (c : Dev nD) (t : Fin cfg0.N) (r : Fin 32) (q : Fin 512) (ht : t.val < 31) :
    (iblk m c 1 t : Vec Ideal S32x512 .f32) (ix2 r q) = late (m ((c : Thread nD τ).loc main_arg0)) (128 * t.val + (128 + r.val)) q := by
  have hN : t.val < 32 := lt_of_lt_of_eq t.isLt N_0
  unfold late
  rw [dif_pos (by omega)]
  blk_simp [iblk]
  entry_read
  blk_ext [idx t]

/-- The projection's block. -/
theorem blk2 (c : Dev nD) (t : Fin cfg0.N) (r : Fin 128) (k : Fin 1024) :
    (X0_2 m c t : Vec Ideal S128x1024 .f32) (ix2 r k)
      = m ((c : Thread nD τ).loc main_arg1) (ix2 (⟨128 * t.val + r.val, by have := lt_of_lt_of_eq t.isLt N_0; omega⟩ : Fin 4096)
          (⟨5120 + k.val, by omega⟩ : Fin 8704)) := by
  have hN : t.val < 32 := lt_of_lt_of_eq t.isLt N_0
  unfold X0_2 Pipeline.Window.fill
  rw [dif_pos (moved0_2 t (ix2 r k))]
  blk_simp [iblk]
  entry_read
  blk_ext [idx t]

/-- The projection's previous rows. -/
theorem blk3 (c : Dev nD) (t : Fin cfg0.N) (r : Fin 32) (k : Fin 1024) (ht : 0 < t.val) :
    (X0_3 m c t : Vec Ideal S32x1024 .f32) (ix2 r k)
      = m ((c : Thread nD τ).loc main_arg1) (ix2 (⟨128 * t.val + r.val - 32, by have := lt_of_lt_of_eq t.isLt N_0; omega⟩ : Fin 4096)
          (⟨5120 + k.val, by omega⟩ : Fin 8704)) := by
  have hN : t.val < 32 := lt_of_lt_of_eq t.isLt N_0
  unfold X0_3 Pipeline.Window.fill
  rw [dif_pos (moved0_3 t (ix2 r k))]
  blk_simp [iblk]
  entry_read
  blk_ext [idx t]

/-- The taps' weights with a row of zeros, as the region finds them. -/
theorem V_main_v0 (c : Dev nD) : V m c main_v0 = pad S32x512 ![0, 0] ![1, 0] ![0, 0] (m ((c : Thread nD τ).loc main_arg2))
    (sitofp (F := Ideal) .f32 (constantI S_ 32 0#32)) pads_S31x512_S32x512_010_000 h_S_ := rfl

/-- The array that the kernel updates in place, as the region finds it. -/
theorem V_main_v1_0 (c : Dev nD) : V m c main_v1_0 = m ((c : Thread nD τ).loc main_arg3) := rfl

/-- The taps' weights. -/
theorem blk4 (c : Dev nD) (t : Fin cfg0.N) (j : Fin 31) (q : Fin 512) :
    (iblk m c 4 t : Vec Ideal S32x512 .f32) (ix2 (⟨j.val, by omega⟩ : Fin 32) q) = m ((c : Thread nD τ).loc main_arg2) (ix2 j q) := by
  have hN : t.val < 32 := lt_of_lt_of_eq t.isLt N_0
  blk_simp [iblk]
  rw [V_main_v0]
  have e : (((View.whole main_v0).slice (win0_4.rect t)).emb (ix2 (⟨j.val, by omega⟩ : Fin 32) q) : S32x512.Idx)
      = ix2 (⟨j.val, by omega⟩ : Fin 32) q := by
    blk_ext [idx t]
  refine (congrArg _ e).trans ?_
  pointwise
  rw [dif_pos]
  intro a
  fin_cases a
  · show 0 ≤ j.val ∧ (j.val - 0) % (0 + 1) = 0 ∧ (j.val - 0) / (0 + 1) < 31
    omega
  · show 0 ≤ q.val ∧ (q.val - 0) % (0 + 1) = 0 ∧ (q.val - 0) / (0 + 1) < 512
    omega

/-- The gradient's extension holds the block's rows and the next ones, zero beyond the last. -/
theorem extD_at (c : Dev nD) (t : Fin cfg0.N) (r : Fin 160) (q : Fin 512) :
    extD m c t (ix2 r q) = late (m ((c : Thread nD τ).loc main_arg0)) (128 * t.val + r.val) q := by
  have hN : t.val < 32 := lt_of_lt_of_eq t.isLt N_0
  unfold extD
  by_cases hr : r.val < 128
  · rw [View.canon_cons_of_not_mem]
    · obtain ⟨i, hi⟩ : ∃ i : Fin 128, i.val = r.val := ⟨⟨r.val, hr⟩, rfl⟩
      have e : (ix2 r q : S160x512.Idx) = (Rect.unit (s := S160x512) ![0, 0] S128x512.size inb_S160x512_S128x512_0_0).emb (ix2 i q) := by
        rw [tile_idx]
        exact congrArg₂ ix2 (Fin.ext (by show r.val = 0 + i.val; omega)) (Fin.ext (Nat.zero_add _).symm)
      rw [e, View.canon_cons_emb, k0_pay5, shapeCast_self, blk0, hi]
    · exact above inb_S160x512_S32x512_128_0 r q hr
  · obtain ⟨i, hi⟩ : ∃ i : Fin 32, r.val = 128 + i.val := ⟨⟨r.val - 128, by omega⟩, by show r.val = 128 + (r.val - 128); omega⟩
    have e : (ix2 r q : S160x512.Idx) = (Rect.unit (s := S160x512) ![128, 0] S32x512.size inb_S160x512_S32x512_128_0).emb (ix2 i q) := by
      rw [tile_idx]
      exact congrArg₂ ix2 (Fin.ext hi) (Fin.ext (Nat.zero_add _).symm)
    rw [e, View.canon_cons_emb, k0_pay6, shapeCast_self, not_last t, hi]
    by_cases ht : t.val < 31
    · rw [if_pos ht, ← blk1 m c t i q ht]
      rfl
    · rw [if_neg ht, late, dif_neg (by omega)]
      pointwise

/-- The gated values' extension holds the previous rows' and the block's, zero before the first. -/
theorem extG_at (c : Dev nD) (t : Fin cfg0.N) (r : Fin 160) (q : Fin 512) (hr2 : 2 ≤ r.val) :
    extG m c t (ix2 r q) = past (m ((c : Thread nD τ).loc main_arg1)) (128 * t.val + r.val - 2) q := by
  have hN : t.val < 32 := lt_of_lt_of_eq t.isLt N_0
  unfold extG
  by_cases hr : r.val < 32
  · rw [View.canon_cons_of_not_mem]
    · obtain ⟨i, hi⟩ : ∃ i : Fin 32, i.val = r.val := ⟨⟨r.val, hr⟩, rfl⟩
      have e : (ix2 r q : S160x512.Idx) = (Rect.unit (s := S160x512) ![0, 0] S32x512.size inb_S160x512_S32x512_0_0).emb (ix2 i q) := by
        rw [tile_idx]
        exact congrArg₂ ix2 (Fin.ext (by show r.val = 0 + i.val; omega)) (Fin.ext (Nat.zero_add _).symm)
      rw [e, View.canon_cons_emb, k0_pay3, shapeCast_self, not_first t]
      by_cases ht : 0 < t.val
      · rw [if_pos ht, past, dif_pos (by omega)]
        pointwise [half_def, sigm_eq, blk3 m c t _ _ ht]
        exact gated_eq _ _ _ _ _ q (by show 128 * t.val + i.val - 32 = 128 * t.val + r.val - 2 - 30; omega) rfl
          (by show 5120 + (512 + q.val) = 5632 + q.val; omega)
      · rw [if_neg ht, past, dif_neg (by omega)]
        pointwise
    · exact above inb_S160x512_S128x512_32_0 r q hr
  · obtain ⟨i, hi⟩ : ∃ i : Fin 128, r.val = 32 + i.val := ⟨⟨r.val - 32, by omega⟩, by show r.val = 32 + (r.val - 32); omega⟩
    have e : (ix2 r q : S160x512.Idx) = (Rect.unit (s := S160x512) ![32, 0] S128x512.size inb_S160x512_S128x512_32_0).emb (ix2 i q) := by
      rw [tile_idx]
      exact congrArg₂ ix2 (Fin.ext hi) (Fin.ext (Nat.zero_add _).symm)
    rw [e, View.canon_cons_emb, k0_pay4, shapeCast_self, past, dif_pos (by omega)]
    pointwise [half_def, sigm_eq, blk2 m c t]
    exact gated_eq _ _ _ _ _ q (by show 128 * t.val + i.val = 128 * t.val + r.val - 2 - 30; omega) rfl
      (by show 5120 + (512 + q.val) = 5632 + q.val; omega)

end Cert.KernelIdeal.Conv
end
-- ==== Proof.ConvGrad.lean ====
module

public import proofs.«01_k».proof.Proof.ConvKit

@[expose] public section

set_option maxRecDepth 16384

noncomputable section

open Idealize.ShloMosaic Idealize.ShloMosaic.TcCoe Idealize.SL.Sem
open Idealize.ShloMosaic.Pipeline (Dat)

namespace Cert.KernelIdeal.Conv
open Cert.KernelIdeal Cert.KernelIdeal.Gen
variable (m : (ℓ : Loc nD τ sig) → Buf (Elt Ideal) ℓ)

set_option maxHeartbeats 2000000 in
/-- The block of the gradient that a grid point writes. -/
theorem pt5 (c : Dev nD) (t : Fin cfg0.N) (y) : (outsAt0 m c t.val t.isLt).1 y = gradTile (iblk m c 4 t) (extD m c t) (X0_2 m c t) y := by
  obtain ⟨D, hD⟩ : ∃ D, D = extD m c t := ⟨_, rfl⟩
  obtain ⟨u, hu⟩ : ∃ u, u = X0_2 m c t := ⟨_, rfl⟩
  obtain ⟨w, hw⟩ : ∃ w : Vec Ideal S32x512 .f32, w = iblk m c 4 t := ⟨_, rfl⟩
  rw [← hD, ← hu, show gradTile (iblk m c 4 t) D u = gradTile w D u from by rw [hw]]
  by_cases h : t.val % 32 = 0
  · rw [outsAt0_A m c t h]
    frame_out
    simp (discharger := decide) only [↓load_extD, ↓load_extG, ↓load_last, k0_pay7, k0_pay9, k0_pay11, k0_pay13, k0_pay14, k0_pay16, k0_pay18, k0_pay20, k0_pay22, k0_pay27, k0_pay31, k0_pay35, k0_pay37, k0_pay40, k0_pay44, k0_pay49, k0_pay54, k0_pay59, k0_pay64, k0_pay68, k0_pay69, k0_pay71, k0_pay73, k0_pay75, k0_pay77, k0_pay79, k0_pay80, k0_pay81, k0_pay85, k0_pay90, k0_pay92, k0_pay96, k0_pay98, k0_pay103, k0_pay108, k0_pay113, k0_pay118, k0_pay123, k0_pay128, k0_pay131, k0_pay133, k0_pay135, k0_pay137, k0_pay138, k0_pay139, k0_pay141, k0_pay142, k0_pay145, k0_pay147, k0_pay149, k0_pay150, k0_pay156, k0_pay160, k0_pay164, k0_pay167, k0_pay172, k0_pay177, k0_pay182, k0_pay183, k0_pay188, k0_pay193, k0_pay197, k0_pay198, k0_pay200, k0_pay201, k0_pay203, k0_pay204, k0_pay207, k0_pay209, k0_pay210, k0_pay212, k0_pay215, k0_pay218, k0_pay222, k0_pay226, k0_pay231, k0_pay236, k0_pay241, k0_pay246, k0_pay249, k0_pay252, k0_pay254, k0_pay259, shapeCast_self, win_win, ld_win, Nat.reduceAdd, Nat.reduceSub, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
    rw [← hD, ← hu, ← hw]
    clear hD hu hw
    refine canon_of_blocks (e := .bf16) (gradTile w D u) 8 _ [] ![128, 128] ?_ ?_ y (by simp)
    rotate_left
    · sl_kernel_rfl
    refine ⟨fun x => ?_, fun x => ?_, fun x => ?_, fun x => ?_, fun x => ?_, fun x => ?_, fun x => ?_, fun x => ?_, trivial⟩
    all_goals
      obtain ⟨i, l, rfl⟩ : ∃ (i : Fin 128) (l : Fin 128), x = ix2 i l := exists_ix2 x
      rw [tile_idx]
    · refine Eq.trans ?_ (gradTile_hi_tile w D u 384 (by norm_num) i l _ _ (Nat.zero_add _) rfl).symm
      rw [← taps_sum]
      pointwise [half_def, sigm_eq] <;> rfl
    · refine Eq.trans ?_ (gradTile_lo_tile w D u 384 (by norm_num) i l _ _ (Nat.zero_add _) rfl).symm
      rw [← taps_sum]
      pointwise [half_def, sigm_eq] <;> rfl
    · refine Eq.trans ?_ (gradTile_hi_tile w D u 256 (by norm_num) i l _ _ (Nat.zero_add _) rfl).symm
      rw [← taps_sum]
      pointwise [half_def, sigm_eq] <;> rfl
    · refine Eq.trans ?_ (gradTile_lo_tile w D u 256 (by norm_num) i l _ _ (Nat.zero_add _) rfl).symm
      rw [← taps_sum]
      pointwise [half_def, sigm_eq] <;> rfl
    · refine Eq.trans ?_ (gradTile_hi_tile w D u 128 (by norm_num) i l _ _ (Nat.zero_add _) rfl).symm
      rw [← taps_sum]
      pointwise [half_def, sigm_eq] <;> rfl
    · refine Eq.trans ?_ (gradTile_lo_tile w D u 128 (by norm_num) i l _ _ (Nat.zero_add _) rfl).symm
      rw [← taps_sum]
      pointwise [half_def, sigm_eq] <;> rfl
    · refine Eq.trans ?_ (gradTile_hi_tile w D u 0 (by norm_num) i l _ _ (Nat.zero_add _) rfl).symm
      rw [← taps_sum]
      pointwise [half_def, sigm_eq] <;> rfl
    · refine Eq.trans ?_ (gradTile_lo_tile w D u 0 (by norm_num) i l _ _ (Nat.zero_add _) rfl).symm
      rw [← taps_sum]
      pointwise [half_def, sigm_eq] <;> rfl
  · rw [outsAt0_B m c t h]
    frame_out
    simp (discharger := decide) only [↓load_extD, ↓load_extG, ↓load_last, k0_pay7, k0_pay9, k0_pay11, k0_pay13, k0_pay14, k0_pay16, k0_pay18, k0_pay20, k0_pay22, k0_pay27, k0_pay31, k0_pay35, k0_pay37, k0_pay40, k0_pay44, k0_pay49, k0_pay54, k0_pay59, k0_pay64, k0_pay68, k0_pay69, k0_pay71, k0_pay73, k0_pay75, k0_pay77, k0_pay79, k0_pay80, k0_pay81, k0_pay85, k0_pay90, k0_pay92, k0_pay96, k0_pay98, k0_pay103, k0_pay108, k0_pay113, k0_pay118, k0_pay123, k0_pay128, k0_pay131, k0_pay133, k0_pay135, k0_pay137, k0_pay138, k0_pay139, k0_pay141, k0_pay142, k0_pay145, k0_pay147, k0_pay149, k0_pay150, k0_pay156, k0_pay160, k0_pay164, k0_pay167, k0_pay172, k0_pay177, k0_pay182, k0_pay183, k0_pay188, k0_pay193, k0_pay197, k0_pay198, k0_pay200, k0_pay201, k0_pay203, k0_pay204, k0_pay207, k0_pay209, k0_pay210, k0_pay212, k0_pay215, k0_pay218, k0_pay222, k0_pay226, k0_pay231, k0_pay236, k0_pay241, k0_pay246, k0_pay249, k0_pay252, k0_pay254, k0_pay259, shapeCast_self, win_win, ld_win, Nat.reduceAdd, Nat.reduceSub, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
    rw [← hD, ← hu, ← hw]
    clear hD hu hw
    refine canon_of_blocks (e := .bf16) (gradTile w D u) 8 _ [] ![128, 128] ?_ ?_ y (by simp)
    rotate_left
    · sl_kernel_rfl
    refine ⟨fun x => ?_, fun x => ?_, fun x => ?_, fun x => ?_, fun x => ?_, fun x => ?_, fun x => ?_, fun x => ?_, trivial⟩
    all_goals
      obtain ⟨i, l, rfl⟩ : ∃ (i : Fin 128) (l : Fin 128), x = ix2 i l := exists_ix2 x
      rw [tile_idx]
    · refine Eq.trans ?_ (gradTile_hi_tile w D u 384 (by norm_num) i l _ _ (Nat.zero_add _) rfl).symm
      rw [← taps_sum]
      pointwise [half_def, sigm_eq] <;> rfl
    · refine Eq.trans ?_ (gradTile_lo_tile w D u 384 (by norm_num) i l _ _ (Nat.zero_add _) rfl).symm
      rw [← taps_sum]
      pointwise [half_def, sigm_eq] <;> rfl
    · refine Eq.trans ?_ (gradTile_hi_tile w D u 256 (by norm_num) i l _ _ (Nat.zero_add _) rfl).symm
      rw [← taps_sum]
      pointwise [half_def, sigm_eq] <;> rfl
    · refine Eq.trans ?_ (gradTile_lo_tile w D u 256 (by norm_num) i l _ _ (Nat.zero_add _) rfl).symm
      rw [← taps_sum]
      pointwise [half_def, sigm_eq] <;> rfl
    · refine Eq.trans ?_ (gradTile_hi_tile w D u 128 (by norm_num) i l _ _ (Nat.zero_add _) rfl).symm
      rw [← taps_sum]
      pointwise [half_def, sigm_eq] <;> rfl
    · refine Eq.trans ?_ (gradTile_lo_tile w D u 128 (by norm_num) i l _ _ (Nat.zero_add _) rfl).symm
      rw [← taps_sum]
      pointwise [half_def, sigm_eq] <;> rfl
    · refine Eq.trans ?_ (gradTile_hi_tile w D u 0 (by norm_num) i l _ _ (Nat.zero_add _) rfl).symm
      rw [← taps_sum]
      pointwise [half_def, sigm_eq] <;> rfl
    · refine Eq.trans ?_ (gradTile_lo_tile w D u 0 (by norm_num) i l _ _ (Nat.zero_add _) rfl).symm
      rw [← taps_sum]
      pointwise [half_def, sigm_eq] <;> rfl

end Cert.KernelIdeal.Conv
end
-- ==== Proof.ConvTapsA.lean ====
module

public import proofs.«01_k».proof.Proof.ConvKit

@[expose] public section

set_option maxRecDepth 16384

noncomputable section

open Idealize.ShloMosaic Idealize.ShloMosaic.TcCoe Idealize.SL.Sem
open Idealize.ShloMosaic.Pipeline (Dat)

namespace Cert.KernelIdeal.Conv
open Cert.KernelIdeal Cert.KernelIdeal.Gen
variable (m : (ℓ : Loc nD τ sig) → Buf (Elt Ideal) ℓ)

set_option maxHeartbeats 4000000 in
/-- At a first point of a half, each element of the taps' partial sums is the point's own sum, added to zero. -/
theorem pt6A (c : Dev nD) (t : Fin cfg0.N) (h : t.val % 32 = 0) (y : S256x512.Idx) (hy : (y 0).val < 248) :
    (outsAt0 m c t.val t.isLt).2 y = tapTile (k0_pay2 (F := Ideal)) (iblk m c 0 t) (extG m c t) y := by
  obtain ⟨D, hD⟩ : ∃ D, D = extD m c t := ⟨_, rfl⟩
  obtain ⟨G, hG⟩ : ∃ D, D = extG m c t := ⟨_, rfl⟩
  obtain ⟨d, hd⟩ : ∃ w : Vec Ideal S128x512 .f32, w = iblk m c 0 t := ⟨_, rfl⟩
  rw [← hG, show tapTile (k0_pay2 (F := Ideal)) (iblk m c 0 t) G = tapTile (k0_pay2 (F := Ideal)) d G from by rw [hd], outsAt0_A m c t h]
  frame_out
  simp (discharger := decide) only [↓load_extD, ↓load_extG, ↓load_last, ↓View.readCov_skip, k0_pay7, k0_pay9, k0_pay11, k0_pay13, k0_pay14, k0_pay16, k0_pay18, k0_pay20, k0_pay22, k0_pay27, k0_pay31, k0_pay35, k0_pay37, k0_pay40, k0_pay44, k0_pay49, k0_pay54, k0_pay59, k0_pay64, k0_pay68, k0_pay69, k0_pay71, k0_pay73, k0_pay75, k0_pay77, k0_pay79, k0_pay80, k0_pay81, k0_pay85, k0_pay90, k0_pay92, k0_pay96, k0_pay98, k0_pay103, k0_pay108, k0_pay113, k0_pay118, k0_pay123, k0_pay128, k0_pay131, k0_pay133, k0_pay135, k0_pay137, k0_pay138, k0_pay139, k0_pay141, k0_pay142, k0_pay145, k0_pay147, k0_pay149, k0_pay150, k0_pay156, k0_pay160, k0_pay164, k0_pay167, k0_pay172, k0_pay177, k0_pay182, k0_pay183, k0_pay188, k0_pay193, k0_pay197, k0_pay198, k0_pay200, k0_pay201, k0_pay203, k0_pay204, k0_pay207, k0_pay209, k0_pay210, k0_pay212, k0_pay215, k0_pay218, k0_pay222, k0_pay226, k0_pay231, k0_pay236, k0_pay241, k0_pay246, k0_pay249, k0_pay252, k0_pay254, k0_pay259, shapeCast_self, win_win, ld_win, Nat.reduceAdd, Nat.reduceSub, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
  rw [← hG, ← hd]
  clear hD hd hG
  refine canon_of_blocks (e := .f32) (tapTile (k0_pay2 (F := Ideal)) d G) 124 _ [⟨Rect.unit (s := S256x512) ![248, 0] ![8, 512] (by decide), fun _ => 0⟩] ![8, 128] ?_ ?_ y
    (not_mem_last y hy _)
  rotate_left
  · sl_kernel_rfl
  iterate 124 refine ⟨tap_piece (k0_pay2 (F := Ideal)) d G (by decide) (by decide) (by decide) rfl (by decide), ?_⟩
  trivial

end Cert.KernelIdeal.Conv
end
-- ==== Proof.ConvTapsB.lean ====
module

public import proofs.«01_k».proof.Proof.ConvKit

@[expose] public section

set_option maxRecDepth 16384

noncomputable section

open Idealize.ShloMosaic Idealize.ShloMosaic.TcCoe Idealize.SL.Sem
open Idealize.ShloMosaic.Pipeline (Dat)

namespace Cert.KernelIdeal.Conv
open Cert.KernelIdeal Cert.KernelIdeal.Gen
variable (m : (ℓ : Loc nD τ sig) → Buf (Elt Ideal) ℓ)

set_option maxHeartbeats 4000000 in
/-- At a later point, each element of the taps' partial sums is the point's own sum, added to what the point before left. -/
theorem pt6B (c : Dev nD) (t : Fin cfg0.N) (h : ¬ t.val % 32 = 0) (y : S256x512.Idx) (hy : (y 0).val < 248) :
    (outsAt0 m c t.val t.isLt).2 y
      = tapTile (outsAt0 m c (t.val - 1) (Nat.lt_of_le_of_lt (Nat.sub_le _ _) t.isLt)).2 (iblk m c 0 t) (extG m c t) y := by
  obtain ⟨D, hD⟩ : ∃ D, D = extD m c t := ⟨_, rfl⟩
  obtain ⟨G, hG⟩ : ∃ D, D = extG m c t := ⟨_, rfl⟩
  obtain ⟨d, hd⟩ : ∃ w : Vec Ideal S128x512 .f32, w = iblk m c 0 t := ⟨_, rfl⟩
  obtain ⟨P, hP⟩ : ∃ w : Vec Ideal S256x512 .f32, w = (outsAt0 m c (t.val - 1) (Nat.lt_of_le_of_lt (Nat.sub_le _ _) t.isLt)).2 := ⟨_, rfl⟩
  rw [← hG, ← hP, show tapTile P (iblk m c 0 t) G = tapTile P d G from by rw [hd], outsAt0_B m c t h]
  frame_out
  simp (discharger := decide) only [↓load_extD, ↓load_extG, ↓load_last, k0_pay7, k0_pay9, k0_pay11, k0_pay13, k0_pay14, k0_pay16, k0_pay18, k0_pay20, k0_pay22, k0_pay27, k0_pay31, k0_pay35, k0_pay37, k0_pay40, k0_pay44, k0_pay49, k0_pay54, k0_pay59, k0_pay64, k0_pay68, k0_pay69, k0_pay71, k0_pay73, k0_pay75, k0_pay77, k0_pay79, k0_pay80, k0_pay81, k0_pay85, k0_pay90, k0_pay92, k0_pay96, k0_pay98, k0_pay103, k0_pay108, k0_pay113, k0_pay118, k0_pay123, k0_pay128, k0_pay131, k0_pay133, k0_pay135, k0_pay137, k0_pay138, k0_pay139, k0_pay141, k0_pay142, k0_pay145, k0_pay147, k0_pay149, k0_pay150, k0_pay156, k0_pay160, k0_pay164, k0_pay167, k0_pay172, k0_pay177, k0_pay182, k0_pay183, k0_pay188, k0_pay193, k0_pay197, k0_pay198, k0_pay200, k0_pay201, k0_pay203, k0_pay204, k0_pay207, k0_pay209, k0_pay210, k0_pay212, k0_pay215, k0_pay218, k0_pay222, k0_pay226, k0_pay231, k0_pay236, k0_pay241, k0_pay246, k0_pay249, k0_pay252, k0_pay254, k0_pay259, shapeCast_self, win_win, ld_win, Nat.reduceAdd, Nat.reduceSub, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260]
  rw [← hG, ← hd, ← hP]
  clear hD hd hG hP
  have hR := not_mem_last y hy (fun _ => 0)
  rw [View.read_writes_apply_eq_canon]
  · refine canon_of_blocks (e := .f32) (tapTile P d G) 124 _ [⟨Rect.unit (s := S256x512) ![248, 0] ![8, 512] (by decide), fun _ => 0⟩] ![8, 128] ?_ ?_ y hR
    rotate_left
    · sl_kernel_rfl
    iterate 124 refine ⟨tap_piece P d G (by decide) (by decide) (by decide) rfl (by decide), ?_⟩
    trivial
  · obtain ⟨p, hp, hm⟩ := mem_of_tiled 124 _ [⟨Rect.unit (s := S256x512) ![248, 0] ![8, 512] (by decide), fun _ => 0⟩] ![8, 128] (by sl_kernel_rfl) y hR
    exact ⟨p, List.mem_of_mem_take hp, hm⟩

end Cert.KernelIdeal.Conv
end
-- ==== Proof.ConvFinal.lean ====
module

public import proofs.«01_k».proof.Proof.ConvBlocks
public import proofs.«01_k».proof.Proof.ConvGrad
public import proofs.«01_k».proof.Proof.ConvTapsA
public import proofs.«01_k».proof.Proof.ConvTapsB

@[expose] public section

set_option maxRecDepth 16384

noncomputable section

open Idealize.ShloMosaic Idealize.ShloMosaic.TcCoe Idealize.SL.Sem
open Idealize.ShloMosaic.Pipeline (Dat)

namespace Cert.KernelIdeal.Conv
open Cert.KernelIdeal Cert.KernelIdeal.Gen

variable (m : (ℓ : Loc nD τ sig) → Buf (Elt Ideal) ℓ)

/-- The gradient of the gated values: each tap's weight times the gradient of the row that many rows later. -/
def slide (d : FVec Ideal S4096x512 .f32) (w : FVec Ideal S31x512 .f32) (r : Fin 4096) (q : Fin 512) : EReal :=
  ∑ j : Fin 31, w (ix2 j q) * late d (r.val + (30 - j.val)) q

/-- The gradient of the projection's columns before the gate: the gradient of the gated values times the gate. -/
def gradA (d : FVec Ideal S4096x512 .f32) (p : FVec Ideal S4096x8704 .f32) (w : FVec Ideal S31x512 .f32) (r : Fin 4096) (q : Fin 512) : EReal :=
  slide d w r q * Ideal.logistic (p (ix2 r (⟨5632 + q.val, by omega⟩ : Fin 8704)))

/-- The gradient of the gate's columns: the gradient of the gated values times the other factor and the gate's derivative. -/
def gradB (d : FVec Ideal S4096x512 .f32) (p : FVec Ideal S4096x8704 .f32) (w : FVec Ideal S31x512 .f32) (r : Fin 4096) (q : Fin 512) : EReal :=
  slide d w r q * p (ix2 r (⟨5120 + q.val, by omega⟩ : Fin 8704))
    * (Ideal.logistic (p (ix2 r (⟨5632 + q.val, by omega⟩ : Fin 8704)))
      * (1 - Ideal.logistic (p (ix2 r (⟨5632 + q.val, by omega⟩ : Fin 8704)))))

/-- One element of the projection's gradient: the two gradients in columns 5120 to 6143, what was there in the others. -/
def gradAt (d : FVec Ideal S4096x512 .f32) (p : FVec Ideal S4096x8704 .f32) (w : FVec Ideal S31x512 .f32)
    (g : FVec Ideal S4096x8704 .bf16) (r : Fin 4096) (k : Fin 8704) : EReal :=
  if h : 5120 ≤ k.val ∧ k.val < 5632 then gradA d p w r ⟨k.val - 5120, by omega⟩
  else if h : 5632 ≤ k.val ∧ k.val < 6144 then gradB d p w r ⟨k.val - 5632, by omega⟩
  else g (ix2 r k)

/-- The projection's gradient. -/
def outGrad (d : FVec Ideal S4096x512 .f32) (p : FVec Ideal S4096x8704 .f32) (w : FVec Ideal S31x512 .f32)
    (g : FVec Ideal S4096x8704 .bf16) : S4096x8704.Idx → EReal := fun i => gradAt d p w g (i 0) (i 1)

/-- The gradient of the taps' weights: each tap's sum over the rows of the gradient times the gated value that many rows on
    in the values with their past. -/
def outTaps (d : FVec Ideal S4096x512 .f32) (p : FVec Ideal S4096x8704 .f32) : S31x512.Idx → EReal := fun i =>
  let j : Fin 31 := i 0
  let q : Fin 512 := i 1
  ∑ n : Fin 4096, d (ix2 n q) * past p (n.val + j.val) q

/-- The projection's gradient in the first factor's columns. -/
theorem gradAt_lo (d p w g) (r : Fin 4096) (q : Fin 512) (k : Fin 8704) (hk : k.val = 5120 + q.val) :
    gradAt d p w g r k = gradA d p w r q := by
  unfold gradAt
  rw [dif_pos (by omega)]
  exact congrArg (gradA d p w r) (Fin.ext (by show k.val - 5120 = q.val; omega))

/-- The projection's gradient in the gate's columns. -/
theorem gradAt_hi (d p w g) (r : Fin 4096) (q : Fin 512) (k : Fin 8704) (hk : k.val = 5632 + q.val) :
    gradAt d p w g r k = gradB d p w r q := by
  unfold gradAt
  rw [dif_neg (by omega), dif_pos (by omega)]
  exact congrArg (gradB d p w r) (Fin.ext (by show k.val - 5632 = q.val; omega))

/-- The projection's gradient in the other columns. -/
theorem gradAt_out (d p w g) (r : Fin 4096) (k : Fin 8704) (hk : ¬ (5120 ≤ k.val ∧ k.val < 6144)) :
    gradAt d p w g r k = g (ix2 r k) := by
  unfold gradAt
  rw [dif_neg (by omega), dif_neg (by omega)]

/-- The taps' sum of a block is the taps' sum of the array. -/
theorem slide_block (c : Dev nD) (t : Fin cfg0.N) (r : Fin 128) (q : Fin 512) (r' : Fin 4096) (hr : r'.val = 128 * t.val + r.val)
    (w : Vec Ideal S32x512 .f32) (hw : w = iblk m c 4 t) :
    (∑ j : Fin 31, w (ix2 (⟨j.val, by omega⟩ : Fin 32) q) * extD m c t (ix2 (⟨30 - j.val + r.val, by omega⟩ : Fin 160) q))
      = slide (m ((c : Thread nD τ).loc main_arg0)) (m ((c : Thread nD τ).loc main_arg2)) r' q := by
  unfold slide
  refine Finset.sum_congr rfl fun j _ => ?_
  rw [hw, extD_at]
  refine congrArg₂ (· * ·) (blk4 m c t j q) (congrArg (fun x => late _ x q) ?_)
  show 128 * t.val + (30 - j.val + r.val) = r'.val + (30 - j.val)
  omega

/-- A point's block of the gradient is a block of the projection's gradient. -/
theorem grad_block (c : Dev nD) (t : Fin cfg0.N) (r : Fin 128) (k : Fin 1024) (r' : Fin 4096) (k' : Fin 8704)
    (hr : r'.val = 128 * t.val + r.val) (hk : k'.val = 5120 + k.val) :
    gradTile (iblk m c 4 t) (extD m c t) (X0_2 m c t) (ix2 r k)
      = gradAt (m ((c : Thread nD τ).loc main_arg0)) (m ((c : Thread nD τ).loc main_arg1)) (m ((c : Thread nD τ).loc main_arg2))
          (m ((c : Thread nD τ).loc main_arg3)) r' k' := by
  have hN : t.val < 32 := lt_of_lt_of_eq t.isLt N_0
  obtain ⟨w, hw⟩ : ∃ w : Vec Ideal S32x512 .f32, w = iblk m c 4 t := ⟨_, rfl⟩
  rw [show gradTile (iblk m c 4 t) (extD m c t) (X0_2 m c t) = gradTile w (extD m c t) (X0_2 m c t) from by rw [hw]]
  have hr' : (⟨128 * t.val + r.val, by omega⟩ : Fin 4096) = r' := Fin.ext hr.symm
  by_cases hh : k.val < 512
  · obtain ⟨q, hq⟩ : ∃ q : Fin 512, k = ⟨q.val, by omega⟩ := ⟨⟨k.val, hh⟩, rfl⟩
    have hqv : k.val = q.val := congrArg Fin.val hq
    refine (congrArg (fun z => gradTile w _ _ (ix2 r z)) hq).trans ?_
    rw [gradTile_lo, slide_block m c t r q r' hr w hw, blk2, gradAt_lo _ _ _ _ r' q k' (by omega)]
    refine congrArg (fun x => _ * Ideal.logistic (m ((c : Thread nD τ).loc main_arg1) x)) ?_
    exact congrArg₂ ix2 hr' (Fin.ext (by show 5120 + (512 + q.val) = 5632 + q.val; omega))
  · obtain ⟨q, hq⟩ : ∃ q : Fin 512, k = ⟨512 + q.val, by omega⟩ :=
      ⟨⟨k.val - 512, by omega⟩, Fin.ext (by show k.val = 512 + (k.val - 512); omega)⟩
    have hqv : k.val = 512 + q.val := congrArg Fin.val hq
    refine (congrArg (fun z => gradTile w _ _ (ix2 r z)) hq).trans ?_
    rw [gradTile_hi, slide_block m c t r q r' hr w hw, blk2, blk2, gradAt_hi _ _ _ _ r' q k' (by omega)]
    unfold gradB
    have e : (ix2 (⟨128 * t.val + r.val, by omega⟩ : Fin 4096) (⟨5120 + (512 + q.val), by omega⟩ : Fin 8704) : S4096x8704.Idx)
        = ix2 r' (⟨5632 + q.val, by omega⟩ : Fin 8704) :=
      congrArg₂ ix2 hr' (Fin.ext (by show 5120 + (512 + q.val) = 5632 + q.val; omega))
    rw [e, hr']

/-- Where an element of a point's block of the gradient lies in the array. -/
theorem emb5 (t : Fin cfg0.N) (y : ((cfg0.win 5).xblock (cfg0.grid.coords t)).Idx) (i : S4096x8704.Idx)
    (hi : i = ((cfg0.win 5).blk t).view.emb y) (z : S128x1024.Idx) (hz : z = (cfg0.win 5).xinj (cfg0.grid.coords t) y) :
    i = ix2 (⟨128 * t.val + (z 0).val, by have := lt_of_lt_of_eq t.isLt N_0; have := (z 0).isLt; simp at this; omega⟩ : Fin 4096)
      (⟨5120 + (z 1).val, by have := (z 1).isLt; simp at this; omega⟩ : Fin 8704) := by
  subst hi hz
  blk_ext [idx t]

/-- The projection's gradient after the run. -/
theorem final5 (c : Dev nD) : (dats m 0 c).arrAt 5 cfg0.N
    = outGrad (m ((c : Thread nD τ).loc main_arg0)) (m ((c : Thread nD τ).loc main_arg1)) (m ((c : Thread nD τ).loc main_arg2))
          (m ((c : Thread nD τ).loc main_arg3)) := by
  refine (dats m 0 c).arrAt_eq_of_coversWhere_of_agree 5 _ (fun β => β (1 : Fin 2) = 5) (by decide +kernel) (fun t hf y => ?_) (fun j hj => ?_)
  · blk_simp
    rw [after0_5, pt5]
    obtain ⟨z, hz⟩ : ∃ z : S128x1024.Idx, z = (cfg0.win 5).xinj (cfg0.grid.coords t) y := ⟨_, rfl⟩
    obtain ⟨i, hi⟩ : ∃ i : S4096x8704.Idx, i = ((cfg0.win 5).blk t).view.emb y := ⟨_, rfl⟩
    have e := emb5 t y i hi z hz
    refine Eq.trans (congrArg _ hz.symm) (Eq.trans ?_ (congrArg _ hi))
    obtain ⟨r, k, rfl⟩ : ∃ (r : Fin 128) (k : Fin 1024), z = ix2 r k := exists_ix2 z
    rw [e]
    exact grad_block m c t r k _ _ rfl rfl
  · blk_simp [Pipeline.Window.cell_apply] at hj
    rw [A_eq]
    obtain ⟨r, k, rfl⟩ : ∃ (r : Fin 4096) (k : Fin 8704), j = ix2 r k := exists_ix2 j
    obtain ⟨i, hi⟩ : ∃ i : S4096x8704.Idx, i = (cfg0.win 5).arr.view.emb (ix2 r k) := ⟨_, rfl⟩
    have e : i = ix2 r k := by
      rw [hi]
      funext a
      fin_cases a <;> rfl
    refine Eq.trans (congrArg _ hi.symm) (Eq.trans ?_ (congrArg _ hi))
    rw [e]
    exact (gradAt_out _ _ _ _ r k (by have hk : ¬ k.val / 1024 = 5 := hj; omega)).symm

/-- The products that a point adds to an element of the partial sums. -/
def tapTerm (d : FVec Ideal S4096x512 .f32) (p : FVec Ideal S4096x8704 .f32) (j : ℕ) (s : Fin 8) (q : Fin 512) (t : ℕ) : EReal :=
  ∑ k : Fin 16, late d (128 * t + (k.val * 8 + s.val)) q * past p (128 * t + (k.val * 8 + s.val) + j) q

/-- One point's step of the partial sums. -/
theorem tap_step (c : Dev nD) (t : Fin cfg0.N) (P : Vec Ideal S256x512 .f32) (j : Fin 31) (s : Fin 8) (q : Fin 512) (r : Fin 256)
    (hr : r.val = j.val * 8 + s.val) :
    tapTile P (iblk m c 0 t) (extG m c t) (ix2 r q)
      = P (ix2 r q) + tapTerm (m ((c : Thread nD τ).loc main_arg0)) (m ((c : Thread nD τ).loc main_arg1)) j.val s q t.val := by
  have h8 : r.val % 8 = s.val := by omega
  have hd : min (r.val / 8) 30 = j.val := by omega
  obtain ⟨d, hd'⟩ : ∃ d : Vec Ideal S128x512 .f32, d = iblk m c 0 t := ⟨_, rfl⟩
  rw [show tapTile P (iblk m c 0 t) (extG m c t) = tapTile P d (extG m c t) from by rw [hd']]
  refine congrArg (P (ix2 r q) + ·) (Finset.sum_congr rfl fun k _ => ?_)
  refine congrArg₂ (· * ·) ?_ ?_
  · rw [hd']
    refine (blk0 m c t _ q).trans ?_
    show late _ (128 * t.val + (k.val * 8 + r.val % 8)) q = _
    rw [h8]
  · refine (extG_at m c t _ q (by show 2 ≤ min (r.val / 8) 30 + 2 + (k.val * 8 + r.val % 8); omega)).trans ?_
    show past _ (128 * t.val + (min (r.val / 8) 30 + 2 + (k.val * 8 + r.val % 8)) - 2) q = _
    rw [h8, hd]
    exact congrArg (fun x => past _ x q) (by omega)

/-- The partial sums after the last point. -/
theorem pt6 (c : Dev nD) (t : Fin cfg0.N) (ht : t.val % 32 = 31) (j : Fin 31) (s : Fin 8) (q : Fin 512) (r : Fin 256)
    (hr : r.val = j.val * 8 + s.val) :
    (outsAt0 m c t.val t.isLt).2 (ix2 r q)
      = ∑ t : Fin 32, tapTerm (m ((c : Thread nD τ).loc main_arg0)) (m ((c : Thread nD τ).loc main_arg1)) j.val s q t.val := by
  have hy : ((ix2 r q : S256x512.Idx) 0).val < 248 := by show r.val < 248; omega
  have hN : t.val < 32 := lt_of_lt_of_eq t.isLt N_0
  have h := Pipeline.eq_sum_fin_of_reset_step_of_flush (fun n h => ((outsAt0 m c n h).2 (ix2 r q) : EReal)) 32 (0 : EReal)
    (fun t : Fin cfg0.N => tapTerm (m ((c : Thread nD τ).loc main_arg0)) (m ((c : Thread nD τ).loc main_arg1)) j.val s q t.val)
    (fun t h => by
      refine (pt6A m c t h (ix2 r q) hy).trans ((tap_step m c t _ j s q r hr).trans (congrArg (· + _) ?_))
      unfold k0_pay2
      pointwise)
    (fun t h => (pt6B m c t h (ix2 r q) hy).trans (tap_step m c t _ j s q r hr)) t ht
  refine h.trans ?_
  rw [zero_add]
  refine Finset.sum_congr rfl fun x _ => ?_
  exact congrArg (tapTerm _ _ j.val s q) (by show 32 * (t.val / 32) + x.val = x.val; omega)

/-- The partial sums after the run. -/
theorem final6 (c : Dev nD) (j : Fin 31) (s : Fin 8) (q : Fin 512) (r : Fin 256) (hr : r.val = j.val * 8 + s.val) :
    ((dats m 0 c).arrAt 6 cfg0.N : Vec Ideal S256x512 .f32) (ix2 r q)
      = ∑ t : Fin 32, tapTerm (m ((c : Thread nD τ).loc main_arg0)) (m ((c : Thread nD τ).loc main_arg1)) j.val s q t.val := by
  have h := (dats m 0 c).arrAt_forall_of_coversWhere 6 (fun i v => i = ix2 r q → v = ∑ t : Fin 32, tapTerm (m ((c : Thread nD τ).loc main_arg0)) (m ((c : Thread nD τ).loc main_arg1)) j.val s q t.val)
    (fun _ => True) (by decide +kernel) (fun t hf y hi => ?_) (fun _ h => absurd trivial h) (ix2 r q)
  · exact h rfl
  blk_simp
  rw [after0_6]
  have ht := (flush0_6 t).mp hf
  obtain ⟨z, hz⟩ : ∃ z : S256x512.Idx, z = (cfg0.win 6).xinj (cfg0.grid.coords t) y := ⟨_, rfl⟩
  have e : z = ix2 r q := by
    subst hz
    rw [← hi]
    blk_ext [idx t]
  refine Eq.trans (congrArg _ (hz.symm.trans e)) ?_
  exact pt6 m c t ht j s q r hr

/-- The result that the host lines make of the partial sums. -/
theorem tail4 (c : Dev nD) : Pipeline.afterTail₀ cfgs (dats m) 0 (V0 m) [hostOps1] c main_v4
    = extractStridedSlice S31x512 ![0, 0] (Host.reduceAdd (F := Ideal) (shapeCast S32x8x512 ((dats m 0 c).arrAt 6 cfg0.N : Vec Ideal S256x512 .f32) shapeCasts_S256x512_S32x8x512)
        (constant (F := Ideal) S_ .f32 0x00000000#32) reducesTo_S32x8x512_S32x512_d1 h_S_) slices_S32x512_S31x512_0_0 := by
  have h : Pipeline.withArrays (cfgs 0).spec c (V0 m c) (fun w => (dats m 0 c).arrAt w (cfgs 0).N) (Proc.devRef .tc main_v1_1) = (dats m 0 c).arrAt 6 cfg0.N :=
    Pipeline.withArrays_arr_shared (cfgs 0).spec c (V0 m c) (fun w => (dats m 0 c).arrAt w (cfgs 0).N)
      ((dats m 0 c).arrAt_sharedIn (by decide) (V0 m c) (fun w => A_eq m c w) _) 6
  unfold Pipeline.afterTail₀
  rw [← h]
  generalize Pipeline.withArrays (cfgs 0).spec c (V0 m c) (fun w => (dats m 0 c).arrAt w (cfgs 0).N) = W
  rfl

/-- The rows of an array by their place modulo eight, block and group. -/
theorem rows_sum (F : ℕ → EReal) :
    ∑ s : Fin 8, ∑ t : Fin 32, ∑ k : Fin 16, F (128 * t.val + (k.val * 8 + s.val)) = ∑ n : Fin 4096, F n.val := by
  have h1 : ∀ t : ℕ, ∑ k : Fin 16, ∑ s : Fin 8, F (128 * t + (k.val * 8 + s.val)) = ∑ l : Fin 128, F (128 * t + l.val) := fun t =>
    Fin.sum_mul_add_fin 16 8 (fun l : Fin 128 => F (128 * t + l.val))
  have h2 : ∑ t : Fin 32, ∑ l : Fin 128, F (t.val * 128 + l.val) = ∑ n : Fin 4096, F n.val :=
    Fin.sum_mul_add_fin 32 128 (fun n : Fin 4096 => F n.val)
  rw [Finset.sum_comm, ← h2]
  refine Finset.sum_congr rfl fun t _ => ?_
  rw [Finset.sum_comm, h1, Nat.mul_comm]

/-- The host's sum of eight rows. -/
theorem host_sum (A : FVec Ideal S256x512 .f32) (j : Fin 31) (q : Fin 512) :
    extractStridedSlice S31x512 ![0, 0] (Host.reduceAdd (F := Ideal) (shapeCast S32x8x512 A shapeCasts_S256x512_S32x8x512)
        (constant (F := Ideal) S_ .f32 0x00000000#32) reducesTo_S32x8x512_S32x512_d1 h_S_) slices_S32x512_S31x512_0_0 (ix2 j q)
      = ∑ s : Fin 8, A (ix2 (⟨j.val * 8 + s.val, by omega⟩ : Fin 256) q) := by
  pointwise

/-- The gradient of the taps' weights after the host lines. -/
theorem final4 (c : Dev nD) : Pipeline.afterTail₀ cfgs (dats m) 0 (V0 m) [hostOps1] c main_v4
    = outTaps (m ((c : Thread nD τ).loc main_arg0)) (m ((c : Thread nD τ).loc main_arg1)) := by
  rw [tail4]
  funext i
  obtain ⟨j, q, rfl⟩ : ∃ (j : Fin 31) (q : Fin 512), i = ix2 j q := exists_ix2 i
  obtain ⟨A, hA⟩ : ∃ A : FVec Ideal S256x512 .f32, A = (dats m 0 c).arrAt 6 cfg0.N := ⟨_, rfl⟩
  have h6 : ∀ s : Fin 8, A (ix2 (⟨j.val * 8 + s.val, by omega⟩ : Fin 256) q)
      = ∑ t : Fin 32, tapTerm (m ((c : Thread nD τ).loc main_arg0)) (m ((c : Thread nD τ).loc main_arg1)) j.val s q t.val := fun s => by
    rw [hA]
    exact final6 m c j s q _ rfl
  rw [← hA, host_sum]
  refine (Finset.sum_congr rfl fun s _ => h6 s).trans ?_
  unfold tapTerm
  refine (rows_sum (fun n => late (m ((c : Thread nD τ).loc main_arg0)) n q * past (m ((c : Thread nD τ).loc main_arg1)) (n + j.val) q)).trans ?_
  unfold outTaps
  refine Finset.sum_congr rfl fun n _ => ?_
  have h : late (m ((c : Thread nD τ).loc main_arg0)) n.val q = m ((c : Thread nD τ).loc main_arg0) (ix2 n q) := by
    unfold late
    rw [dif_pos n.isLt]
  exact congrArg (fun x : EReal => x * past (m ((c : Thread nD τ).loc main_arg1)) (n.val + j.val) q) h

end Cert.KernelIdeal.Conv
end
-- ==== Proof.ConvRef.lean ====
module

public import proofs.«01_k».proof.Proof.ConvFinal
public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.ReferenceIdeal.Conv
open Cert.ReferenceIdeal Cert.ReferenceIdeal.Gen Cert.ReferenceIdeal.Value
open Cert.KernelIdeal.Conv (late past gated slide gradA gradB gradAt outGrad outTaps exists_ix2 gradAt_lo gradAt_hi gradAt_out)

/-- A tap's weight times the gradient of the row that many rows later. -/
def tapMul (w : FVec Ideal S31x512 .f32) (D : FVec Ideal S4096x512 .f32) (o : ℕ) (r : Fin 4096) (q : Fin 512) : EReal :=
  (if h : o < 31 then w (ix2 (⟨o, h⟩ : Fin 31) q) else 0) * late D (r.val + (30 - o)) q

/-- A row of the values with their past. -/
def far (V : FVec Ideal S4126x512 .f32) (x : ℕ) (q : Fin 512) : EReal := if h : x < 4126 then V (ix2 (⟨x, h⟩ : Fin 4126) q) else 0

/-- A tap's sum over the rows, in the tap's own row only. -/
def pick (D : FVec Ideal S4096x512 .f32) (V : FVec Ideal S4126x512 .f32) (j : Fin 31) (o : ℕ) (q : Fin 512) : EReal :=
  if j.val = o then ∑ n : Fin 4096, D (ix2 n q) * far V (n.val + o) q else 0

/-- The sum over the taps from the last to the first. -/
theorem taps_rev (f : Fin 31 → EReal) :
    f 30 + f 29 + f 28 + f 27 + f 26 + f 25 + f 24 + f 23 + f 22 + f 21 + f 20 + f 19 + f 18 + f 17 + f 16 + f 15 + f 14 + f 13
      + f 12 + f 11 + f 10 + f 9 + f 8 + f 7 + f 6 + f 5 + f 4 + f 3 + f 2 + f 1 + f 0 = ∑ j, f j := by
  rw [Fin.sum_univ_def]
  have h : List.Perm ([30, 29, 28, 27, 26, 25, 24, 23, 22, 21, 20, 19, 18, 17, 16, 15, 14, 13, 12, 11, 10, 9, 8, 7, 6, 5, 4, 3, 2,
    1, 0] : List (Fin 31)) (List.finRange 31) := by decide
  rw [← (h.map f).sum_eq]
  simp only [List.map_cons, List.map_nil, List.sum_cons, List.sum_nil, add_zero, add_assoc]

/-- A sum at an index. -/
theorem add_at {s : Shape} {a b : FVec Ideal s .f32} {i : s.Idx} {x y : EReal} (ha : a i = x) (hb : b i = y) :
    addf (F := Ideal) a b i = x + y := by
  subst ha hb; rfl

/-- The rows from the thirtieth on. -/
theorem drop_at (X : FVec Ideal S4126x512 .f32) (r : Fin 4096) (q : Fin 512) :
    extractStridedSlice S4096x512 ![30, 0] X slices_S4126x512_S4096x512_30_0 (ix2 r q) = X (ix2 (⟨30 + r.val, by omega⟩ : Fin 4126) q) := by
  pointwise

/-- One tap's part of the gradient of the values with their past, at a row after the first thirty. -/
theorem pad_late (w : FVec Ideal S31x512 .f32) (D : FVec Ideal S4096x512 .f32) (o e : ℕ)
    (hs : S31x512.Slices ![o, 0] S1x512) (hp : S4096x512.Pads (![o, 0] : Fin 2 → ℕ) ![e, 0] ![0, 0] S4126x512) (r : Fin 4096)
    (q : Fin 512) (ho : o < 31) :
    pad S4126x512 ![o, 0] ![e, 0] ![0, 0] (mulf (broadcastInDim S4096x512 ![0, 1] bcast_S1x512_S4096x512_0_1 (extractStridedSlice S1x512 ![o, 0] w hs))
        D) (constant (F := Ideal) S_ .f32 0x00000000#32) hp h_S_ (ix2 (⟨30 + r.val, by omega⟩ : Fin 4126) q)
      = tapMul w D o r q := by
  pointwise
  unfold tapMul late
  rw [dif_pos ho]
  by_cases h : 30 + r.val - o < 4096
  · rw [dif_pos ⟨by omega, h⟩, dif_pos (by omega)]
    exact congrArg (fun x : Fin 4096 => (w (ix2 (⟨o, ho⟩ : Fin 31) q) : EReal) * D (ix2 x q)) (Fin.ext (by show 30 + r.val - o = r.val + (30 - o); omega))
  · rw [dif_neg (fun hh => h hh.2), dif_neg (by omega), mul_zero]

/-- One tap's part of the gradient of the weights. -/
theorem pad_pick (D : FVec Ideal S4096x512 .f32) (V : FVec Ideal S4126x512 .f32) (o e : ℕ)
    (hs : S4126x512.Slices ![o, 0] S4096x512) (hp : S1x512.Pads (![o, 0] : Fin 2 → ℕ) ![e, 0] ![0, 0] S31x512) (j : Fin 31)
    (q : Fin 512) (ho : o < 31) :
    pad S31x512 ![o, 0] ![e, 0] ![0, 0] (shapeCast S1x512 (Host.reduceAdd (F := Ideal) (mulf D (extractStridedSlice S4096x512 ![o, 0] V hs))
        (constant (F := Ideal) S_ .f32 0x00000000#32) reducesTo_S4096x512_S512_d0 h_S_) shapeCasts_S512_S1x512)
        (constant (F := Ideal) S_ .f32 0x00000000#32) hp h_S_ (ix2 j q)
      = pick D V j o q := by
  pointwise
  unfold pick far
  by_cases h : j.val = o
  · rw [dif_pos (by omega), if_pos h]
    refine Finset.sum_congr rfl fun n _ => ?_
    rw [dif_pos (by omega)]
    exact congrArg (fun x : Fin 4126 => (D (ix2 n q) : EReal) * V (ix2 x q)) (Fin.ext (Nat.add_comm _ _))
  · rw [dif_neg (by omega), if_neg h]

variable (V0 : Valuation τ sig (Elt Ideal))

/-- A cast to the same shape changes nothing. -/
theorem v172_eq : res_main_v172 V0 = V0 (Proc.devRef .tc main_arg0) := shapeCast_self _ _

/-- A cast to the same shape changes nothing. -/
theorem v173_eq : res_main_v173 V0 = V0 (Proc.devRef .tc main_arg0) := shapeCast_self _ _

/-- The reference's gradient of the gated values. -/
theorem v452_at (r : Fin 4096) (q : Fin 512) : res_main_v452 V0 (ix2 r q)
    = slide (V0 (Proc.devRef .tc main_arg0)) (V0 (Proc.devRef .tc main_arg2)) r q := by
  unfold res_main_v452
  refine (drop_at _ r q).trans ?_
  unfold res_main_v448 res_main_v331
  rw [v172_eq, v173_eq]
  refine Eq.trans ?_ ((taps_rev (fun o => tapMul (V0 (Proc.devRef .tc main_arg2)) (V0 (Proc.devRef .tc main_arg0)) o.val r q)).trans ?_)
  · iterate 30 refine add_at ?_ (pad_late _ _ _ _ _ _ r q (by decide))
    exact pad_late _ _ _ _ _ _ r q (by decide)
  unfold slide tapMul
  refine Finset.sum_congr rfl fun j _ => ?_
  rw [dif_pos j.isLt]

/-- The gate's logistic function. -/
theorem v8_at (r : Fin 4096) (q : Fin 512) : res_main_v8 V0 (ix2 r q)
    = Ideal.logistic (V0 (Proc.devRef .tc main_arg1) (ix2 r (⟨5632 + q.val, by omega⟩ : Fin 8704))) := by
  unfold res_main_v8 res_main_v0
  pointwise
  exact congrArg (fun x : Fin 8704 => Ideal.logistic (V0 (Proc.devRef .tc main_arg1) (ix2 r x))) (Fin.ext (by show 5120 + (512 + q.val) = 5632 + q.val; omega))

/-- The gate's other factor. -/
theorem v1_at (r : Fin 4096) (q : Fin 512) : res_main_v1 V0 (ix2 r q)
    = V0 (Proc.devRef .tc main_arg1) (ix2 r (⟨5120 + q.val, by omega⟩ : Fin 8704)) := by
  unfold res_main_v1 res_main_v0
  pointwise

/-- The gated values with their past. -/
theorem v14_at (x : ℕ) (q : Fin 512) : far (res_main_v14 V0) x q = past (V0 (Proc.devRef .tc main_arg1)) x q := by
  unfold far
  by_cases h : x < 4126
  · rw [dif_pos h]
    unfold res_main_v14 past
    pointwise [v1_at, v8_at]
    by_cases h' : x < 30
    · rw [dif_pos h', dif_neg (by omega)]
    · rw [dif_neg h', dif_pos (by omega)]
      rfl
  · rw [dif_neg h, past, dif_neg (by omega)]

/-- The reference's gradient of the taps' weights. -/
theorem v450_at (j : Fin 31) (q : Fin 512) :
    addf (res_main_v441 V0) (pad S31x512 ![0, 0] ![30, 0] ![0, 0] (shapeCast _ (Host.reduceAdd (mulf (res_main_v172 V0) (res_main_v17 V0)) (constant S_ .f32 0x00000000#32) reducesTo_S4096x512_S512_d0 h_S_) shapeCasts_S512_S1x512) (constant S_ .f32 0x00000000#32) pads_S1x512_S31x512_0300_000 h_S_) (ix2 j q)
      = outTaps (V0 (Proc.devRef .tc main_arg0)) (V0 (Proc.devRef .tc main_arg1)) (ix2 j q) := by
  unfold res_main_v441 res_main_v306
  rw [v172_eq, v173_eq]
  refine Eq.trans ?_ ((taps_rev (fun o => pick (V0 (Proc.devRef .tc main_arg0)) (res_main_v14 V0) j o.val q)).trans ?_)
  · iterate 30 refine add_at ?_ (pad_pick _ _ _ _ _ _ j q (by decide))
    exact pad_pick _ _ _ _ _ _ j q (by decide)
  unfold pick
  rw [Finset.sum_eq_single j (fun b _ hb => if_neg fun e => hb (Fin.ext e.symm)) (fun h => absurd (Finset.mem_univ j) h), if_pos rfl]
  exact Finset.sum_congr rfl fun n _ => congrArg _ (v14_at V0 _ q)

/-- The reference's gradient of the projection, from the gradient of the gated values. -/
theorem concat_at (g : FVec Ideal S4096x8704 .bf16) (A Z : FVec Ideal S4096x512 .f32) (S : FVec Ideal S4096x512 .f32)
    (p : FVec Ideal S4096x8704 .f32) (d : FVec Ideal S4096x512 .f32) (w : FVec Ideal S31x512 .f32)
    (hA : ∀ r q, A (ix2 r q) = p (ix2 r (⟨5120 + q.val, by omega⟩ : Fin 8704)))
    (hZ : ∀ r q, Z (ix2 r q) = Ideal.logistic (p (ix2 r (⟨5632 + q.val, by omega⟩ : Fin 8704))))
    (hS : ∀ r q, S (ix2 r q) = slide d w r q) (r : Fin 4096) (k : Fin 8704) :
    (concatenate S4096x8704 1 [⟨S4096x5120, ((extractStridedSlice S4096x5120 ![0, 0] g slices_S4096x8704_S4096x5120_0_0) : (⟨S4096x5120, .bf16⟩ : BufTy).Contents (Elt Ideal))⟩,
      ⟨S4096x1024, ((truncf .bf16 (concatenate S4096x1024 1 [⟨S4096x512, mulf S Z⟩, ⟨S4096x512, mulf (mulf A S) (mulf Z (subf (broadcastInDim S4096x512 ![] bcast_S_S4096x512 (constant S_ .f32 0x3F800000#32)) Z))⟩]
        concatenates_S4096x512_S4096x512_S4096x1024_d1) bitsLt_bf16_f32) : (⟨S4096x1024, .bf16⟩ : BufTy).Contents (Elt Ideal))⟩,
      ⟨S4096x2560, ((extractStridedSlice S4096x2560 ![0, 6144] g slices_S4096x8704_S4096x2560_0_6144) : (⟨S4096x2560, .bf16⟩ : BufTy).Contents (Elt Ideal))⟩]
      concatenates_S4096x5120_S4096x1024_S4096x2560_S4096x8704_d1 : (⟨S4096x8704, .bf16⟩ : BufTy).Contents (Elt Ideal)) (ix2 r k)
      = gradAt d p w g r k := by
  pointwise [hA, hZ, hS]
  by_cases h1 : k.val < 5120
  · rw [dif_pos h1]
    exact (gradAt_out d p w g r k (by omega)).symm
  rw [dif_neg h1]
  by_cases h2 : k.val - 5120 < 1024
  · rw [dif_pos h2]
    by_cases h3 : k.val - 5120 < 512
    · rw [dif_pos h3]
      exact (gradAt_lo d p w g r ⟨k.val - 5120, h3⟩ k (by show k.val = 5120 + (k.val - 5120); omega)).symm
    · rw [dif_neg h3]
      refine Eq.trans ?_ (gradAt_hi d p w g r ⟨k.val - 5120 - 512, by omega⟩ k
        (by show k.val = 5632 + (k.val - 5120 - 512); omega)).symm
      unfold gradB
      exact congrArg (· * _) (mul_comm _ _)
  · rw [dif_neg h2]
    refine Eq.trans ?_ (gradAt_out d p w g r k (by omega)).symm
    exact congrArg (fun z => g (ix2 r z)) (Fin.ext (by show 6144 + (k.val - 5120 - 1024) = k.val; omega))

/-- The reference's run: its first result is the projection's gradient, its second the gradient of the taps' weights, and its
    arguments are unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v460) = outGrad (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v450) = outTaps (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (Cert.ReferenceIdeal.Value.run (F := Ideal) m ρ)
  obtain ⟨h0, h1, hargs⟩ := h c
  refine ⟨h0.trans ?_, h1.trans ?_, hargs⟩
  · funext i
    obtain ⟨r, k, rfl⟩ := exists_ix2 i
    exact concat_at _ _ _ _ _ _ _ (v1_at _) (v8_at _) (v452_at _) r k
  · funext i
    obtain ⟨j, q, rfl⟩ := exists_ix2 i
    exact v450_at _ j q

end Cert.ReferenceIdeal.Conv
end
-- ==== Proof.Ada.lean ====
/- The modulation's two products: `silu(c) · W` for the scales and shifts (`_ada_fwd`), and `silu(c)ᵀ · d` for the
   gradient of its weight (`_ada_bwd`). Each is one grid point over whole arrays; the reference is `jax.nn.silu` and the
   plain product, and its derivative. -/
module

public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.ConvKit
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Ada

open Cert.Kernel8Ideal Cert.Kernel8Ideal.Gen

/-- The reference's gradient of the modulation weight. -/
abbrev REF (cv : FVec Ideal Cert.Reference8Ideal.S8x1024 .f32) (d : FVec Ideal Cert.Reference8Ideal.S8x384 .f32) :
    FVec Ideal Cert.Reference8Ideal.S1024x384 .f32 :=
  transpose Cert.Reference8Ideal.S1024x384 [1, 0] (Host.dotGeneral Cert.Reference8Ideal.dot_S8x384_S8x1024_S384x1024_0_0_1_1_n_n none d
    (mulf cv (Host.divf (broadcastInDim Cert.Reference8Ideal.S8x1024 ![] Cert.Reference8Ideal.Gen.bcast_S_S8x1024 (constant Cert.Reference8Ideal.S_ .f32 0x3F800000#32))
      (addf (broadcastInDim Cert.Reference8Ideal.S8x1024 ![] Cert.Reference8Ideal.Gen.bcast_S_S8x1024 (constant Cert.Reference8Ideal.S_ .f32 0x3F800000#32)) (Host.exp (Host.negf cv))))))
    Cert.Reference8Ideal.Gen.transposes_S384x1024_S1024x384_1_0

/-- The kernel's stored product is the reference's gradient. -/
theorem pay_eq (cv : Vec Ideal S8x1024 .f32) (d : Vec Ideal S8x384 .f32) : Value.G2 cv d = REF cv d := by
  funext y
  pointwise [Value.G2, k0_pay1, REF, Cert.KernelIdeal.Conv.half_def, Cert.KernelIdeal.Conv.sigm_eq]
  exact Finset.sum_congr rfl fun x _ => mul_comm _ _

/-- The gradient of the weight as the run leaves it. -/
theorem final (m : (ℓ : Loc nD τ sig) → Buf (Elt Ideal) ℓ) (c : Dev nD) : (dats m 0 c).arrAt 2 (cfgs 0).N
    = REF (m ((c : Thread nD τ).loc main_arg0)) (m ((c : Thread nD τ).loc main_arg1)) :=
  (Value.final2 m c).trans (pay_eq _ _)

end Cert.Kernel8Ideal.Ada

namespace Cert.Kernel9Ideal.Ada

open Cert.Kernel9Ideal Cert.Kernel9Ideal.Gen

/-- The reference's scales and shifts. -/
abbrev REF (cv : FVec Ideal Cert.Reference9Ideal.S8x1024 .f32) (w : FVec Ideal Cert.Reference9Ideal.S1024x384 .f32) :
    FVec Ideal Cert.Reference9Ideal.S8x384 .f32 :=
  Host.dotGeneral Cert.Reference9Ideal.dot_S8x1024_S1024x384_S8x384_1_0_0_1_n_n none
    (mulf cv (Host.divf (broadcastInDim Cert.Reference9Ideal.S8x1024 ![] Cert.Reference9Ideal.Gen.bcast_S_S8x1024 (constant Cert.Reference9Ideal.S_ .f32 0x3F800000#32))
      (addf (broadcastInDim Cert.Reference9Ideal.S8x1024 ![] Cert.Reference9Ideal.Gen.bcast_S_S8x1024 (constant Cert.Reference9Ideal.S_ .f32 0x3F800000#32)) (Host.exp (Host.negf cv))))) w

/-- The kernel's stored product is the reference's. -/
theorem pay_eq (cv : Vec Ideal S8x1024 .f32) (w : Vec Ideal S1024x384 .f32) : Value.G2 cv w = REF cv w := by
  funext y
  pointwise [Value.G2, k0_pay1, REF, Cert.KernelIdeal.Conv.half_def, Cert.KernelIdeal.Conv.sigm_eq]
  rfl

/-- The scales and shifts as the run leaves them. -/
theorem final (m : (ℓ : Loc nD τ sig) → Buf (Elt Ideal) ℓ) (c : Dev nD) : (dats m 0 c).arrAt 2 (cfgs 0).N
    = REF (m ((c : Thread nD τ).loc main_arg0)) (m ((c : Thread nD τ).loc main_arg1)) :=
  (Value.final2 m c).trans (pay_eq _ _)

end Cert.Kernel9Ideal.Ada
end
-- ==== Proof.AdamW.lean ====
/- The optimiser's step on whole arrays: new first and second moment and the change of the weight, in the reference's
   association. The calls of `_adamw` are stated against these three. -/
module

public import Idealize.ShloMosaic.Lib.Pointwise

@[expose] public section

noncomputable section

open Idealize.ShloMosaic

namespace Cert.AdamW

variable {s : Shape}

/-- The new first moment, `0.9 · m + 0.1 · g`. -/
abbrev newM (g m : FVec Ideal s .f32) : FVec Ideal s .f32 :=
  addf (mulf (constant s .f32 0x3F666666#32) m) (mulf (constant s .f32 0x3DCCCCCD#32) g)

/-- The new second moment, `0.999 · v + 0.001 · g²`. -/
abbrev newV (g v : FVec Ideal s .f32) : FVec Ideal s .f32 :=
  addf (mulf (constant s .f32 0x3F7FBE77#32) v) (mulf (constant s .f32 0x3A83126F#32) (mulf g g))

/-- The weight's change, `-0.001 · (m̂ / (√v̂ + ε) + 0.01 · w)` with both moments corrected for the ten steps taken. -/
abbrev delta (g w m v : FVec Ideal s .f32) : FVec Ideal s .f32 :=
  mulf (constant s .f32 0xBA83126F#32)
    (addf (Host.divf (Host.divf (newM g m) (constant s .f32 0x3F26BD02#32))
        (addf (Host.sqrt (Host.divf (newV g v) (constant s .f32 0x3C231ACC#32))) (constant s .f32 0x322BCC77#32)))
      (mulf (constant s .f32 0x3C23D70A#32) w))

end Cert.AdamW
end
-- ==== Proof.AdamAda.lean ====
/- The optimiser's step of the modulation weight (`_adamw` of one gradient): four grid points of 256 rows each. -/
module

public import proofs.«01_k».proof.Proof.Gen.Kernel10Ideal.Value
public import proofs.«01_k».proof.Proof.Gen.Reference10Ideal.Run
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel10Ideal.Adam

open Cert.Kernel10Ideal Cert.Kernel10Ideal.Gen Cert.AdamW

variable (m : (ℓ : Loc nD τ sig) → Buf (Elt Ideal) ℓ)

/-- The printed index maps over the four grid points. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The gradient, handed through, the weight's change and the two moments as the run leaves them. -/
theorem finals (c : Dev nD) :
    (dats m 0 c).arrAt 4 (cfgs 0).N = m ((c : Thread nD τ).loc main_arg0)
    ∧ (dats m 0 c).arrAt 5 (cfgs 0).N = delta (m ((c : Thread nD τ).loc main_arg0)) (m ((c : Thread nD τ).loc main_arg1))
        (m ((c : Thread nD τ).loc main_arg2)) (m ((c : Thread nD τ).loc main_arg3))
    ∧ (dats m 0 c).arrAt 6 (cfgs 0).N = newM (m ((c : Thread nD τ).loc main_arg0)) (m ((c : Thread nD τ).loc main_arg2))
    ∧ (dats m 0 c).arrAt 7 (cfgs 0).N = newV (m ((c : Thread nD τ).loc main_arg0)) (m ((c : Thread nD τ).loc main_arg3)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    have hN : t.val < 4 := lt_of_lt_of_eq t.isLt N_0
    blk_simp
    first | rw [after0_4] | rw [after0_5] | rw [after0_6] | rw [after0_7]
    frame_out
    pointwise [k0_pay3, k0_pay2, k0_pay1, delta, newM, newV]
    blk_point [iblk, V, idx t]

end Cert.Kernel10Ideal.Adam
end
-- ==== Proof.AdamShares.lean ====
/- The optimiser's step of the weights whose gradient comes in four device shares (`_adamw`): the in-projection (four grid
   points of 272 rows), the attention projection (two of 256) and the output projection (one). The gradient is this
   device's share plus the other three, each read as bfloat16; all four results are stored block by block. -/
module

public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel11Ideal.Adam

open Cert.Kernel11Ideal Cert.Kernel11Ideal.Gen Cert.AdamW

variable (m : (ℓ : Loc nD τ sig) → Buf (Elt Ideal) ℓ)

/-- The reference's gradient: the first share plus the sum of the others. -/
abbrev total (own : FVec Ideal Cert.Reference11Ideal.S4x1088x1024 .bf16) (others : FVec Ideal Cert.Reference11Ideal.S3x1088x1024 .bf16) :
    FVec Ideal Cert.Reference11Ideal.S1088x1024 .f32 :=
  addf (extf .f32 (shapeCast _ (extractStridedSlice Cert.Reference11Ideal.S1x1088x1024 ![0, 0, 0] own Cert.Reference11Ideal.Gen.slices_S4x1088x1024_S1x1088x1024_0_0_0) Cert.Reference11Ideal.Gen.shapeCasts_S1x1088x1024_S1088x1024) Cert.Reference11Ideal.Gen.bitsLt_bf16_f32)
    (Host.reduceAdd (extf .f32 others Cert.Reference11Ideal.Gen.bitsLt_bf16_f32) (constant Cert.Reference11Ideal.S_ .f32 0x00000000#32) Cert.Reference11Ideal.Gen.reducesTo_S3x1088x1024_S1088x1024_d0 Cert.Reference11Ideal.Gen.h_S_)

/-- The printed index maps over the grid. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient, the weight's change and the two moments as the run leaves them. -/
theorem finals (c : Dev nD) :
    (dats m 0 c).arrAt 5 (cfgs 0).N = total (m ((c : Thread nD τ).loc main_arg0)) (m ((c : Thread nD τ).loc main_arg1))
    ∧ (dats m 0 c).arrAt 6 (cfgs 0).N = delta (total (m ((c : Thread nD τ).loc main_arg0)) (m ((c : Thread nD τ).loc main_arg1)))
        (m ((c : Thread nD τ).loc main_arg2)) (m ((c : Thread nD τ).loc main_arg3)) (m ((c : Thread nD τ).loc main_arg4))
    ∧ (dats m 0 c).arrAt 7 (cfgs 0).N = newM (total (m ((c : Thread nD τ).loc main_arg0)) (m ((c : Thread nD τ).loc main_arg1)))
        (m ((c : Thread nD τ).loc main_arg3))
    ∧ (dats m 0 c).arrAt 8 (cfgs 0).N = newV (total (m ((c : Thread nD τ).loc main_arg0)) (m ((c : Thread nD τ).loc main_arg1)))
        (m ((c : Thread nD τ).loc main_arg4)) := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  all_goals
    have hN : t.val < 4 := lt_of_lt_of_eq t.isLt N_0
    blk_simp
    first | rw [after0_5] | rw [after0_6] | rw [after0_7] | rw [after0_8]
    frame_out
    pointwise [k0_pay1, k0_pay2, k0_pay3, k0_pay4, k0_pay5, k0_pay6, delta, newM, newV, total, Fin.sum_univ_three, add_assoc]
    blk_point [iblk, V, idx t]

end Cert.Kernel11Ideal.Adam

namespace Cert.Kernel12Ideal.Adam

open Cert.Kernel12Ideal Cert.Kernel12Ideal.Gen Cert.AdamW

variable (m : (ℓ : Loc nD τ sig) → Buf (Elt Ideal) ℓ)

/-- The reference's gradient: the first share plus the sum of the others. -/
abbrev total (own : FVec Ideal Cert.Reference12Ideal.S4x512x128 .bf16) (others : FVec Ideal Cert.Reference12Ideal.S3x512x128 .bf16) :
    FVec Ideal Cert.Reference12Ideal.S512x128 .f32 :=
  addf (extf .f32 (shapeCast _ (extractStridedSlice Cert.Reference12Ideal.S1x512x128 ![0, 0, 0] own Cert.Reference12Ideal.Gen.slices_S4x512x128_S1x512x128_0_0_0) Cert.Reference12Ideal.Gen.shapeCasts_S1x512x128_S512x128) Cert.Reference12Ideal.Gen.bitsLt_bf16_f32)
    (Host.reduceAdd (extf .f32 others Cert.Reference12Ideal.Gen.bitsLt_bf16_f32) (constant Cert.Reference12Ideal.S_ .f32 0x00000000#32) Cert.Reference12Ideal.Gen.reducesTo_S3x512x128_S512x128_d0 Cert.Reference12Ideal.Gen.h_S_)

/-- The printed index maps over the grid. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient, the weight's change and the two moments as the run leaves them. -/
theorem finals (c : Dev nD) :
    (dats m 0 c).arrAt 5 (cfgs 0).N = total (m ((c : Thread nD τ).loc main_arg0)) (m ((c : Thread nD τ).loc main_arg1))
    ∧ (dats m 0 c).arrAt 6 (cfgs 0).N = delta (total (m ((c : Thread nD τ).loc main_arg0)) (m ((c : Thread nD τ).loc main_arg1)))
        (m ((c : Thread nD τ).loc main_arg2)) (m ((c : Thread nD τ).loc main_arg3)) (m ((c : Thread nD τ).loc main_arg4))
    ∧ (dats m 0 c).arrAt 7 (cfgs 0).N = newM (total (m ((c : Thread nD τ).loc main_arg0)) (m ((c : Thread nD τ).loc main_arg1)))
        (m ((c : Thread nD τ).loc main_arg3))
    ∧ (dats m 0 c).arrAt 8 (cfgs 0).N = newV (total (m ((c : Thread nD τ).loc main_arg0)) (m ((c : Thread nD τ).loc main_arg1)))
        (m ((c : Thread nD τ).loc main_arg4)) := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  all_goals
    have hN : t.val < 2 := lt_of_lt_of_eq t.isLt N_0
    blk_simp
    first | rw [after0_5] | rw [after0_6] | rw [after0_7] | rw [after0_8]
    frame_out
    pointwise [k0_pay1, k0_pay2, k0_pay3, k0_pay4, k0_pay5, k0_pay6, delta, newM, newV, total, Fin.sum_univ_three, add_assoc]
    blk_point [iblk, V, idx t]

end Cert.Kernel12Ideal.Adam

namespace Cert.Kernel13Ideal.Adam

open Cert.Kernel13Ideal Cert.Kernel13Ideal.Gen Cert.AdamW

variable (m : (ℓ : Loc nD τ sig) → Buf (Elt Ideal) ℓ)

/-- The reference's gradient: the first share plus the sum of the others. -/
abbrev total (own : FVec Ideal Cert.Reference13Ideal.S4x128x1024 .bf16) (others : FVec Ideal Cert.Reference13Ideal.S3x128x1024 .bf16) :
    FVec Ideal Cert.Reference13Ideal.S128x1024 .f32 :=
  addf (extf .f32 (shapeCast _ (extractStridedSlice Cert.Reference13Ideal.S1x128x1024 ![0, 0, 0] own Cert.Reference13Ideal.Gen.slices_S4x128x1024_S1x128x1024_0_0_0) Cert.Reference13Ideal.Gen.shapeCasts_S1x128x1024_S128x1024) Cert.Reference13Ideal.Gen.bitsLt_bf16_f32)
    (Host.reduceAdd (extf .f32 others Cert.Reference13Ideal.Gen.bitsLt_bf16_f32) (constant Cert.Reference13Ideal.S_ .f32 0x00000000#32) Cert.Reference13Ideal.Gen.reducesTo_S3x128x1024_S128x1024_d0 Cert.Reference13Ideal.Gen.h_S_)

/-- The printed index maps over the grid. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient, the weight's change and the two moments as the run leaves them. -/
theorem finals (c : Dev nD) :
    (dats m 0 c).arrAt 5 (cfgs 0).N = total (m ((c : Thread nD τ).loc main_arg0)) (m ((c : Thread nD τ).loc main_arg1))
    ∧ (dats m 0 c).arrAt 6 (cfgs 0).N = delta (total (m ((c : Thread nD τ).loc main_arg0)) (m ((c : Thread nD τ).loc main_arg1)))
        (m ((c : Thread nD τ).loc main_arg2)) (m ((c : Thread nD τ).loc main_arg3)) (m ((c : Thread nD τ).loc main_arg4))
    ∧ (dats m 0 c).arrAt 7 (cfgs 0).N = newM (total (m ((c : Thread nD τ).loc main_arg0)) (m ((c : Thread nD τ).loc main_arg1)))
        (m ((c : Thread nD τ).loc main_arg3))
    ∧ (dats m 0 c).arrAt 8 (cfgs 0).N = newV (total (m ((c : Thread nD τ).loc main_arg0)) (m ((c : Thread nD τ).loc main_arg1)))
        (m ((c : Thread nD τ).loc main_arg4)) := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  all_goals
    have hN : t.val < 1 := lt_of_lt_of_eq t.isLt N_0
    blk_simp
    first | rw [after0_5] | rw [after0_6] | rw [after0_7] | rw [after0_8]
    frame_out
    pointwise [k0_pay1, k0_pay2, k0_pay3, k0_pay4, k0_pay5, k0_pay6, delta, newM, newV, total, Fin.sum_univ_three, add_assoc]
    blk_point [iblk, V, idx t]

end Cert.Kernel13Ideal.Adam

end
-- ==== Proof.AdamConv.lean ====
/- The optimiser's step of the convolution's weight (`_adamw` of eight parts): one grid point over whole arrays; the
   gradient is the sum of the eight parts. -/
module

public import proofs.«01_k».proof.Proof.Gen.Kernel14Ideal.Value
public import proofs.«01_k».proof.Proof.Gen.Reference14Ideal.Run
public import proofs.«01_k».proof.Proof.AdamW
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel14Ideal.Adam

open Cert.Kernel14Ideal Cert.Kernel14Ideal.Gen Cert.AdamW

/-- The reference's gradient: the sum of the eight parts. -/
abbrev total (parts : FVec Ideal Cert.Reference14Ideal.S8x31x64 .f32) : FVec Ideal Cert.Reference14Ideal.S31x64 .f32 :=
  Host.reduceAdd parts (constant Cert.Reference14Ideal.S_ .f32 0x00000000#32) Cert.Reference14Ideal.Gen.reducesTo_S8x31x64_S31x64_d0
    Cert.Reference14Ideal.Gen.h_S_

/-- The gradient the body stores is the sum of the parts. -/
theorem grad_eq (p : Vec Ideal S8x31x64 .f32) (w u v : Vec Ideal S31x64 .f32) : k0_pay6 p w u v = total p := by
  funext y
  pointwise [k0_pay6, k0_pay4, total, Fin.sum_univ_eight, add_assoc]

/-- The four stored arrays are the gradient, the weight's change and the two moments. -/
theorem stored (p : Vec Ideal S8x31x64 .f32) (w u v : Vec Ideal S31x64 .f32) :
    Value.G4 p w u v = total p ∧ Value.G5 p w u v = delta (total p) w u v
    ∧ Value.G6 p w u v = newM (total p) u ∧ Value.G7 p w u v = newV (total p) v := by
  simp only [Value.G4, Value.G5, Value.G6, Value.G7, grad_eq, true_and]
  refine ⟨?_, ?_, ?_⟩ <;> funext y <;>
    pointwise [k0_pay1, k0_pay2, k0_pay3, k0_pay5, k0_pay7, delta, newM, newV]

/-- The gradient, the weight's change and the two moments as the run leaves them. -/
theorem finals (m : (ℓ : Loc nD τ sig) → Buf (Elt Ideal) ℓ) (c : Dev nD) :
    (dats m 0 c).arrAt 4 (cfgs 0).N = total (m ((c : Thread nD τ).loc main_arg0))
    ∧ (dats m 0 c).arrAt 5 (cfgs 0).N = delta (total (m ((c : Thread nD τ).loc main_arg0)))
        (m ((c : Thread nD τ).loc main_arg1)) (m ((c : Thread nD τ).loc main_arg2)) (m ((c : Thread nD τ).loc main_arg3))
    ∧ (dats m 0 c).arrAt 6 (cfgs 0).N = newM (total (m ((c : Thread nD τ).loc main_arg0))) (m ((c : Thread nD τ).loc main_arg2))
    ∧ (dats m 0 c).arrAt 7 (cfgs 0).N = newV (total (m ((c : Thread nD τ).loc main_arg0))) (m ((c : Thread nD τ).loc main_arg3)) := by
  obtain ⟨h4, h5, h6, h7⟩ := stored (m ((c : Thread nD τ).loc main_arg0)) (m ((c : Thread nD τ).loc main_arg1))
    (m ((c : Thread nD τ).loc main_arg2)) (m ((c : Thread nD τ).loc main_arg3))
  exact ⟨(Value.final4 m c).trans h4, (Value.final5 m c).trans h5, (Value.final6 m c).trans h6, (Value.final7 m c).trans h7⟩

end Cert.Kernel14Ideal.Adam
end
-- ==== Proof.SmallBody.lean ====
/- The run of the optimiser's step of the eight small weights (`_adamw_small`): one grid point, 25 input arrays (the eight
   packed parts; then for the eight weights in turn the weights, the first moments, the second moments) and 33 output arrays
   (gradients, changes, first moments, second moments, and the loss's row), every block a whole array. -/
module

public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Claim
public import Idealize.ShloMosaic.Lib.Tactic

@[expose] public section

set_option maxRecDepth 16384

noncomputable section

namespace Cert.Kernel15Ideal.Small

open Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves -/

/-- The sum of the eight packed parts. -/
def sum (x : Vec F S8x8x1024 .f32) : FVec F S8x1024 .f32 :=
  k0_pay4 (View.ld x (Rect.unit (s := S8x8x1024) ![0, 0, 0] S1x8x1024.size inb_S8x8x1024_S1x8x1024_0_0_0))
    (View.ld x (Rect.unit (s := S8x8x1024) ![1, 0, 0] S1x8x1024.size inb_S8x8x1024_S1x8x1024_1_0_0))
    (View.ld x (Rect.unit (s := S8x8x1024) ![2, 0, 0] S1x8x1024.size inb_S8x8x1024_S1x8x1024_2_0_0))
    (View.ld x (Rect.unit (s := S8x8x1024) ![3, 0, 0] S1x8x1024.size inb_S8x8x1024_S1x8x1024_3_0_0))
    (View.ld x (Rect.unit (s := S8x8x1024) ![4, 0, 0] S1x8x1024.size inb_S8x8x1024_S1x8x1024_4_0_0))
    (View.ld x (Rect.unit (s := S8x8x1024) ![5, 0, 0] S1x8x1024.size inb_S8x8x1024_S1x8x1024_5_0_0))
    (View.ld x (Rect.unit (s := S8x8x1024) ![6, 0, 0] S1x8x1024.size inb_S8x8x1024_S1x8x1024_6_0_0))
    (View.ld x (Rect.unit (s := S8x8x1024) ![7, 0, 0] S1x8x1024.size inb_S8x8x1024_S1x8x1024_7_0_0))

/-- The first weight's gradient. -/
def gradAda (x : Vec F S8x8x1024 .f32) : FVec F S1x3072 .f32 :=
  k0_pay6 (View.ld x (Rect.unit (s := S8x8x1024) ![0, 0, 0] S1x8x1024.size inb_S8x8x1024_S1x8x1024_0_0_0))
    (View.ld x (Rect.unit (s := S8x8x1024) ![1, 0, 0] S1x8x1024.size inb_S8x8x1024_S1x8x1024_1_0_0))
    (View.ld x (Rect.unit (s := S8x8x1024) ![2, 0, 0] S1x8x1024.size inb_S8x8x1024_S1x8x1024_2_0_0))
    (View.ld x (Rect.unit (s := S8x8x1024) ![3, 0, 0] S1x8x1024.size inb_S8x8x1024_S1x8x1024_3_0_0))
    (View.ld x (Rect.unit (s := S8x8x1024) ![4, 0, 0] S1x8x1024.size inb_S8x8x1024_S1x8x1024_4_0_0))
    (View.ld x (Rect.unit (s := S8x8x1024) ![5, 0, 0] S1x8x1024.size inb_S8x8x1024_S1x8x1024_5_0_0))
    (View.ld x (Rect.unit (s := S8x8x1024) ![6, 0, 0] S1x8x1024.size inb_S8x8x1024_S1x8x1024_6_0_0))
    (View.ld x (Rect.unit (s := S8x8x1024) ![7, 0, 0] S1x8x1024.size inb_S8x8x1024_S1x8x1024_7_0_0))

/-- The loss's row. -/
def lossRow (x : Vec F S8x8x1024 .f32) : FVec F S1x128 .f32 :=
  k0_pay5 (View.ld x (Rect.unit (s := S8x8x1024) ![0, 0, 0] S1x8x1024.size inb_S8x8x1024_S1x8x1024_0_0_0))
    (View.ld x (Rect.unit (s := S8x8x1024) ![1, 0, 0] S1x8x1024.size inb_S8x8x1024_S1x8x1024_1_0_0))
    (View.ld x (Rect.unit (s := S8x8x1024) ![2, 0, 0] S1x8x1024.size inb_S8x8x1024_S1x8x1024_2_0_0))
    (View.ld x (Rect.unit (s := S8x8x1024) ![3, 0, 0] S1x8x1024.size inb_S8x8x1024_S1x8x1024_3_0_0))
    (View.ld x (Rect.unit (s := S8x8x1024) ![4, 0, 0] S1x8x1024.size inb_S8x8x1024_S1x8x1024_4_0_0))
    (View.ld x (Rect.unit (s := S8x8x1024) ![5, 0, 0] S1x8x1024.size inb_S8x8x1024_S1x8x1024_5_0_0))
    (View.ld x (Rect.unit (s := S8x8x1024) ![6, 0, 0] S1x8x1024.size inb_S8x8x1024_S1x8x1024_6_0_0))
    (View.ld x (Rect.unit (s := S8x8x1024) ![7, 0, 0] S1x8x1024.size inb_S8x8x1024_S1x8x1024_7_0_0))

/-- The whole of a row of 128. -/
abbrev row128 : Rect S1x128 := Rect.unit (s := S1x128) ![0, 0] S1x128.size inb_S1x128_S1x128_0_0

/-- The whole of a row of 3072. -/
abbrev row3072 : Rect S1x3072 := Rect.unit (s := S1x3072) ![0, 0] S1x3072.size inb_S1x3072_S1x3072_0_0

/-- The whole of a row of 1024. -/
abbrev row1024 : Rect S1x1024 := Rect.unit (s := S1x1024) ![0, 0] S1x1024.size inb_S1x1024_S1x1024_0_0

/-- The whole of a row of 2048. -/
abbrev row2048 : Rect S1x2048 := Rect.unit (s := S1x2048) ![0, 0] S1x2048.size inb_S1x2048_S1x2048_0_0

/-- The whole of a row of 64. -/
abbrev row64 : Rect S1x64 := Rect.unit (s := S1x64) ![0, 0] S1x64.size inb_S1x64_S1x64_0_0

/-- The whole of a row of 512. -/
abbrev row512 : Rect S1x512 := Rect.unit (s := S1x512) ![0, 0] S1x512.size inb_S1x512_S1x512_0_0

/-- What a store of `p` through the whole array leaves. -/
abbrev left {s : Shape} (r : Rect s) (p : r.shape.Idx → Elt F .f32) : Vec F s .f32 := View.canon [⟨r, p⟩]

/-! ## The body -/

/-- A block held whole. -/
abbrev own (c : Dev nD) {s : Shape} (a : Memref sig .tc .vmem s .f32) (x : Vec F s .f32) : sProp 𝕄 :=
  owns (c : Thread nD τ) a fullShare x

/-- A block held whole, at some contents. -/
abbrev any (c : Dev nD) {s : Shape} (a : Memref sig .tc .vmem s .f32) : sProp 𝕄 := iprop(∃ x : Vec F s .f32, own c a x)

/-- The one store into an output covers it. -/
theorem stored {s : Shape} {a : Memref sig .tc .vmem s .f32} (f : a.view.ty.Contents (Elt F)) (r : Rect s) (p : r.shape.Idx → Elt F .f32)
    (h : ∀ y : s.Idx, ∃ pc ∈ ([⟨r, p⟩] : List (View.Piece (Elt F) s .f32)), y ∈ pc.1.set) :
    a.view.read (Elt F) (a.view.writes (Elt F) f [⟨r, p⟩]) = left r p :=
  View.read_writes_eq_canon _ _ _ h

/-- A store through a whole row covers it. -/
theorem cover_128 (p : Vec F S1x128 .f32) (y : S1x128.Idx) :
    ∃ pc ∈ ([⟨row128, p⟩] : List (View.Piece (Elt F) S1x128 .f32)), y ∈ pc.1.set :=
  View.cover_of_tiled [⟨row128, p⟩] S1x128.size (by rfl) y

/-- A store through a whole row covers it. -/
theorem cover_3072 (p : Vec F S1x3072 .f32) (y : S1x3072.Idx) :
    ∃ pc ∈ ([⟨row3072, p⟩] : List (View.Piece (Elt F) S1x3072 .f32)), y ∈ pc.1.set :=
  View.cover_of_tiled [⟨row3072, p⟩] S1x3072.size (by rfl) y

/-- A store through a whole row covers it. -/
theorem cover_1024 (p : Vec F S1x1024 .f32) (y : S1x1024.Idx) :
    ∃ pc ∈ ([⟨row1024, p⟩] : List (View.Piece (Elt F) S1x1024 .f32)), y ∈ pc.1.set :=
  View.cover_of_tiled [⟨row1024, p⟩] S1x1024.size (by rfl) y

/-- A store through a whole row covers it. -/
theorem cover_2048 (p : Vec F S1x2048 .f32) (y : S1x2048.Idx) :
    ∃ pc ∈ ([⟨row2048, p⟩] : List (View.Piece (Elt F) S1x2048 .f32)), y ∈ pc.1.set :=
  View.cover_of_tiled [⟨row2048, p⟩] S1x2048.size (by rfl) y

/-- A store through a whole row covers it. -/
theorem cover_64 (p : Vec F S1x64 .f32) (y : S1x64.Idx) :
    ∃ pc ∈ ([⟨row64, p⟩] : List (View.Piece (Elt F) S1x64 .f32)), y ∈ pc.1.set :=
  View.cover_of_tiled [⟨row64, p⟩] S1x64.size (by rfl) y

/-- A store through a whole row covers it. -/
theorem cover_512 (p : Vec F S1x512 .f32) (y : S1x512.Idx) :
    ∃ pc ∈ ([⟨row512, p⟩] : List (View.Piece (Elt F) S1x512 .f32)), y ∈ pc.1.set :=
  View.cover_of_tiled [⟨row512, p⟩] S1x512.size (by rfl) y

set_option maxHeartbeats 1500000 in
/-- The body reads its inputs and overwrites its outputs with the stated functions of them. -/
theorem sound_kernel (c : Dev nD) (E : Set ℕ)
    (arg0 : Memref sig .tc .vmem S8x8x1024 .f32) (harg0 : arg0.IsWhole)
    (arg1 : Memref sig .tc .vmem S1x3072 .f32) (harg1 : arg1.IsWhole)
    (arg2 : Memref sig .tc .vmem S1x1024 .f32) (harg2 : arg2.IsWhole)
    (arg3 : Memref sig .tc .vmem S1x2048 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x3072 .f32) (harg9 : arg9.IsWhole)
    (arg10 : Memref sig .tc .vmem S1x1024 .f32) (harg10 : arg10.IsWhole)
    (arg11 : Memref sig .tc .vmem S1x2048 .f32) (harg11 : arg11.IsWhole)
    (arg12 : Memref sig .tc .vmem S1x64 .f32) (harg12 : arg12.IsWhole)
    (arg13 : Memref sig .tc .vmem S1x64 .f32) (harg13 : arg13.IsWhole)
    (arg14 : Memref sig .tc .vmem S1x512 .f32) (harg14 : arg14.IsWhole)
    (arg15 : Memref sig .tc .vmem S1x512 .f32) (harg15 : arg15.IsWhole)
    (arg16 : Memref sig .tc .vmem S1x512 .f32) (harg16 : arg16.IsWhole)
    (arg17 : Memref sig .tc .vmem S1x3072 .f32) (harg17 : arg17.IsWhole)
    (arg18 : Memref sig .tc .vmem S1x1024 .f32) (harg18 : arg18.IsWhole)
    (arg19 : Memref sig .tc .vmem S1x2048 .f32) (harg19 : arg19.IsWhole)
    (arg20 : Memref sig .tc .vmem S1x64 .f32) (harg20 : arg20.IsWhole)
    (arg21 : Memref sig .tc .vmem S1x64 .f32) (harg21 : arg21.IsWhole)
    (arg22 : Memref sig .tc .vmem S1x512 .f32) (harg22 : arg22.IsWhole)
    (arg23 : Memref sig .tc .vmem S1x512 .f32) (harg23 : arg23.IsWhole)
    (arg24 : Memref sig .tc .vmem S1x512 .f32) (harg24 : arg24.IsWhole)
    (arg25 : Memref sig .tc .vmem S1x3072 .f32) (harg25 : arg25.IsWhole)
    (arg26 : Memref sig .tc .vmem S1x1024 .f32) (harg26 : arg26.IsWhole)
    (arg27 : Memref sig .tc .vmem S1x2048 .f32) (harg27 : arg27.IsWhole)
    (arg28 : Memref sig .tc .vmem S1x64 .f32) (harg28 : arg28.IsWhole)
    (arg29 : Memref sig .tc .vmem S1x64 .f32) (harg29 : arg29.IsWhole)
    (arg30 : Memref sig .tc .vmem S1x512 .f32) (harg30 : arg30.IsWhole)
    (arg31 : Memref sig .tc .vmem S1x512 .f32) (harg31 : arg31.IsWhole)
    (arg32 : Memref sig .tc .vmem S1x512 .f32) (harg32 : arg32.IsWhole)
    (arg33 : Memref sig .tc .vmem S1x3072 .f32) (harg33 : arg33.IsWhole)
    (arg34 : Memref sig .tc .vmem S1x1024 .f32) (harg34 : arg34.IsWhole)
    (arg35 : Memref sig .tc .vmem S1x2048 .f32) (harg35 : arg35.IsWhole)
    (arg36 : Memref sig .tc .vmem S1x64 .f32) (harg36 : arg36.IsWhole)
    (arg37 : Memref sig .tc .vmem S1x64 .f32) (harg37 : arg37.IsWhole)
    (arg38 : Memref sig .tc .vmem S1x512 .f32) (harg38 : arg38.IsWhole)
    (arg39 : Memref sig .tc .vmem S1x512 .f32) (harg39 : arg39.IsWhole)
    (arg40 : Memref sig .tc .vmem S1x512 .f32) (harg40 : arg40.IsWhole)
    (arg41 : Memref sig .tc .vmem S1x3072 .f32) (harg41 : arg41.IsWhole)
    (arg42 : Memref sig .tc .vmem S1x1024 .f32) (harg42 : arg42.IsWhole)
    (arg43 : Memref sig .tc .vmem S1x2048 .f32) (harg43 : arg43.IsWhole)
    (arg44 : Memref sig .tc .vmem S1x64 .f32) (harg44 : arg44.IsWhole)
    (arg45 : Memref sig .tc .vmem S1x64 .f32) (harg45 : arg45.IsWhole)
    (arg46 : Memref sig .tc .vmem S1x512 .f32) (harg46 : arg46.IsWhole)
    (arg47 : Memref sig .tc .vmem S1x512 .f32) (harg47 : arg47.IsWhole)
    (arg48 : Memref sig .tc .vmem S1x512 .f32) (harg48 : arg48.IsWhole)
    (arg49 : Memref sig .tc .vmem S1x3072 .f32) (harg49 : arg49.IsWhole)
    (arg50 : Memref sig .tc .vmem S1x1024 .f32) (harg50 : arg50.IsWhole)
    (arg51 : Memref sig .tc .vmem S1x2048 .f32) (harg51 : arg51.IsWhole)
    (arg52 : Memref sig .tc .vmem S1x64 .f32) (harg52 : arg52.IsWhole)
    (arg53 : Memref sig .tc .vmem S1x64 .f32) (harg53 : arg53.IsWhole)
    (arg54 : Memref sig .tc .vmem S1x512 .f32) (harg54 : arg54.IsWhole)
    (arg55 : Memref sig .tc .vmem S1x512 .f32) (harg55 : arg55.IsWhole)
    (arg56 : Memref sig .tc .vmem S1x512 .f32) (harg56 : arg56.IsWhole)
    (arg57 : Memref sig .tc .vmem S1x128 .f32) (harg57 : arg57.IsWhole)
    (x0 : Vec F S8x8x1024 .f32) (x1 : Vec F S1x3072 .f32) (x2 : Vec F S1x1024 .f32) (x3 : Vec F S1x2048 .f32)
    (x4 : Vec F S1x64 .f32) (x5 : Vec F S1x64 .f32) (x6 : Vec F S1x512 .f32) (x7 : Vec F S1x512 .f32)
    (x8 : Vec F S1x512 .f32) (x9 : Vec F S1x3072 .f32) (x10 : Vec F S1x1024 .f32) (x11 : Vec F S1x2048 .f32)
    (x12 : Vec F S1x64 .f32) (x13 : Vec F S1x64 .f32) (x14 : Vec F S1x512 .f32) (x15 : Vec F S1x512 .f32)
    (x16 : Vec F S1x512 .f32) (x17 : Vec F S1x3072 .f32) (x18 : Vec F S1x1024 .f32) (x19 : Vec F S1x2048 .f32)
    (x20 : Vec F S1x64 .f32) (x21 : Vec F S1x64 .f32) (x22 : Vec F S1x512 .f32) (x23 : Vec F S1x512 .f32)
    (x24 : Vec F S1x512 .f32)
    (K : PUnit → sProp 𝕄) :
    iprop((
        own c arg0 x0 ∗ own c arg1 x1 ∗ own c arg2 x2 ∗ own c arg3 x3 ∗ own c arg4 x4 ∗ own c arg5 x5 ∗ own c arg6 x6 ∗
        own c arg7 x7 ∗ own c arg8 x8 ∗ own c arg9 x9 ∗ own c arg10 x10 ∗ own c arg11 x11 ∗ own c arg12 x12 ∗
        own c arg13 x13 ∗ own c arg14 x14 ∗ own c arg15 x15 ∗ own c arg16 x16 ∗ own c arg17 x17 ∗ own c arg18 x18 ∗
        own c arg19 x19 ∗ own c arg20 x20 ∗ own c arg21 x21 ∗ own c arg22 x22 ∗ own c arg23 x23 ∗ own c arg24 x24 ∗
        any c arg25 ∗ any c arg26 ∗ any c arg27 ∗ any c arg28 ∗ any c arg29 ∗ any c arg30 ∗ any c arg31 ∗ any c arg32 ∗
        any c arg33 ∗ any c arg34 ∗ any c arg35 ∗ any c arg36 ∗ any c arg37 ∗ any c arg38 ∗ any c arg39 ∗ any c arg40 ∗
        any c arg41 ∗ any c arg42 ∗ any c arg43 ∗ any c arg44 ∗ any c arg45 ∗ any c arg46 ∗ any c arg47 ∗ any c arg48 ∗
        any c arg49 ∗ any c arg50 ∗ any c arg51 ∗ any c arg52 ∗ any c arg53 ∗ any c arg54 ∗ any c arg55 ∗ any c arg56 ∗
        any c arg57)
      ∗ ((
        own c arg0 x0 ∗ own c arg1 x1 ∗ own c arg2 x2 ∗ own c arg3 x3 ∗ own c arg4 x4 ∗ own c arg5 x5 ∗ own c arg6 x6 ∗
        own c arg7 x7 ∗ own c arg8 x8 ∗ own c arg9 x9 ∗ own c arg10 x10 ∗ own c arg11 x11 ∗ own c arg12 x12 ∗
        own c arg13 x13 ∗ own c arg14 x14 ∗ own c arg15 x15 ∗ own c arg16 x16 ∗ own c arg17 x17 ∗ own c arg18 x18 ∗
        own c arg19 x19 ∗ own c arg20 x20 ∗ own c arg21 x21 ∗ own c arg22 x22 ∗ own c arg23 x23 ∗ own c arg24 x24 ∗
        own c arg25 (left row3072 (gradAda x0)) ∗ own c arg26 (left row1024 (k0_pay10 (sum x0))) ∗
        own c arg27 (left row2048 (k0_pay14 (sum x0))) ∗ own c arg28 (left row64 (k0_pay18 (sum x0))) ∗
        own c arg29 (left row64 (k0_pay22 (sum x0))) ∗ own c arg30 (left row512 (k0_pay26 (sum x0))) ∗
        own c arg31 (left row512 (k0_pay30 (sum x0))) ∗ own c arg32 (left row512 (k0_pay34 (sum x0))) ∗
        own c arg33 (left row3072 (k0_pay9 (gradAda x0) (View.ld x1 row3072) (View.ld x9 row3072) (View.ld x17 row3072))) ∗
        own c arg34 (left row1024 (k0_pay13 (k0_pay10 (sum x0)) (View.ld x2 row1024) (View.ld x10 row1024) (View.ld x18 row1024))) ∗
        own c arg35 (left row2048 (k0_pay17 (k0_pay14 (sum x0)) (View.ld x3 row2048) (View.ld x11 row2048) (View.ld x19 row2048))) ∗
        own c arg36 (left row64 (k0_pay21 (k0_pay18 (sum x0)) (View.ld x4 row64) (View.ld x12 row64) (View.ld x20 row64))) ∗
        own c arg37 (left row64 (k0_pay25 (k0_pay22 (sum x0)) (View.ld x5 row64) (View.ld x13 row64) (View.ld x21 row64))) ∗
        own c arg38 (left row512 (k0_pay29 (k0_pay26 (sum x0)) (View.ld x6 row512) (View.ld x14 row512) (View.ld x22 row512))) ∗
        own c arg39 (left row512 (k0_pay33 (k0_pay30 (sum x0)) (View.ld x7 row512) (View.ld x15 row512) (View.ld x23 row512))) ∗
        own c arg40 (left row512 (k0_pay3 (k0_pay34 (sum x0)) (View.ld x8 row512) (View.ld x16 row512) (View.ld x24 row512))) ∗
        own c arg41 (left row3072 (k0_pay7 (gradAda x0) (View.ld x9 row3072))) ∗
        own c arg42 (left row1024 (k0_pay11 (k0_pay10 (sum x0)) (View.ld x10 row1024))) ∗
        own c arg43 (left row2048 (k0_pay15 (k0_pay14 (sum x0)) (View.ld x11 row2048))) ∗
        own c arg44 (left row64 (k0_pay19 (k0_pay18 (sum x0)) (View.ld x12 row64))) ∗
        own c arg45 (left row64 (k0_pay23 (k0_pay22 (sum x0)) (View.ld x13 row64))) ∗
        own c arg46 (left row512 (k0_pay27 (k0_pay26 (sum x0)) (View.ld x14 row512))) ∗
        own c arg47 (left row512 (k0_pay31 (k0_pay30 (sum x0)) (View.ld x15 row512))) ∗
        own c arg48 (left row512 (k0_pay1 (k0_pay34 (sum x0)) (View.ld x16 row512))) ∗
        own c arg49 (left row3072 (k0_pay8 (gradAda x0) (View.ld x17 row3072))) ∗
        own c arg50 (left row1024 (k0_pay12 (k0_pay10 (sum x0)) (View.ld x18 row1024))) ∗
        own c arg51 (left row2048 (k0_pay16 (k0_pay14 (sum x0)) (View.ld x19 row2048))) ∗
        own c arg52 (left row64 (k0_pay20 (k0_pay18 (sum x0)) (View.ld x20 row64))) ∗
        own c arg53 (left row64 (k0_pay24 (k0_pay22 (sum x0)) (View.ld x21 row64))) ∗
        own c arg54 (left row512 (k0_pay28 (k0_pay26 (sum x0)) (View.ld x22 row512))) ∗
        own c arg55 (left row512 (k0_pay32 (k0_pay30 (sum x0)) (View.ld x23 row512))) ∗
        own c arg56 (left row512 (k0_pay2 (k0_pay34 (sum x0)) (View.ld x24 row512))) ∗
        own c arg57 (left row128 (lossRow x0))) -∗ K ()))
      ⊢ wp frame (wpE (defs₀ (F := F)) Variants.none c none) E (cc0_adamw_small
          arg0 harg0 arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25
          arg26 harg26 arg27 harg27 arg28 harg28 arg29 harg29 arg30 harg30 arg31 harg31 arg32 harg32 arg33 harg33
          arg34 harg34 arg35 harg35 arg36 harg36 arg37 harg37 arg38 harg38 arg39 harg39 arg40 harg40 arg41 harg41
          arg42 harg42 arg43 harg43 arg44 harg44 arg45 harg45 arg46 harg46 arg47 harg47 arg48 harg48 arg49 harg49
          arg50 harg50 arg51 harg51 arg52 harg52 arg53 harg53 arg54 harg54 arg55 harg55 arg56 harg56 arg57 harg57) K := by
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold any own owns
  iintro ⟨⟨
    ⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%f17, %hf17, H17⟩, ⟨%f18, %hf18, H18⟩, ⟨%f19, %hf19, H19⟩, ⟨%f20, %hf20, H20⟩, ⟨%f21, %hf21, H21⟩,
    ⟨%f22, %hf22, H22⟩, ⟨%f23, %hf23, H23⟩, ⟨%f24, %hf24, H24⟩, ⟨%d25, %f25, -, H25⟩, ⟨%d26, %f26, -, H26⟩,
    ⟨%d27, %f27, -, H27⟩, ⟨%d28, %f28, -, H28⟩, ⟨%d29, %f29, -, H29⟩, ⟨%d30, %f30, -, H30⟩, ⟨%d31, %f31, -, H31⟩,
    ⟨%d32, %f32, -, H32⟩, ⟨%d33, %f33, -, H33⟩, ⟨%d34, %f34, -, H34⟩, ⟨%d35, %f35, -, H35⟩, ⟨%d36, %f36, -, H36⟩,
    ⟨%d37, %f37, -, H37⟩, ⟨%d38, %f38, -, H38⟩, ⟨%d39, %f39, -, H39⟩, ⟨%d40, %f40, -, H40⟩, ⟨%d41, %f41, -, H41⟩,
    ⟨%d42, %f42, -, H42⟩, ⟨%d43, %f43, -, H43⟩, ⟨%d44, %f44, -, H44⟩, ⟨%d45, %f45, -, H45⟩, ⟨%d46, %f46, -, H46⟩,
    ⟨%d47, %f47, -, H47⟩, ⟨%d48, %f48, -, H48⟩, ⟨%d49, %f49, -, H49⟩, ⟨%d50, %f50, -, H50⟩, ⟨%d51, %f51, -, H51⟩,
    ⟨%d52, %f52, -, H52⟩, ⟨%d53, %f53, -, H53⟩, ⟨%d54, %f54, -, H54⟩, ⟨%d55, %f55, -, H55⟩, ⟨%d56, %f56, -, H56⟩,
    ⟨%d57, %f57, -, H57⟩⟩, Hk⟩
  subst
    hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  isplitl [H6]; · iexists f6; isplitr; ipureintro; rfl; iexact H6
  isplitl [H7]; · iexists f7; isplitr; ipureintro; rfl; iexact H7
  isplitl [H8]; · iexists f8; isplitr; ipureintro; rfl; iexact H8
  isplitl [H9]; · iexists f9; isplitr; ipureintro; rfl; iexact H9
  isplitl [H10]; · iexists f10; isplitr; ipureintro; rfl; iexact H10
  isplitl [H11]; · iexists f11; isplitr; ipureintro; rfl; iexact H11
  isplitl [H12]; · iexists f12; isplitr; ipureintro; rfl; iexact H12
  isplitl [H13]; · iexists f13; isplitr; ipureintro; rfl; iexact H13
  isplitl [H14]; · iexists f14; isplitr; ipureintro; rfl; iexact H14
  isplitl [H15]; · iexists f15; isplitr; ipureintro; rfl; iexact H15
  isplitl [H16]; · iexists f16; isplitr; ipureintro; rfl; iexact H16
  isplitl [H17]; · iexists f17; isplitr; ipureintro; rfl; iexact H17
  isplitl [H18]; · iexists f18; isplitr; ipureintro; rfl; iexact H18
  isplitl [H19]; · iexists f19; isplitr; ipureintro; rfl; iexact H19
  isplitl [H20]; · iexists f20; isplitr; ipureintro; rfl; iexact H20
  isplitl [H21]; · iexists f21; isplitr; ipureintro; rfl; iexact H21
  isplitl [H22]; · iexists f22; isplitr; ipureintro; rfl; iexact H22
  isplitl [H23]; · iexists f23; isplitr; ipureintro; rfl; iexact H23
  isplitl [H24]; · iexists f24; isplitr; ipureintro; rfl; iexact H24
  isplitl [H25]; · iexists _; isplitr; swap; iexact H25; ipureintro; exact stored _ _ _ (cover_3072 _)
  isplitl [H26]; · iexists _; isplitr; swap; iexact H26; ipureintro; exact stored _ _ _ (cover_1024 _)
  isplitl [H27]; · iexists _; isplitr; swap; iexact H27; ipureintro; exact stored _ _ _ (cover_2048 _)
  isplitl [H28]; · iexists _; isplitr; swap; iexact H28; ipureintro; exact stored _ _ _ (cover_64 _)
  isplitl [H29]; · iexists _; isplitr; swap; iexact H29; ipureintro; exact stored _ _ _ (cover_64 _)
  isplitl [H30]; · iexists _; isplitr; swap; iexact H30; ipureintro; exact stored _ _ _ (cover_512 _)
  isplitl [H31]; · iexists _; isplitr; swap; iexact H31; ipureintro; exact stored _ _ _ (cover_512 _)
  isplitl [H32]; · iexists _; isplitr; swap; iexact H32; ipureintro; exact stored _ _ _ (cover_512 _)
  isplitl [H33]; · iexists _; isplitr; swap; iexact H33; ipureintro; exact stored _ _ _ (cover_3072 _)
  isplitl [H34]; · iexists _; isplitr; swap; iexact H34; ipureintro; exact stored _ _ _ (cover_1024 _)
  isplitl [H35]; · iexists _; isplitr; swap; iexact H35; ipureintro; exact stored _ _ _ (cover_2048 _)
  isplitl [H36]; · iexists _; isplitr; swap; iexact H36; ipureintro; exact stored _ _ _ (cover_64 _)
  isplitl [H37]; · iexists _; isplitr; swap; iexact H37; ipureintro; exact stored _ _ _ (cover_64 _)
  isplitl [H38]; · iexists _; isplitr; swap; iexact H38; ipureintro; exact stored _ _ _ (cover_512 _)
  isplitl [H39]; · iexists _; isplitr; swap; iexact H39; ipureintro; exact stored _ _ _ (cover_512 _)
  isplitl [H40]; · iexists _; isplitr; swap; iexact H40; ipureintro; exact stored _ _ _ (cover_512 _)
  isplitl [H41]; · iexists _; isplitr; swap; iexact H41; ipureintro; exact stored _ _ _ (cover_3072 _)
  isplitl [H42]; · iexists _; isplitr; swap; iexact H42; ipureintro; exact stored _ _ _ (cover_1024 _)
  isplitl [H43]; · iexists _; isplitr; swap; iexact H43; ipureintro; exact stored _ _ _ (cover_2048 _)
  isplitl [H44]; · iexists _; isplitr; swap; iexact H44; ipureintro; exact stored _ _ _ (cover_64 _)
  isplitl [H45]; · iexists _; isplitr; swap; iexact H45; ipureintro; exact stored _ _ _ (cover_64 _)
  isplitl [H46]; · iexists _; isplitr; swap; iexact H46; ipureintro; exact stored _ _ _ (cover_512 _)
  isplitl [H47]; · iexists _; isplitr; swap; iexact H47; ipureintro; exact stored _ _ _ (cover_512 _)
  isplitl [H48]; · iexists _; isplitr; swap; iexact H48; ipureintro; exact stored _ _ _ (cover_512 _)
  isplitl [H49]; · iexists _; isplitr; swap; iexact H49; ipureintro; exact stored _ _ _ (cover_3072 _)
  isplitl [H50]; · iexists _; isplitr; swap; iexact H50; ipureintro; exact stored _ _ _ (cover_1024 _)
  isplitl [H51]; · iexists _; isplitr; swap; iexact H51; ipureintro; exact stored _ _ _ (cover_2048 _)
  isplitl [H52]; · iexists _; isplitr; swap; iexact H52; ipureintro; exact stored _ _ _ (cover_64 _)
  isplitl [H53]; · iexists _; isplitr; swap; iexact H53; ipureintro; exact stored _ _ _ (cover_64 _)
  isplitl [H54]; · iexists _; isplitr; swap; iexact H54; ipureintro; exact stored _ _ _ (cover_512 _)
  isplitl [H55]; · iexists _; isplitr; swap; iexact H55; ipureintro; exact stored _ _ _ (cover_512 _)
  isplitl [H56]; · iexists _; isplitr; swap; iexact H56; ipureintro; exact stored _ _ _ (cover_512 _)
  iexists _; isplitr; swap; iexact H57; ipureintro; exact stored _ _ _ (cover_128 _)

end Cert.Kernel15Ideal.Small
end
-- ==== Proof.SmallFrame.lean ====
/- The frame of the optimiser's step of the eight small weights: what the run finds and leaves in each array, the body's
   triple handed to the pipeline, and the run. -/
module

public import proofs.«01_k».proof.Proof.SmallBody

@[expose] public section

set_option maxRecDepth 16384

noncomputable section

namespace Cert.Kernel15Ideal.Small

open Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the run finds them. -/
abbrev V (c : Dev nD) (b : Ref sig .tc) : Buf (Elt F) ((c : Thread nD τ).loc b) := m ((c : Thread nD τ).loc b)

/-- An array's block at a point. -/
def block (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as found; after the body the inputs' blocks unchanged and the outputs' as `sound_kernel` says. -/
def dats (_ : Fin 1) (c : Dev nD) : Dat τ (Elt F) Unit ℕ (UR sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => block m c 7 t
    | ⟨8, _⟩ => block m c 8 t
    | ⟨9, _⟩ => block m c 9 t
    | ⟨10, _⟩ => block m c 10 t
    | ⟨11, _⟩ => block m c 11 t
    | ⟨12, _⟩ => block m c 12 t
    | ⟨13, _⟩ => block m c 13 t
    | ⟨14, _⟩ => block m c 14 t
    | ⟨15, _⟩ => block m c 15 t
    | ⟨16, _⟩ => block m c 16 t
    | ⟨17, _⟩ => block m c 17 t
    | ⟨18, _⟩ => block m c 18 t
    | ⟨19, _⟩ => block m c 19 t
    | ⟨20, _⟩ => block m c 20 t
    | ⟨21, _⟩ => block m c 21 t
    | ⟨22, _⟩ => block m c 22 t
    | ⟨23, _⟩ => block m c 23 t
    | ⟨24, _⟩ => block m c 24 t
    | ⟨25, _⟩ => left row3072 (gradAda (block m c 0 t))
    | ⟨26, _⟩ => left row1024 (k0_pay10 (sum (block m c 0 t)))
    | ⟨27, _⟩ => left row2048 (k0_pay14 (sum (block m c 0 t)))
    | ⟨28, _⟩ => left row64 (k0_pay18 (sum (block m c 0 t)))
    | ⟨29, _⟩ => left row64 (k0_pay22 (sum (block m c 0 t)))
    | ⟨30, _⟩ => left row512 (k0_pay26 (sum (block m c 0 t)))
    | ⟨31, _⟩ => left row512 (k0_pay30 (sum (block m c 0 t)))
    | ⟨32, _⟩ => left row512 (k0_pay34 (sum (block m c 0 t)))
    | ⟨33, _⟩ => left row3072 (k0_pay9 (gradAda (block m c 0 t)) (View.ld (block m c 1 t) row3072) (View.ld (block m c 9 t) row3072) (View.ld (block m c 17 t) row3072))
    | ⟨34, _⟩ => left row1024 (k0_pay13 (k0_pay10 (sum (block m c 0 t))) (View.ld (block m c 2 t) row1024) (View.ld (block m c 10 t) row1024) (View.ld (block m c 18 t) row1024))
    | ⟨35, _⟩ => left row2048 (k0_pay17 (k0_pay14 (sum (block m c 0 t))) (View.ld (block m c 3 t) row2048) (View.ld (block m c 11 t) row2048) (View.ld (block m c 19 t) row2048))
    | ⟨36, _⟩ => left row64 (k0_pay21 (k0_pay18 (sum (block m c 0 t))) (View.ld (block m c 4 t) row64) (View.ld (block m c 12 t) row64) (View.ld (block m c 20 t) row64))
    | ⟨37, _⟩ => left row64 (k0_pay25 (k0_pay22 (sum (block m c 0 t))) (View.ld (block m c 5 t) row64) (View.ld (block m c 13 t) row64) (View.ld (block m c 21 t) row64))
    | ⟨38, _⟩ => left row512 (k0_pay29 (k0_pay26 (sum (block m c 0 t))) (View.ld (block m c 6 t) row512) (View.ld (block m c 14 t) row512) (View.ld (block m c 22 t) row512))
    | ⟨39, _⟩ => left row512 (k0_pay33 (k0_pay30 (sum (block m c 0 t))) (View.ld (block m c 7 t) row512) (View.ld (block m c 15 t) row512) (View.ld (block m c 23 t) row512))
    | ⟨40, _⟩ => left row512 (k0_pay3 (k0_pay34 (sum (block m c 0 t))) (View.ld (block m c 8 t) row512) (View.ld (block m c 16 t) row512) (View.ld (block m c 24 t) row512))
    | ⟨41, _⟩ => left row3072 (k0_pay7 (gradAda (block m c 0 t)) (View.ld (block m c 9 t) row3072))
    | ⟨42, _⟩ => left row1024 (k0_pay11 (k0_pay10 (sum (block m c 0 t))) (View.ld (block m c 10 t) row1024))
    | ⟨43, _⟩ => left row2048 (k0_pay15 (k0_pay14 (sum (block m c 0 t))) (View.ld (block m c 11 t) row2048))
    | ⟨44, _⟩ => left row64 (k0_pay19 (k0_pay18 (sum (block m c 0 t))) (View.ld (block m c 12 t) row64))
    | ⟨45, _⟩ => left row64 (k0_pay23 (k0_pay22 (sum (block m c 0 t))) (View.ld (block m c 13 t) row64))
    | ⟨46, _⟩ => left row512 (k0_pay27 (k0_pay26 (sum (block m c 0 t))) (View.ld (block m c 14 t) row512))
    | ⟨47, _⟩ => left row512 (k0_pay31 (k0_pay30 (sum (block m c 0 t))) (View.ld (block m c 15 t) row512))
    | ⟨48, _⟩ => left row512 (k0_pay1 (k0_pay34 (sum (block m c 0 t))) (View.ld (block m c 16 t) row512))
    | ⟨49, _⟩ => left row3072 (k0_pay8 (gradAda (block m c 0 t)) (View.ld (block m c 17 t) row3072))
    | ⟨50, _⟩ => left row1024 (k0_pay12 (k0_pay10 (sum (block m c 0 t))) (View.ld (block m c 18 t) row1024))
    | ⟨51, _⟩ => left row2048 (k0_pay16 (k0_pay14 (sum (block m c 0 t))) (View.ld (block m c 19 t) row2048))
    | ⟨52, _⟩ => left row64 (k0_pay20 (k0_pay18 (sum (block m c 0 t))) (View.ld (block m c 20 t) row64))
    | ⟨53, _⟩ => left row64 (k0_pay24 (k0_pay22 (sum (block m c 0 t))) (View.ld (block m c 21 t) row64))
    | ⟨54, _⟩ => left row512 (k0_pay28 (k0_pay26 (sum (block m c 0 t))) (View.ld (block m c 22 t) row512))
    | ⟨55, _⟩ => left row512 (k0_pay32 (k0_pay30 (sum (block m c 0 t))) (View.ld (block m c 23 t) row512))
    | ⟨56, _⟩ => left row512 (k0_pay2 (k0_pay34 (sum (block m c 0 t))) (View.ld (block m c 24 t) row512))
    | ⟨57, _⟩ => left row128 (lossRow (block m c 0 t))
    | ⟨_ + 58, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! ## The body at a point -/

/-- An input's block is in its buffer when the body is called. -/
theorem found (c : Dev nD) (w : Fin cfg0.W) (t : Fin cfg0.N) (X : (cfg0.win w).block.Idx → Elt F (cfg0.win w).elt)
    (hin : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (hX : ∀ d, (dats m 0 c).fetched w t d = X) :
    iprop(∃ d, owns (c : Thread nD τ) ((cfg0.win w).stage (cfg0.slots t w)) fullShare ((dats m 0 c).before w t d))
      ⊢ (owns (c : Thread nD τ) ((cfg0.win w).stage (cfg0.slots t w)) fullShare X : sProp 𝕄) :=
  exists_elim fun d => by rw [(dats m 0 c).before_in_eq_fetched w hin hlive hclip hkeep t d, hX]

/-- An output's buffer holds something. -/
theorem held (c : Dev nD) (w : Fin cfg0.W) (t : Fin cfg0.N) :
    iprop(∃ d, owns (c : Thread nD τ) ((cfg0.win w).stage (cfg0.slots t w)) fullShare ((dats m 0 c).before w t d))
      ⊢ (iprop(∃ X, owns (c : Thread nD τ) ((cfg0.win w).stage (cfg0.slots t w)) fullShare X) : sProp 𝕄) :=
  exists_elim fun d => exists_intro (Φ := fun X => owns (c : Thread nD τ) ((cfg0.win w).stage (cfg0.slots t w)) fullShare X) _

/-- What the body leaves in a buffer is what the pipeline takes up: no window is idle. -/
theorem kept (c : Dev nD) (w : Fin cfg0.W) (t : Fin cfg0.N) (hlive : ∀ i, cfg0.idle w i = false) :
    (owns (c : Thread nD τ) ((cfg0.win w).stage (cfg0.slots t w)) fullShare ((dats m 0 c).after w t) : sProp 𝕄)
      ⊢ match cfg0.idle w (cfg0.grid.coords t) with
        | true =>
          match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t) := by
  rw [hlive]

/-- What the body does not touch goes past it. -/
theorem past {A B P Q : sProp 𝕄} {W : sWPT 𝕄 PUnit} (h : ∀ K : PUnit → sProp 𝕄, iprop(P ∗ (Q -∗ K ⟨⟩)) ⊢ W K) :
    iprop(A ∗ B ∗ P) ⊢ W fun _ => iprop(A ∗ B ∗ Q) := by
  have e : iprop(A ∗ B ∗ P) ⊢ iprop(P ∗ (Q -∗ (A ∗ B ∗ Q))) := by
    iintro ⟨HA, HB, HP⟩
    isplitl [HP]; · iexact HP
    iintro HQ
    isplitl [HA]; · iexact HA
    isplitl [HB]; · iexact HB
    iexact HQ
  exact e.trans (h fun _ => iprop(A ∗ B ∗ Q))

/-- The body table's row at a point is the body. -/
theorem row (t : Fin cfg0.N) : defs₀ (F := F) .tc cfg0.body (cfg0.bodyArgs t (cfg0.slots t)) = bodyAt0 t := by
  unfold defs₀; rw [Defs.onTc_tc]

/-- The invariant and what is owed are the same at every point. -/
theorem still (c : Dev nD) (t t' : Fin (cfg0.N + 1)) :
    (dats m 0 c).Φ t = (dats m 0 c).Φ t' ∧ (dats m 0 c).owesAt () t = (dats m 0 c).owesAt () t' :=
  ⟨rfl, rfl⟩

set_option maxHeartbeats 8000000 in
/-- The body at every point. -/
theorem body_obligation (c : Dev nD) : BodyObligation (dats (F := F) m 0 c) (defs₀ (F := F)) Variants.none () Set.univ := fun t => by
  rw [bigSep_W0, bigSep_W0, row, (still m c t.succ t.castSucc).1, (still m c t.succ t.castSucc).2]
  have h : ∀ K : PUnit → sProp 𝕄, _ ⊢ wp frame (wpE (defs₀ (F := F)) Variants.none c none) Set.univ (bodyAt0 t) K :=
    fun K => sound_kernel c Set.univ
      _ _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _ _ _
      _ _
      (block m c 0 t) (block m c 1 t) (block m c 2 t) (block m c 3 t) (block m c 4 t) (block m c 5 t) (block m c 6 t)
      (block m c 7 t) (block m c 8 t) (block m c 9 t) (block m c 10 t) (block m c 11 t) (block m c 12 t)
      (block m c 13 t) (block m c 14 t) (block m c 15 t) (block m c 16 t) (block m c 17 t) (block m c 18 t)
      (block m c 19 t) (block m c 20 t) (block m c 21 t) (block m c 22 t) (block m c 23 t) (block m c 24 t) K
  refine triple_restated (past (A := (dats m 0 c).Φ t.castSucc) (B := (dats m 0 c).owesAt () t.castSucc) h) rfl ?_ fun _ => ?_
  · refine BIClass.sep_mono .rfl (BIClass.sep_mono .rfl ?_)
    iterate 25
      refine BIClass.sep_mono (found m c _ t _ (by rfl) (by intro _; rfl) (by intro _ _ _; rfl) (by intro _; rfl) (by intro _; rfl)) ?_
    iterate 32 refine BIClass.sep_mono (held m c _ t) ?_
    exact held m c _ t
  · refine BIClass.sep_mono .rfl (BIClass.sep_mono .rfl ?_)
    iterate 57 refine BIClass.sep_mono (BIBase.Entails.trans (by dsimp only [dats]; exact .rfl) (kept m c _ t (by intro _; rfl))) ?_
    exact BIBase.Entails.trans (by dsimp only [dats]; exact .rfl) (kept m c _ t (by intro _; rfl))

/-! ## The run -/

/-- @main is the one pipeline. -/
theorem hmain (𝒱₀ : Variants) : Pipeline.HMain (Ix := Unit) (Name := ℕ) (U := UR sig nD τ) (Lvl := ℕ) cfgs 0 defs₀ 𝒱₀ m
    (main (F := F)) (V m) :=
  Pipeline.hmain_region cfgs 0 defs₀ 𝒱₀ m main fun c => (main_chain c).trans rfl

set_option backward.isDefEq.respectTransparency.types false in
set_option maxHeartbeats 800000 in
/-- Every execution ends, each array at what the proof data say, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

end Cert.Kernel15Ideal.Small
end
-- ==== Proof.SmallStep.lean ====
/- The arithmetic of the optimiser's step of the eight small weights (`_adamw_small`). The eight packed parts are summed
   once; each weight's gradient is a run of the sum, read row after row or within a row; the loss's row is a run of the sum. -/
module

public import proofs.«01_k».proof.Proof.SmallBody
public import proofs.«01_k».proof.Proof.Gen.Reference15Ideal.Run
public import proofs.«01_k».proof.Proof.AdamW
public import Idealize.ShloMosaic.Lib.Pointwise

@[expose] public section

set_option maxRecDepth 16384

noncomputable section

open Idealize.ShloMosaic Idealize.ShloMosaic.TcCoe Idealize.SL.Sem

namespace Cert.Kernel15Ideal.Small

open Cert.Kernel15Ideal Cert.Kernel15Ideal.Gen Cert.AdamW

/-- The sum of the eight packed parts, as the reference takes it. -/
abbrev total (parts : FVec Ideal Cert.Reference15Ideal.S8x8x1024 .f32) : FVec Ideal Cert.Reference15Ideal.S8x1024 .f32 :=
  Host.reduceAdd parts (constant Cert.Reference15Ideal.S_ .f32 0x00000000#32) Cert.Reference15Ideal.Gen.reducesTo_S8x8x1024_S8x1024_d0
    Cert.Reference15Ideal.Gen.h_S_

/-- The sum, row after row. -/
abbrev flat (parts : FVec Ideal Cert.Reference15Ideal.S8x8x1024 .f32) : FVec Ideal Cert.Reference15Ideal.S1x8192 .f32 :=
  shapeCast _ (total parts) Cert.Reference15Ideal.Gen.shapeCasts_S8x1024_S1x8192

/-- The kernel's sum of the eight parts is the reference's. -/
theorem sum_eq (p : Vec Ideal S8x8x1024 .f32) : sum p = total p := by
  funext y
  pointwise [sum, k0_pay4, total, Fin.sum_univ_eight, add_assoc]

/-- The loss's row is the run of the sum's seventh row from column 768. -/
theorem loss_eq (p : Vec Ideal S8x8x1024 .f32) : lossRow p
    = extractStridedSlice Cert.Reference15Ideal.S1x128 ![6, 768] (total p) Cert.Reference15Ideal.Gen.slices_S8x1024_S1x128_6_768 := by
  rw [← sum_eq]; rfl

/-- Two entries of an array at equal places are equal. -/
theorem at_place (s : FVec Ideal S8x1024 .f32) {a a' : Fin 8} {b b' : Fin 1024} (h : a.val = a'.val) (k : b.val = b'.val) :
    s (ix2 a b) = s (ix2 a' b') := by rw [Fin.ext h, Fin.ext k]

/-- Three rows set side by side are the first 3072 entries of the flat sum. -/
theorem grad0 (p : Vec Ideal S8x8x1024 .f32) : gradAda p
    = extractStridedSlice Cert.Reference15Ideal.S1x3072 ![0, 0] (flat p) Cert.Reference15Ideal.Gen.slices_S1x8192_S1x3072_0_0 := by
  unfold flat
  rw [← sum_eq]
  unfold gradAda k0_pay6 sum
  generalize k0_pay4 (F := Ideal) _ _ _ _ _ _ _ _ = s
  funext y
  pointwise []
  have h3 : (y 1).val < 3072 := (y 1).isLt
  by_cases h : (y 1).val < 1024
  · refine (dif_pos h).trans ?_
    exact at_place s (show 0 = (y 1).val / 1024 by omega) (show (y 1).val = (y 1).val % 1024 by omega)
  refine (dif_neg h).trans ?_
  by_cases h' : (y 1).val - 1024 < 1024
  · refine (dif_pos h').trans ?_
    exact at_place s (show 1 = (y 1).val / 1024 by omega) (show (y 1).val - 1024 = (y 1).val % 1024 by omega)
  · refine (dif_neg h').trans ?_
    exact at_place s (show 2 = (y 1).val / 1024 by omega) (show (y 1).val - 1024 - 1024 = (y 1).val % 1024 by omega)

/-- The fourth row is the next 1024 entries. -/
theorem grad1 (p : Vec Ideal S8x8x1024 .f32) : k0_pay10 (sum p)
    = extractStridedSlice Cert.Reference15Ideal.S1x1024 ![0, 3072] (flat p) Cert.Reference15Ideal.Gen.slices_S1x8192_S1x1024_0_3072 := by
  unfold flat
  rw [← sum_eq]
  generalize sum p = s
  funext y
  pointwise [k0_pay10]
  have h1 : (y 1).val < 1024 := (y 1).isLt
  exact at_place s (show 3 = (3072 + (y 1).val) / 1024 by omega) rfl

/-- Two more rows set side by side are the next 2048 entries. -/
theorem grad2 (p : Vec Ideal S8x8x1024 .f32) : k0_pay14 (sum p)
    = extractStridedSlice Cert.Reference15Ideal.S1x2048 ![0, 4096] (flat p) Cert.Reference15Ideal.Gen.slices_S1x8192_S1x2048_0_4096 := by
  unfold flat
  rw [← sum_eq]
  generalize sum p = s
  funext y
  pointwise [k0_pay14]
  have h2 : (y 1).val < 2048 := (y 1).isLt
  by_cases h : (y 1).val < 1024
  · refine (dif_pos h).trans ?_
    exact at_place s (show 4 = (4096 + (y 1).val) / 1024 by omega) (show (y 1).val = (4096 + (y 1).val) % 1024 by omega)
  · refine (dif_neg h).trans ?_
    exact at_place s (show 5 = (4096 + (y 1).val) / 1024 by omega) (show (y 1).val - 1024 = (4096 + (y 1).val) % 1024 by omega)

/-- The other five gradients are runs of the seventh and the eighth row. -/
theorem grad3 (p : Vec Ideal S8x8x1024 .f32) : k0_pay18 (sum p)
    = extractStridedSlice Cert.Reference15Ideal.S1x64 ![6, 0] (total p) Cert.Reference15Ideal.Gen.slices_S8x1024_S1x64_6_0 := by
  rw [← sum_eq]; rfl

theorem grad4 (p : Vec Ideal S8x8x1024 .f32) : k0_pay22 (sum p)
    = extractStridedSlice Cert.Reference15Ideal.S1x64 ![6, 128] (total p) Cert.Reference15Ideal.Gen.slices_S8x1024_S1x64_6_128 := by
  rw [← sum_eq]; rfl

theorem grad5 (p : Vec Ideal S8x8x1024 .f32) : k0_pay26 (sum p)
    = extractStridedSlice Cert.Reference15Ideal.S1x512 ![6, 256] (total p) Cert.Reference15Ideal.Gen.slices_S8x1024_S1x512_6_256 := by
  rw [← sum_eq]; rfl

theorem grad6 (p : Vec Ideal S8x8x1024 .f32) : k0_pay30 (sum p)
    = extractStridedSlice Cert.Reference15Ideal.S1x512 ![7, 0] (total p) Cert.Reference15Ideal.Gen.slices_S8x1024_S1x512_7_0 := by
  rw [← sum_eq]; rfl

theorem grad7 (p : Vec Ideal S8x8x1024 .f32) : k0_pay34 (sum p)
    = extractStridedSlice Cert.Reference15Ideal.S1x512 ![7, 512] (total p) Cert.Reference15Ideal.Gen.slices_S8x1024_S1x512_7_512 := by
  rw [← sum_eq]; rfl

/-! The change and the two moments of each weight, for any gradient, are the optimiser's. -/

theorem first0 (g u : Vec Ideal S1x3072 .f32) : k0_pay7 g u = newM g u := by funext y; pointwise [k0_pay7, newM]

theorem second0 (g v : Vec Ideal S1x3072 .f32) : k0_pay8 g v = newV g v := by funext y; pointwise [k0_pay8, newV]

theorem change0 (g w u v : Vec Ideal S1x3072 .f32) : k0_pay9 g w u v = delta g w u v := by
  funext y; pointwise [k0_pay9, k0_pay7, k0_pay8, delta, newM, newV]

theorem first1 (g u : Vec Ideal S1x1024 .f32) : k0_pay11 g u = newM g u := by funext y; pointwise [k0_pay11, newM]

theorem second1 (g v : Vec Ideal S1x1024 .f32) : k0_pay12 g v = newV g v := by funext y; pointwise [k0_pay12, newV]

theorem change1 (g w u v : Vec Ideal S1x1024 .f32) : k0_pay13 g w u v = delta g w u v := by
  funext y; pointwise [k0_pay13, k0_pay11, k0_pay12, delta, newM, newV]

theorem first2 (g u : Vec Ideal S1x2048 .f32) : k0_pay15 g u = newM g u := by funext y; pointwise [k0_pay15, newM]

theorem second2 (g v : Vec Ideal S1x2048 .f32) : k0_pay16 g v = newV g v := by funext y; pointwise [k0_pay16, newV]

theorem change2 (g w u v : Vec Ideal S1x2048 .f32) : k0_pay17 g w u v = delta g w u v := by
  funext y; pointwise [k0_pay17, k0_pay15, k0_pay16, delta, newM, newV]

theorem first3 (g u : Vec Ideal S1x64 .f32) : k0_pay19 g u = newM g u := by funext y; pointwise [k0_pay19, newM]

theorem second3 (g v : Vec Ideal S1x64 .f32) : k0_pay20 g v = newV g v := by funext y; pointwise [k0_pay20, newV]

theorem change3 (g w u v : Vec Ideal S1x64 .f32) : k0_pay21 g w u v = delta g w u v := by
  funext y; pointwise [k0_pay21, k0_pay19, k0_pay20, delta, newM, newV]

theorem first4 (g u : Vec Ideal S1x64 .f32) : k0_pay23 g u = newM g u := by funext y; pointwise [k0_pay23, newM]

theorem second4 (g v : Vec Ideal S1x64 .f32) : k0_pay24 g v = newV g v := by funext y; pointwise [k0_pay24, newV]

theorem change4 (g w u v : Vec Ideal S1x64 .f32) : k0_pay25 g w u v = delta g w u v := by
  funext y; pointwise [k0_pay25, k0_pay23, k0_pay24, delta, newM, newV]

theorem first5 (g u : Vec Ideal S1x512 .f32) : k0_pay27 g u = newM g u := by funext y; pointwise [k0_pay27, newM]

theorem second5 (g v : Vec Ideal S1x512 .f32) : k0_pay28 g v = newV g v := by funext y; pointwise [k0_pay28, newV]

theorem change5 (g w u v : Vec Ideal S1x512 .f32) : k0_pay29 g w u v = delta g w u v := by
  funext y; pointwise [k0_pay29, k0_pay27, k0_pay28, delta, newM, newV]

theorem first6 (g u : Vec Ideal S1x512 .f32) : k0_pay31 g u = newM g u := by funext y; pointwise [k0_pay31, newM]

theorem second6 (g v : Vec Ideal S1x512 .f32) : k0_pay32 g v = newV g v := by funext y; pointwise [k0_pay32, newV]

theorem change6 (g w u v : Vec Ideal S1x512 .f32) : k0_pay33 g w u v = delta g w u v := by
  funext y; pointwise [k0_pay33, k0_pay31, k0_pay32, delta, newM, newV]

theorem first7 (g u : Vec Ideal S1x512 .f32) : k0_pay1 g u = newM g u := by funext y; pointwise [k0_pay1, newM]

theorem second7 (g v : Vec Ideal S1x512 .f32) : k0_pay2 g v = newV g v := by funext y; pointwise [k0_pay2, newV]

theorem change7 (g w u v : Vec Ideal S1x512 .f32) : k0_pay3 g w u v = delta g w u v := by
  funext y; pointwise [k0_pay3, k0_pay1, k0_pay2, delta, newM, newV]

end Cert.Kernel15Ideal.Small
end
-- ==== Proof.SmallValue.lean ====
/- What the optimiser's step of the eight small weights (`_adamw_small`) leaves in its 33 arrays: for each weight the gradient,
   the change and the two new moments, and the loss's row, of the arrays the run finds. -/
module

public import proofs.«01_k».proof.Proof.SmallFrame
public import proofs.«01_k».proof.Proof.SmallStep
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Window)

namespace Cert.Kernel15Ideal.Small

open Cert.Kernel15Ideal Cert.Kernel15Ideal.Gen Cert.AdamW

variable (m : (ℓ : Loc nD τ sig) → Buf (Elt Ideal) ℓ)

theorem zero_offset : (![0, 0] : Fin 2 → ℕ) = fun _ => 0 := funext fun a => by fin_cases a <;> rfl

/-! A store through the whole array leaves what is stored. -/

theorem left3072 (p : Vec Ideal S1x3072 .f32) : left row3072 p = p := View.canon_unit_zero zero_offset _ _

theorem left2048 (p : Vec Ideal S1x2048 .f32) : left row2048 p = p := View.canon_unit_zero zero_offset _ _

theorem left1024 (p : Vec Ideal S1x1024 .f32) : left row1024 p = p := View.canon_unit_zero zero_offset _ _

theorem left512 (p : Vec Ideal S1x512 .f32) : left row512 p = p := View.canon_unit_zero zero_offset _ _

theorem left128 (p : Vec Ideal S1x128 .f32) : left row128 p = p := View.canon_unit_zero zero_offset _ _

theorem left64 (p : Vec Ideal S1x64 .f32) : left row64 p = p := View.canon_unit_zero zero_offset _ _

/-- Every block starts at its array's start. -/
theorem index_zero : ∀ (w : Fin cfg0.W) (t : Fin cfg0.N) (a : Fin (cfg0.win w).shape.rank), (cfg0.win w).index t a = 0 := by
  decide +kernel

/-- Every block is its whole array. -/
theorem place (w : Fin cfg0.W) (t : Fin cfg0.N) (y : ((cfg0.win w).xblock (cfg0.grid.coords t)).Idx) (a : Fin (cfg0.win w).shape.rank) :
    (((cfg0.win w).rect t).emb y a : ℕ) = y a := (cfg0.win w).rect_emb_val_of_index_zero t a (index_zero w t a) y

/-- The block of the packed parts is the array. -/
theorem block0 (c : Dev nD) (t : Fin cfg0.N) : block m c 0 t = V m c main_arg0 :=
  funext fun y => congrArg (V m c main_arg0) (funext fun a => Fin.ext (place 0 t y a))

/-! A load of a weight's block, or of a moment's, is the array. -/

theorem load1 (c : Dev nD) (t : Fin cfg0.N) : View.ld (block m c 1 t) row3072 = V m c main_arg1 :=
  (View.ld_unit_zero zero_offset _ _).trans (funext fun y => congrArg (V m c main_arg1) (funext fun a => Fin.ext (place 1 t y a)))

theorem load2 (c : Dev nD) (t : Fin cfg0.N) : View.ld (block m c 2 t) row1024 = V m c main_arg2 :=
  (View.ld_unit_zero zero_offset _ _).trans (funext fun y => congrArg (V m c main_arg2) (funext fun a => Fin.ext (place 2 t y a)))

theorem load3 (c : Dev nD) (t : Fin cfg0.N) : View.ld (block m c 3 t) row2048 = V m c main_arg3 :=
  (View.ld_unit_zero zero_offset _ _).trans (funext fun y => congrArg (V m c main_arg3) (funext fun a => Fin.ext (place 3 t y a)))

theorem load4 (c : Dev nD) (t : Fin cfg0.N) : View.ld (block m c 4 t) row64 = V m c main_arg4 :=
  (View.ld_unit_zero zero_offset _ _).trans (funext fun y => congrArg (V m c main_arg4) (funext fun a => Fin.ext (place 4 t y a)))

theorem load5 (c : Dev nD) (t : Fin cfg0.N) : View.ld (block m c 5 t) row64 = V m c main_arg5 :=
  (View.ld_unit_zero zero_offset _ _).trans (funext fun y => congrArg (V m c main_arg5) (funext fun a => Fin.ext (place 5 t y a)))

theorem load6 (c : Dev nD) (t : Fin cfg0.N) : View.ld (block m c 6 t) row512 = V m c main_arg6 :=
  (View.ld_unit_zero zero_offset _ _).trans (funext fun y => congrArg (V m c main_arg6) (funext fun a => Fin.ext (place 6 t y a)))

theorem load7 (c : Dev nD) (t : Fin cfg0.N) : View.ld (block m c 7 t) row512 = V m c main_arg7 :=
  (View.ld_unit_zero zero_offset _ _).trans (funext fun y => congrArg (V m c main_arg7) (funext fun a => Fin.ext (place 7 t y a)))

theorem load8 (c : Dev nD) (t : Fin cfg0.N) : View.ld (block m c 8 t) row512 = V m c main_arg8 :=
  (View.ld_unit_zero zero_offset _ _).trans (funext fun y => congrArg (V m c main_arg8) (funext fun a => Fin.ext (place 8 t y a)))

theorem load9 (c : Dev nD) (t : Fin cfg0.N) : View.ld (block m c 9 t) row3072 = V m c main_arg9 :=
  (View.ld_unit_zero zero_offset _ _).trans (funext fun y => congrArg (V m c main_arg9) (funext fun a => Fin.ext (place 9 t y a)))

theorem load10 (c : Dev nD) (t : Fin cfg0.N) : View.ld (block m c 10 t) row1024 = V m c main_arg10 :=
  (View.ld_unit_zero zero_offset _ _).trans (funext fun y => congrArg (V m c main_arg10) (funext fun a => Fin.ext (place 10 t y a)))

theorem load11 (c : Dev nD) (t : Fin cfg0.N) : View.ld (block m c 11 t) row2048 = V m c main_arg11 :=
  (View.ld_unit_zero zero_offset _ _).trans (funext fun y => congrArg (V m c main_arg11) (funext fun a => Fin.ext (place 11 t y a)))

theorem load12 (c : Dev nD) (t : Fin cfg0.N) : View.ld (block m c 12 t) row64 = V m c main_arg12 :=
  (View.ld_unit_zero zero_offset _ _).trans (funext fun y => congrArg (V m c main_arg12) (funext fun a => Fin.ext (place 12 t y a)))

theorem load13 (c : Dev nD) (t : Fin cfg0.N) : View.ld (block m c 13 t) row64 = V m c main_arg13 :=
  (View.ld_unit_zero zero_offset _ _).trans (funext fun y => congrArg (V m c main_arg13) (funext fun a => Fin.ext (place 13 t y a)))

theorem load14 (c : Dev nD) (t : Fin cfg0.N) : View.ld (block m c 14 t) row512 = V m c main_arg14 :=
  (View.ld_unit_zero zero_offset _ _).trans (funext fun y => congrArg (V m c main_arg14) (funext fun a => Fin.ext (place 14 t y a)))

theorem load15 (c : Dev nD) (t : Fin cfg0.N) : View.ld (block m c 15 t) row512 = V m c main_arg15 :=
  (View.ld_unit_zero zero_offset _ _).trans (funext fun y => congrArg (V m c main_arg15) (funext fun a => Fin.ext (place 15 t y a)))

theorem load16 (c : Dev nD) (t : Fin cfg0.N) : View.ld (block m c 16 t) row512 = V m c main_arg16 :=
  (View.ld_unit_zero zero_offset _ _).trans (funext fun y => congrArg (V m c main_arg16) (funext fun a => Fin.ext (place 16 t y a)))

theorem load17 (c : Dev nD) (t : Fin cfg0.N) : View.ld (block m c 17 t) row3072 = V m c main_arg17 :=
  (View.ld_unit_zero zero_offset _ _).trans (funext fun y => congrArg (V m c main_arg17) (funext fun a => Fin.ext (place 17 t y a)))

theorem load18 (c : Dev nD) (t : Fin cfg0.N) : View.ld (block m c 18 t) row1024 = V m c main_arg18 :=
  (View.ld_unit_zero zero_offset _ _).trans (funext fun y => congrArg (V m c main_arg18) (funext fun a => Fin.ext (place 18 t y a)))

theorem load19 (c : Dev nD) (t : Fin cfg0.N) : View.ld (block m c 19 t) row2048 = V m c main_arg19 :=
  (View.ld_unit_zero zero_offset _ _).trans (funext fun y => congrArg (V m c main_arg19) (funext fun a => Fin.ext (place 19 t y a)))

theorem load20 (c : Dev nD) (t : Fin cfg0.N) : View.ld (block m c 20 t) row64 = V m c main_arg20 :=
  (View.ld_unit_zero zero_offset _ _).trans (funext fun y => congrArg (V m c main_arg20) (funext fun a => Fin.ext (place 20 t y a)))

theorem load21 (c : Dev nD) (t : Fin cfg0.N) : View.ld (block m c 21 t) row64 = V m c main_arg21 :=
  (View.ld_unit_zero zero_offset _ _).trans (funext fun y => congrArg (V m c main_arg21) (funext fun a => Fin.ext (place 21 t y a)))

theorem load22 (c : Dev nD) (t : Fin cfg0.N) : View.ld (block m c 22 t) row512 = V m c main_arg22 :=
  (View.ld_unit_zero zero_offset _ _).trans (funext fun y => congrArg (V m c main_arg22) (funext fun a => Fin.ext (place 22 t y a)))

theorem load23 (c : Dev nD) (t : Fin cfg0.N) : View.ld (block m c 23 t) row512 = V m c main_arg23 :=
  (View.ld_unit_zero zero_offset _ _).trans (funext fun y => congrArg (V m c main_arg23) (funext fun a => Fin.ext (place 23 t y a)))

theorem load24 (c : Dev nD) (t : Fin cfg0.N) : View.ld (block m c 24 t) row512 = V m c main_arg24 :=
  (View.ld_unit_zero zero_offset _ _).trans (funext fun y => congrArg (V m c main_arg24) (funext fun a => Fin.ext (place 24 t y a)))

/-! The eight gradients of the reference, from the arrays of the run. -/

abbrev g0 (p : Vec Ideal S8x8x1024 .f32) : FVec Ideal S1x3072 .f32 :=
  extractStridedSlice Cert.Reference15Ideal.S1x3072 ![0, 0] (flat p) Cert.Reference15Ideal.Gen.slices_S1x8192_S1x3072_0_0

abbrev g1 (p : Vec Ideal S8x8x1024 .f32) : FVec Ideal S1x1024 .f32 :=
  extractStridedSlice Cert.Reference15Ideal.S1x1024 ![0, 3072] (flat p) Cert.Reference15Ideal.Gen.slices_S1x8192_S1x1024_0_3072

abbrev g2 (p : Vec Ideal S8x8x1024 .f32) : FVec Ideal S1x2048 .f32 :=
  extractStridedSlice Cert.Reference15Ideal.S1x2048 ![0, 4096] (flat p) Cert.Reference15Ideal.Gen.slices_S1x8192_S1x2048_0_4096

abbrev g3 (p : Vec Ideal S8x8x1024 .f32) : FVec Ideal S1x64 .f32 :=
  extractStridedSlice Cert.Reference15Ideal.S1x64 ![6, 0] (total p) Cert.Reference15Ideal.Gen.slices_S8x1024_S1x64_6_0

abbrev g4 (p : Vec Ideal S8x8x1024 .f32) : FVec Ideal S1x64 .f32 :=
  extractStridedSlice Cert.Reference15Ideal.S1x64 ![6, 128] (total p) Cert.Reference15Ideal.Gen.slices_S8x1024_S1x64_6_128

abbrev g5 (p : Vec Ideal S8x8x1024 .f32) : FVec Ideal S1x512 .f32 :=
  extractStridedSlice Cert.Reference15Ideal.S1x512 ![6, 256] (total p) Cert.Reference15Ideal.Gen.slices_S8x1024_S1x512_6_256

abbrev g6 (p : Vec Ideal S8x8x1024 .f32) : FVec Ideal S1x512 .f32 :=
  extractStridedSlice Cert.Reference15Ideal.S1x512 ![7, 0] (total p) Cert.Reference15Ideal.Gen.slices_S8x1024_S1x512_7_0

abbrev g7 (p : Vec Ideal S8x8x1024 .f32) : FVec Ideal S1x512 .f32 :=
  extractStridedSlice Cert.Reference15Ideal.S1x512 ![7, 512] (total p) Cert.Reference15Ideal.Gen.slices_S8x1024_S1x512_7_512

/-! The arrays after the run: for each weight the gradient, the change, the first and the second moment. -/

theorem gradient0 (c : Dev nD) : (dats m 0 c).arrAt 25 cfg0.N = g0 (V m c main_arg0) := by
  have h : (dats m 0 c).after 25 t0_0 = g0 (V m c main_arg0) := by
    dsimp only [dats]
    rw [left3072, block0, grad0]
  refine (dats m 0 c).arrAt_eq_of_after_last 25 t0_0 (by decide +kernel) _ fun j => ?_
  rw [h]
  rfl

theorem delta0 (c : Dev nD) : (dats m 0 c).arrAt 33 cfg0.N = delta (g0 (V m c main_arg0)) (V m c main_arg1) (V m c main_arg9) (V m c main_arg17) := by
  have h : (dats m 0 c).after 33 t0_0 = delta (g0 (V m c main_arg0)) (V m c main_arg1) (V m c main_arg9) (V m c main_arg17) := by
    dsimp only [dats]
    rw [left3072, block0, grad0, load1, load9, load17, change0]
  refine (dats m 0 c).arrAt_eq_of_after_last 33 t0_0 (by decide +kernel) _ fun j => ?_
  rw [h]
  rfl

theorem newM0 (c : Dev nD) : (dats m 0 c).arrAt 41 cfg0.N = newM (g0 (V m c main_arg0)) (V m c main_arg9) := by
  have h : (dats m 0 c).after 41 t0_0 = newM (g0 (V m c main_arg0)) (V m c main_arg9) := by
    dsimp only [dats]
    rw [left3072, block0, grad0, load9, first0]
  refine (dats m 0 c).arrAt_eq_of_after_last 41 t0_0 (by decide +kernel) _ fun j => ?_
  rw [h]
  rfl

theorem newV0 (c : Dev nD) : (dats m 0 c).arrAt 49 cfg0.N = newV (g0 (V m c main_arg0)) (V m c main_arg17) := by
  have h : (dats m 0 c).after 49 t0_0 = newV (g0 (V m c main_arg0)) (V m c main_arg17) := by
    dsimp only [dats]
    rw [left3072, block0, grad0, load17, second0]
  refine (dats m 0 c).arrAt_eq_of_after_last 49 t0_0 (by decide +kernel) _ fun j => ?_
  rw [h]
  rfl

theorem gradient1 (c : Dev nD) : (dats m 0 c).arrAt 26 cfg0.N = g1 (V m c main_arg0) := by
  have h : (dats m 0 c).after 26 t0_0 = g1 (V m c main_arg0) := by
    dsimp only [dats]
    rw [left1024, block0, grad1]
  refine (dats m 0 c).arrAt_eq_of_after_last 26 t0_0 (by decide +kernel) _ fun j => ?_
  rw [h]
  rfl

theorem delta1 (c : Dev nD) : (dats m 0 c).arrAt 34 cfg0.N = delta (g1 (V m c main_arg0)) (V m c main_arg2) (V m c main_arg10) (V m c main_arg18) := by
  have h : (dats m 0 c).after 34 t0_0 = delta (g1 (V m c main_arg0)) (V m c main_arg2) (V m c main_arg10) (V m c main_arg18) := by
    dsimp only [dats]
    rw [left1024, block0, grad1, load2, load10, load18, change1]
  refine (dats m 0 c).arrAt_eq_of_after_last 34 t0_0 (by decide +kernel) _ fun j => ?_
  rw [h]
  rfl

theorem newM1 (c : Dev nD) : (dats m 0 c).arrAt 42 cfg0.N = newM (g1 (V m c main_arg0)) (V m c main_arg10) := by
  have h : (dats m 0 c).after 42 t0_0 = newM (g1 (V m c main_arg0)) (V m c main_arg10) := by
    dsimp only [dats]
    rw [left1024, block0, grad1, load10, first1]
  refine (dats m 0 c).arrAt_eq_of_after_last 42 t0_0 (by decide +kernel) _ fun j => ?_
  rw [h]
  rfl

theorem newV1 (c : Dev nD) : (dats m 0 c).arrAt 50 cfg0.N = newV (g1 (V m c main_arg0)) (V m c main_arg18) := by
  have h : (dats m 0 c).after 50 t0_0 = newV (g1 (V m c main_arg0)) (V m c main_arg18) := by
    dsimp only [dats]
    rw [left1024, block0, grad1, load18, second1]
  refine (dats m 0 c).arrAt_eq_of_after_last 50 t0_0 (by decide +kernel) _ fun j => ?_
  rw [h]
  rfl

theorem gradient2 (c : Dev nD) : (dats m 0 c).arrAt 27 cfg0.N = g2 (V m c main_arg0) := by
  have h : (dats m 0 c).after 27 t0_0 = g2 (V m c main_arg0) := by
    dsimp only [dats]
    rw [left2048, block0, grad2]
  refine (dats m 0 c).arrAt_eq_of_after_last 27 t0_0 (by decide +kernel) _ fun j => ?_
  rw [h]
  rfl

theorem delta2 (c : Dev nD) : (dats m 0 c).arrAt 35 cfg0.N = delta (g2 (V m c main_arg0)) (V m c main_arg3) (V m c main_arg11) (V m c main_arg19) := by
  have h : (dats m 0 c).after 35 t0_0 = delta (g2 (V m c main_arg0)) (V m c main_arg3) (V m c main_arg11) (V m c main_arg19) := by
    dsimp only [dats]
    rw [left2048, block0, grad2, load3, load11, load19, change2]
  refine (dats m 0 c).arrAt_eq_of_after_last 35 t0_0 (by decide +kernel) _ fun j => ?_
  rw [h]
  rfl

theorem newM2 (c : Dev nD) : (dats m 0 c).arrAt 43 cfg0.N = newM (g2 (V m c main_arg0)) (V m c main_arg11) := by
  have h : (dats m 0 c).after 43 t0_0 = newM (g2 (V m c main_arg0)) (V m c main_arg11) := by
    dsimp only [dats]
    rw [left2048, block0, grad2, load11, first2]
  refine (dats m 0 c).arrAt_eq_of_after_last 43 t0_0 (by decide +kernel) _ fun j => ?_
  rw [h]
  rfl

theorem newV2 (c : Dev nD) : (dats m 0 c).arrAt 51 cfg0.N = newV (g2 (V m c main_arg0)) (V m c main_arg19) := by
  have h : (dats m 0 c).after 51 t0_0 = newV (g2 (V m c main_arg0)) (V m c main_arg19) := by
    dsimp only [dats]
    rw [left2048, block0, grad2, load19, second2]
  refine (dats m 0 c).arrAt_eq_of_after_last 51 t0_0 (by decide +kernel) _ fun j => ?_
  rw [h]
  rfl

theorem gradient3 (c : Dev nD) : (dats m 0 c).arrAt 28 cfg0.N = g3 (V m c main_arg0) := by
  have h : (dats m 0 c).after 28 t0_0 = g3 (V m c main_arg0) := by
    dsimp only [dats]
    rw [left64, block0, grad3]
  refine (dats m 0 c).arrAt_eq_of_after_last 28 t0_0 (by decide +kernel) _ fun j => ?_
  rw [h]
  rfl

theorem delta3 (c : Dev nD) : (dats m 0 c).arrAt 36 cfg0.N = delta (g3 (V m c main_arg0)) (V m c main_arg4) (V m c main_arg12) (V m c main_arg20) := by
  have h : (dats m 0 c).after 36 t0_0 = delta (g3 (V m c main_arg0)) (V m c main_arg4) (V m c main_arg12) (V m c main_arg20) := by
    dsimp only [dats]
    rw [left64, block0, grad3, load4, load12, load20, change3]
  refine (dats m 0 c).arrAt_eq_of_after_last 36 t0_0 (by decide +kernel) _ fun j => ?_
  rw [h]
  rfl

theorem newM3 (c : Dev nD) : (dats m 0 c).arrAt 44 cfg0.N = newM (g3 (V m c main_arg0)) (V m c main_arg12) := by
  have h : (dats m 0 c).after 44 t0_0 = newM (g3 (V m c main_arg0)) (V m c main_arg12) := by
    dsimp only [dats]
    rw [left64, block0, grad3, load12, first3]
  refine (dats m 0 c).arrAt_eq_of_after_last 44 t0_0 (by decide +kernel) _ fun j => ?_
  rw [h]
  rfl

theorem newV3 (c : Dev nD) : (dats m 0 c).arrAt 52 cfg0.N = newV (g3 (V m c main_arg0)) (V m c main_arg20) := by
  have h : (dats m 0 c).after 52 t0_0 = newV (g3 (V m c main_arg0)) (V m c main_arg20) := by
    dsimp only [dats]
    rw [left64, block0, grad3, load20, second3]
  refine (dats m 0 c).arrAt_eq_of_after_last 52 t0_0 (by decide +kernel) _ fun j => ?_
  rw [h]
  rfl

theorem gradient4 (c : Dev nD) : (dats m 0 c).arrAt 29 cfg0.N = g4 (V m c main_arg0) := by
  have h : (dats m 0 c).after 29 t0_0 = g4 (V m c main_arg0) := by
    dsimp only [dats]
    rw [left64, block0, grad4]
  refine (dats m 0 c).arrAt_eq_of_after_last 29 t0_0 (by decide +kernel) _ fun j => ?_
  rw [h]
  rfl

theorem delta4 (c : Dev nD) : (dats m 0 c).arrAt 37 cfg0.N = delta (g4 (V m c main_arg0)) (V m c main_arg5) (V m c main_arg13) (V m c main_arg21) := by
  have h : (dats m 0 c).after 37 t0_0 = delta (g4 (V m c main_arg0)) (V m c main_arg5) (V m c main_arg13) (V m c main_arg21) := by
    dsimp only [dats]
    rw [left64, block0, grad4, load5, load13, load21, change4]
  refine (dats m 0 c).arrAt_eq_of_after_last 37 t0_0 (by decide +kernel) _ fun j => ?_
  rw [h]
  rfl

theorem newM4 (c : Dev nD) : (dats m 0 c).arrAt 45 cfg0.N = newM (g4 (V m c main_arg0)) (V m c main_arg13) := by
  have h : (dats m 0 c).after 45 t0_0 = newM (g4 (V m c main_arg0)) (V m c main_arg13) := by
    dsimp only [dats]
    rw [left64, block0, grad4, load13, first4]
  refine (dats m 0 c).arrAt_eq_of_after_last 45 t0_0 (by decide +kernel) _ fun j => ?_
  rw [h]
  rfl

theorem newV4 (c : Dev nD) : (dats m 0 c).arrAt 53 cfg0.N = newV (g4 (V m c main_arg0)) (V m c main_arg21) := by
  have h : (dats m 0 c).after 53 t0_0 = newV (g4 (V m c main_arg0)) (V m c main_arg21) := by
    dsimp only [dats]
    rw [left64, block0, grad4, load21, second4]
  refine (dats m 0 c).arrAt_eq_of_after_last 53 t0_0 (by decide +kernel) _ fun j => ?_
  rw [h]
  rfl

theorem gradient5 (c : Dev nD) : (dats m 0 c).arrAt 30 cfg0.N = g5 (V m c main_arg0) := by
  have h : (dats m 0 c).after 30 t0_0 = g5 (V m c main_arg0) := by
    dsimp only [dats]
    rw [left512, block0, grad5]
  refine (dats m 0 c).arrAt_eq_of_after_last 30 t0_0 (by decide +kernel) _ fun j => ?_
  rw [h]
  rfl

theorem delta5 (c : Dev nD) : (dats m 0 c).arrAt 38 cfg0.N = delta (g5 (V m c main_arg0)) (V m c main_arg6) (V m c main_arg14) (V m c main_arg22) := by
  have h : (dats m 0 c).after 38 t0_0 = delta (g5 (V m c main_arg0)) (V m c main_arg6) (V m c main_arg14) (V m c main_arg22) := by
    dsimp only [dats]
    rw [left512, block0, grad5, load6, load14, load22, change5]
  refine (dats m 0 c).arrAt_eq_of_after_last 38 t0_0 (by decide +kernel) _ fun j => ?_
  rw [h]
  rfl

theorem newM5 (c : Dev nD) : (dats m 0 c).arrAt 46 cfg0.N = newM (g5 (V m c main_arg0)) (V m c main_arg14) := by
  have h : (dats m 0 c).after 46 t0_0 = newM (g5 (V m c main_arg0)) (V m c main_arg14) := by
    dsimp only [dats]
    rw [left512, block0, grad5, load14, first5]
  refine (dats m 0 c).arrAt_eq_of_after_last 46 t0_0 (by decide +kernel) _ fun j => ?_
  rw [h]
  rfl

theorem newV5 (c : Dev nD) : (dats m 0 c).arrAt 54 cfg0.N = newV (g5 (V m c main_arg0)) (V m c main_arg22) := by
  have h : (dats m 0 c).after 54 t0_0 = newV (g5 (V m c main_arg0)) (V m c main_arg22) := by
    dsimp only [dats]
    rw [left512, block0, grad5, load22, second5]
  refine (dats m 0 c).arrAt_eq_of_after_last 54 t0_0 (by decide +kernel) _ fun j => ?_
  rw [h]
  rfl

theorem gradient6 (c : Dev nD) : (dats m 0 c).arrAt 31 cfg0.N = g6 (V m c main_arg0) := by
  have h : (dats m 0 c).after 31 t0_0 = g6 (V m c main_arg0) := by
    dsimp only [dats]
    rw [left512, block0, grad6]
  refine (dats m 0 c).arrAt_eq_of_after_last 31 t0_0 (by decide +kernel) _ fun j => ?_
  rw [h]
  rfl

theorem delta6 (c : Dev nD) : (dats m 0 c).arrAt 39 cfg0.N = delta (g6 (V m c main_arg0)) (V m c main_arg7) (V m c main_arg15) (V m c main_arg23) := by
  have h : (dats m 0 c).after 39 t0_0 = delta (g6 (V m c main_arg0)) (V m c main_arg7) (V m c main_arg15) (V m c main_arg23) := by
    dsimp only [dats]
    rw [left512, block0, grad6, load7, load15, load23, change6]
  refine (dats m 0 c).arrAt_eq_of_after_last 39 t0_0 (by decide +kernel) _ fun j => ?_
  rw [h]
  rfl

theorem newM6 (c : Dev nD) : (dats m 0 c).arrAt 47 cfg0.N = newM (g6 (V m c main_arg0)) (V m c main_arg15) := by
  have h : (dats m 0 c).after 47 t0_0 = newM (g6 (V m c main_arg0)) (V m c main_arg15) := by
    dsimp only [dats]
    rw [left512, block0, grad6, load15, first6]
  refine (dats m 0 c).arrAt_eq_of_after_last 47 t0_0 (by decide +kernel) _ fun j => ?_
  rw [h]
  rfl

theorem newV6 (c : Dev nD) : (dats m 0 c).arrAt 55 cfg0.N = newV (g6 (V m c main_arg0)) (V m c main_arg23) := by
  have h : (dats m 0 c).after 55 t0_0 = newV (g6 (V m c main_arg0)) (V m c main_arg23) := by
    dsimp only [dats]
    rw [left512, block0, grad6, load23, second6]
  refine (dats m 0 c).arrAt_eq_of_after_last 55 t0_0 (by decide +kernel) _ fun j => ?_
  rw [h]
  rfl

theorem gradient7 (c : Dev nD) : (dats m 0 c).arrAt 32 cfg0.N = g7 (V m c main_arg0) := by
  have h : (dats m 0 c).after 32 t0_0 = g7 (V m c main_arg0) := by
    dsimp only [dats]
    rw [left512, block0, grad7]
  refine (dats m 0 c).arrAt_eq_of_after_last 32 t0_0 (by decide +kernel) _ fun j => ?_
  rw [h]
  rfl

theorem delta7 (c : Dev nD) : (dats m 0 c).arrAt 40 cfg0.N = delta (g7 (V m c main_arg0)) (V m c main_arg8) (V m c main_arg16) (V m c main_arg24) := by
  have h : (dats m 0 c).after 40 t0_0 = delta (g7 (V m c main_arg0)) (V m c main_arg8) (V m c main_arg16) (V m c main_arg24) := by
    dsimp only [dats]
    rw [left512, block0, grad7, load8, load16, load24, change7]
  refine (dats m 0 c).arrAt_eq_of_after_last 40 t0_0 (by decide +kernel) _ fun j => ?_
  rw [h]
  rfl

theorem newM7 (c : Dev nD) : (dats m 0 c).arrAt 48 cfg0.N = newM (g7 (V m c main_arg0)) (V m c main_arg16) := by
  have h : (dats m 0 c).after 48 t0_0 = newM (g7 (V m c main_arg0)) (V m c main_arg16) := by
    dsimp only [dats]
    rw [left512, block0, grad7, load16, first7]
  refine (dats m 0 c).arrAt_eq_of_after_last 48 t0_0 (by decide +kernel) _ fun j => ?_
  rw [h]
  rfl

theorem newV7 (c : Dev nD) : (dats m 0 c).arrAt 56 cfg0.N = newV (g7 (V m c main_arg0)) (V m c main_arg24) := by
  have h : (dats m 0 c).after 56 t0_0 = newV (g7 (V m c main_arg0)) (V m c main_arg24) := by
    dsimp only [dats]
    rw [left512, block0, grad7, load24, second7]
  refine (dats m 0 c).arrAt_eq_of_after_last 56 t0_0 (by decide +kernel) _ fun j => ?_
  rw [h]
  rfl

/-- The loss's row. -/
theorem loss_row (c : Dev nD) : (dats m 0 c).arrAt 57 cfg0.N = extractStridedSlice Cert.Reference15Ideal.S1x128 ![6, 768]
    (total (V m c main_arg0)) Cert.Reference15Ideal.Gen.slices_S8x1024_S1x128_6_768 := by
  have h : (dats m 0 c).after 57 t0_0 = extractStridedSlice Cert.Reference15Ideal.S1x128 ![6, 768]
    (total (V m c main_arg0)) Cert.Reference15Ideal.Gen.slices_S8x1024_S1x128_6_768 := by
    dsimp only [dats]
    rw [left128, block0, loss_eq]
  refine (dats m 0 c).arrAt_eq_of_after_last 57 t0_0 (by decide +kernel) _ fun j => ?_
  rw [h]
  rfl

end Cert.Kernel15Ideal.Small
end
-- ==== Proof.SmallClaim.lean ====
/- The claims about the optimiser's step of the eight small weights (`_adamw_small`): kernel, idealized kernel and reference run
   to their end and leave their arguments as they were, and the kernel's 33 results are the reference's. -/
module

public import proofs.«01_k».proof.Proof.SmallValue
public import proofs.«01_k».proof.Defs
public import proofs.«01_k».proof.Proof.Gen.Kernel15
public import proofs.«01_k».proof.Proof.Gen.Kernel15Ideal
public import proofs.«01_k».proof.Proof.Gen.Reference15Ideal
public import Idealize.ShloMosaic.Lib.Claim

@[expose] public section

set_option maxRecDepth 16384

noncomputable section

open Idealize.ShloMosaic Idealize.ShloMosaic.TcCoe Idealize.SL.Sem
open Idealize.ShloMosaic.Pipeline (Dat Window)

namespace Cert.Kernel15Ideal.Small

open Cert.Kernel15Ideal Cert.Kernel15Ideal.Gen Cert.AdamW

section Run

variable {F : FTy → Type} [FloatOps F] (m : (ℓ : Loc nD τ sig) → Buf (Elt F) ℓ)

/-- An input array ends as it began. -/
theorem input_kept {r : PUnit × MemSt nD τ sig (Elt F)} (h : Pipeline.FramePost cfgs (dats m) 0 (V m) r) (c : Dev nD)
    (w : Fin cfg0.W) (hw : (cfg0.win w).isOut = false) :
    r.2.mem ((cfg0.win w).arr.view.loc (c.tc : Thread nD τ)) = V m c (Pipeline.arrRef spec0 w) :=
  ((h c).1 w).trans (((dats m 0 c).arrAt_in w hw _).trans (A_eq m c w))

set_option maxHeartbeats 4000000 in
/-- The arguments end as they began. -/
theorem arguments_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨input_kept m h c 0 rfl, input_kept m h c 1 rfl, input_kept m h c 2 rfl, input_kept m h c 3 rfl, input_kept m h c 4 rfl, input_kept m h c 5 rfl, input_kept m h c 6 rfl, input_kept m h c 7 rfl, input_kept m h c 8 rfl, input_kept m h c 9 rfl, input_kept m h c 10 rfl, input_kept m h c 11 rfl, input_kept m h c 12 rfl, input_kept m h c 13 rfl, input_kept m h c 14 rfl, input_kept m h c 15 rfl, input_kept m h c 16 rfl, input_kept m h c 17 rfl, input_kept m h c 18 rfl, input_kept m h c 19 rfl, input_kept m h c 20 rfl, input_kept m h c 21 rfl, input_kept m h c 22 rfl, input_kept m h c 23 rfl, input_kept m h c 24 rfl⟩

/-- The run of the idealized program over any floats ends, its arguments as they began and every counter at zero. -/
theorem frame_any (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) ∧ r.2.sem = fun _ => 0) :=
  (θ_run _ _ _).mono (fun r h => ⟨arguments_kept m h.1, h.2⟩) (run_quiescent m ρ)

end Run

/-- The idealized kernel runs to its end and leaves its arguments as they were. -/
theorem frame_ideal [Cert.Kernel15Ideal.Facts] : Cert.quiescent_Kernel15Ideal := fun m ρ _ => frame_any m ρ

set_option smartUnfolding false in
set_option maxHeartbeats 4000000 in
/-- The kernel at its own floats runs to its end and leaves its arguments as they were: its program is the idealized one. -/
theorem frame_kernel [Cert.Kernel15.Facts] : Cert.quiescent_Kernel15 := fun m ρ _ => frame_any (F := Bits) m ρ

/-- The reference runs to its end and leaves its arguments as they were. -/
theorem frame_reference [Cert.Reference15Ideal.Facts] : Cert.quiescent_Reference15Ideal := fun m ρ _ =>
  (θ_run _ _ _).mono (fun r h => ⟨fun c => (h c).2.2.2.2.2.2.2.2.2.2.2.2.2.2.2.2.2.2.2.2.2.2.2.2.2.2.2.2.2.2.2.2.2, sem_eq_zero_of_no_sems (by decide) r.2⟩)
    (Cert.Reference15Ideal.Value.run (F := Ideal) m ρ)

set_option maxHeartbeats 4000000 in
/-- The 33 results, for each weight the gradient, the change and the two moments, and the loss's row, are the reference's. -/
theorem step_small [Cert.Kernel15Ideal.Facts] [Cert.Reference15Ideal.Facts] : Cert.algebraic_Kernel15Ideal_Reference15Ideal := by
  intro m g m' g' _ hagree
  refine ⟨fun c => (dats m 0 c).arrAt 25 cfg0.N, fun c => (dats m 0 c).arrAt 26 cfg0.N, fun c => (dats m 0 c).arrAt 27 cfg0.N, fun c => (dats m 0 c).arrAt 28 cfg0.N, fun c => (dats m 0 c).arrAt 29 cfg0.N, fun c => (dats m 0 c).arrAt 30 cfg0.N, fun c => (dats m 0 c).arrAt 31 cfg0.N, fun c => (dats m 0 c).arrAt 32 cfg0.N, fun c => (dats m 0 c).arrAt 33 cfg0.N, fun c => (dats m 0 c).arrAt 34 cfg0.N, fun c => (dats m 0 c).arrAt 35 cfg0.N, fun c => (dats m 0 c).arrAt 36 cfg0.N, fun c => (dats m 0 c).arrAt 37 cfg0.N, fun c => (dats m 0 c).arrAt 38 cfg0.N, fun c => (dats m 0 c).arrAt 39 cfg0.N, fun c => (dats m 0 c).arrAt 40 cfg0.N, fun c => (dats m 0 c).arrAt 41 cfg0.N, fun c => (dats m 0 c).arrAt 42 cfg0.N, fun c => (dats m 0 c).arrAt 43 cfg0.N, fun c => (dats m 0 c).arrAt 44 cfg0.N, fun c => (dats m 0 c).arrAt 45 cfg0.N, fun c => (dats m 0 c).arrAt 46 cfg0.N, fun c => (dats m 0 c).arrAt 47 cfg0.N, fun c => (dats m 0 c).arrAt 48 cfg0.N, fun c => (dats m 0 c).arrAt 49 cfg0.N, fun c => (dats m 0 c).arrAt 50 cfg0.N, fun c => (dats m 0 c).arrAt 51 cfg0.N, fun c => (dats m 0 c).arrAt 52 cfg0.N, fun c => (dats m 0 c).arrAt 53 cfg0.N, fun c => (dats m 0 c).arrAt 54 cfg0.N, fun c => (dats m 0 c).arrAt 55 cfg0.N, fun c => (dats m 0 c).arrAt 56 cfg0.N, fun c => (dats m 0 c).arrAt 57 cfg0.N, ?_, ?_⟩
  · exact (θ_run _ _ _).mono (fun r h c => ⟨(h c).1 25, (h c).1 26, (h c).1 27, (h c).1 28, (h c).1 29, (h c).1 30, (h c).1 31, (h c).1 32, (h c).1 33, (h c).1 34, (h c).1 35, (h c).1 36, (h c).1 37, (h c).1 38, (h c).1 39, (h c).1 40, (h c).1 41, (h c).1 42, (h c).1 43, (h c).1 44, (h c).1 45, (h c).1 46, (h c).1 47, (h c).1 48, (h c).1 49, (h c).1 50, (h c).1 51, (h c).1 52, (h c).1 53, (h c).1 54, (h c).1 55, (h c).1 56, (h c).1 57, arguments_kept m h c⟩)
      (run_main (F := Ideal) m g)
  · refine (θ_run _ _ _).mono (fun r h c => ?_) (Cert.Reference15Ideal.Value.run (F := Ideal) m' g')
    obtain ⟨h0, h1, h2, h3, h4, h5, h6, h7, h8, h9, h10, h11, h12, h13, h14, h15, h16, h17, h18, h19, h20, h21, h22, h23, h24, h25, h26, h27, h28, h29, h30, h31, h32, hargs⟩ := h c
    obtain ⟨a0, a1, a2, a3, a4, a5, a6, a7, a8, a9, a10, a11, a12, a13, a14, a15, a16, a17, a18, a19, a20, a21, a22, a23, a24⟩ := hagree c
    refine ⟨h0.trans (Eq.trans ?_ (gradient0 m c).symm), h1.trans (Eq.trans ?_ (gradient1 m c).symm), h2.trans (Eq.trans ?_ (gradient2 m c).symm), h3.trans (Eq.trans ?_ (gradient3 m c).symm), h4.trans (Eq.trans ?_ (gradient4 m c).symm), h5.trans (Eq.trans ?_ (gradient5 m c).symm), h6.trans (Eq.trans ?_ (gradient6 m c).symm), h7.trans (Eq.trans ?_ (gradient7 m c).symm), h8.trans (Eq.trans ?_ (delta0 m c).symm), h9.trans (Eq.trans ?_ (delta1 m c).symm), h10.trans (Eq.trans ?_ (delta2 m c).symm), h11.trans (Eq.trans ?_ (delta3 m c).symm), h12.trans (Eq.trans ?_ (delta4 m c).symm), h13.trans (Eq.trans ?_ (delta5 m c).symm), h14.trans (Eq.trans ?_ (delta6 m c).symm), h15.trans (Eq.trans ?_ (delta7 m c).symm), h16.trans (Eq.trans ?_ (newM0 m c).symm), h17.trans (Eq.trans ?_ (newM1 m c).symm), h18.trans (Eq.trans ?_ (newM2 m c).symm), h19.trans (Eq.trans ?_ (newM3 m c).symm), h20.trans (Eq.trans ?_ (newM4 m c).symm), h21.trans (Eq.trans ?_ (newM5 m c).symm), h22.trans (Eq.trans ?_ (newM6 m c).symm), h23.trans (Eq.trans ?_ (newM7 m c).symm), h24.trans (Eq.trans ?_ (newV0 m c).symm), h25.trans (Eq.trans ?_ (newV1 m c).symm), h26.trans (Eq.trans ?_ (newV2 m c).symm), h27.trans (Eq.trans ?_ (newV3 m c).symm), h28.trans (Eq.trans ?_ (newV4 m c).symm), h29.trans (Eq.trans ?_ (newV5 m c).symm), h30.trans (Eq.trans ?_ (newV6 m c).symm), h31.trans (Eq.trans ?_ (newV7 m c).symm), h32.trans (Eq.trans ?_ (loss_row m c).symm), hargs⟩ <;>
      (simp only [V, ← a0, ← a1, ← a2, ← a3, ← a4, ← a5, ← a6, ← a7, ← a8, ← a9, ← a10, ← a11, ← a12, ← a13, ← a14, ← a15, ← a16, ← a17, ← a18, ← a19, ← a20, ← a21, ← a22, ← a23, ← a24] <;> rfl)

end Cert.Kernel15Ideal.Small
end
-- ==== Proof.lean ====
/- The proof of the certificate: for each call the frames, the relation of the printed program to the
   idealized one, and the equality of the idealized kernel with its reference. The mathematics is in the modules
   imported first. -/
module

public import proofs.«01_k».proof.Proof.NormBwd
public import proofs.«01_k».proof.Proof.MmDw
public import proofs.«01_k».proof.Proof.MmAcc
public import proofs.«01_k».proof.Proof.NormFwd
public import proofs.«01_k».proof.Proof.MmIn
public import proofs.«01_k».proof.Proof.ConvRef
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Reference15Ideal
public import proofs.«01_k».proof.Proof.Gen.Reference15Ideal.Run
public import proofs.«01_k».proof.Proof.Gen.Kernel15
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import Idealize.ShloMosaic.Adequacy
public import Idealize.ShloMosaic.Init
public import proofs.«01_k».proof.Proof.Ada
public import proofs.«01_k».proof.Proof.AdamAda
public import proofs.«01_k».proof.Proof.AdamShares
public import proofs.«01_k».proof.Proof.AdamConv
public import proofs.«01_k».proof.Proof.SmallClaim
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import Idealize.ShloMosaic.Lib.Claim

@[expose] public section

noncomputable section

namespace Cert.Proof

open Idealize.ShloMosaic Idealize.SL.Sem Cert.Kernel

set_option maxRecDepth 16384

/-- The reference of the convolution runs to its end and leaves its arguments as they were. -/
theorem frame_reference [Cert.ReferenceIdeal.Facts] : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Value.run (F := Ideal) m ρ)

/-- The reference of the projection and norm runs to its end and leaves its arguments as they were. -/
theorem frame_reference2 [Cert.Reference2Ideal.Facts] : Cert.quiescent_Reference2Ideal := fun m ρ _ =>
  (θ_run _ _ _).mono (fun r h => ⟨fun c => (h c).2.2.2.2, Idealize.ShloMosaic.sem_eq_zero_of_no_sems (by decide) r.2⟩)
    (Cert.Reference2Ideal.Value.run (F := Ideal) m ρ)

/-- The reference of the weight runs to its end and leaves its arguments as they were. -/
theorem frame_reference3 [Cert.Reference3Ideal.Facts] : Cert.quiescent_Reference3Ideal := fun m ρ _ =>
  (θ_run _ _ _).mono (fun r h => ⟨fun c => (h c).2, Idealize.ShloMosaic.sem_eq_zero_of_no_sems (by decide) r.2⟩)
    (Cert.Reference3Ideal.Value.run (F := Ideal) m ρ)

/-- The projection's and norm's gradient: the kernel's four results are the reference's. -/
theorem norm_bwd [Cert.Kernel2Ideal.Facts] [Cert.Reference2Ideal.Facts] : Cert.algebraic_Kernel2Ideal_Reference2Ideal := by
  pair_intro
  · run_from Cert.Kernel2Ideal.Gen.run_main m g
  · refine (θ_run _ _ _).mono (fun r h c => ?_) (Cert.Reference2Ideal.Value.run (F := Ideal) m' g')
    obtain ⟨h0, h1, h2, h3, hargs⟩ := h c
    obtain ⟨a0, a1, a2, a3, a4, a5⟩ := hagree c
    refine ⟨h0.trans ?_, h1.trans ?_, h2.trans ?_, h3.trans ?_, hargs⟩
    · refine Eq.trans ?_ (Cert.Kernel2Ideal.Norm.final7 m c).symm
      rw [← a0, ← a1, ← a2, ← a3, ← a4, ← a5]
      exact Cert.Kernel2Ideal.Norm.res_input m' c
    · refine Eq.trans ?_ (Cert.Kernel2Ideal.Norm.final8 m c).symm
      rw [← a0, ← a1]
    · refine Eq.trans ?_ (Cert.Kernel2Ideal.Norm.final9 m c).symm
      rw [← a0, ← a1, ← a2, ← a4]
    · refine Eq.trans ?_ (Cert.Kernel2Ideal.Norm.final10 m c).symm
      rw [← a0, ← a1, ← a2, ← a5]

/-- The weight's gradient: the kernel's result is the reference's. -/
theorem weight_bwd [Cert.Kernel3Ideal.Facts] [Cert.Reference3Ideal.Facts] : Cert.algebraic_Kernel3Ideal_Reference3Ideal := by
  pair_intro
  · run_from Cert.Kernel3Ideal.Gen.run_main m g
  · run_from Cert.Reference3Ideal.Value.run m' g'
    exact (Cert.Kernel3Ideal.Product.final m c).symm

/-- The reference of the output projection's weight runs to its end and leaves its arguments as they were. -/
theorem frame_reference4 [Cert.Reference4Ideal.Facts] : Cert.quiescent_Reference4Ideal := fun m ρ _ =>
  (θ_run _ _ _).mono (fun r h => ⟨fun c => (h c).2, Idealize.ShloMosaic.sem_eq_zero_of_no_sems (by decide) r.2⟩)
    (Cert.Reference4Ideal.Value.run (F := Ideal) m ρ)

/-- The output projection's weight: the kernel's result is the reference's. -/
theorem out_weight [Cert.Kernel4Ideal.Facts] [Cert.Reference4Ideal.Facts] : Cert.algebraic_Kernel4Ideal_Reference4Ideal := by
  pair_intro
  · run_from Cert.Kernel4Ideal.Gen.run_main m g
  · run_from Cert.Reference4Ideal.Value.run m' g'
    exact (Cert.Kernel4Ideal.OutWeight.final m c).symm

/-- The reference of the branch projections' weight runs to its end and leaves its arguments as they were. -/
theorem frame_reference5 [Cert.Reference5Ideal.Facts] : Cert.quiescent_Reference5Ideal := fun m ρ _ =>
  (θ_run _ _ _).mono (fun r h => ⟨fun c => (h c).2, Idealize.ShloMosaic.sem_eq_zero_of_no_sems (by decide) r.2⟩)
    (Cert.Reference5Ideal.Value.run (F := Ideal) m ρ)

/-- The branch projections' weight: the kernel's result is the reference's. -/
theorem branch_weight [Cert.Kernel5Ideal.Facts] [Cert.Reference5Ideal.Facts] : Cert.algebraic_Kernel5Ideal_Reference5Ideal := by
  pair_intro
  · run_from Cert.Kernel5Ideal.Gen.run_main m g
  · run_from Cert.Reference5Ideal.Value.run m' g'
    exact (Cert.Kernel5Ideal.BranchWeight.final m c).symm

/-- The reference of the forward norm runs to its end and leaves its arguments as they were. -/
theorem frame_reference6 [Cert.Reference6Ideal.Facts] : Cert.quiescent_Reference6Ideal := fun m ρ _ =>
  (θ_run _ _ _).mono (fun r h => ⟨fun c => (h c).2.2, Idealize.ShloMosaic.sem_eq_zero_of_no_sems (by decide) r.2⟩)
    (Cert.Reference6Ideal.Value.run (F := Ideal) m ρ)

/-- The forward norm: the kernel's two results are the reference's. -/
theorem norm_fwd [Cert.Kernel6Ideal.Facts] [Cert.Reference6Ideal.Facts] : Cert.algebraic_Kernel6Ideal_Reference6Ideal := by
  pair_intro
  · run_from Cert.Kernel6Ideal.Gen.run_main m g
  · refine (θ_run _ _ _).mono (fun r h c => ?_) (Cert.Reference6Ideal.Value.run (F := Ideal) m' g')
    obtain ⟨h0, h1, hargs⟩ := h c
    obtain ⟨a0, a1, a2, a3⟩ := hagree c
    refine ⟨h0.trans ?_, h1.trans ?_, hargs⟩
    · refine Eq.trans ?_ (Cert.Kernel6Ideal.NormFwd.final4 m c).symm
      rw [← a0, ← a1, ← a2, ← a3]
    · refine Eq.trans ?_ (Cert.Kernel6Ideal.NormFwd.final5 m c).symm
      rw [← a0, ← a1, ← a2, ← a3]

/-- The reference of the input projection runs to its end and leaves its arguments as they were. -/
theorem frame_reference7 [Cert.Reference7Ideal.Facts] : Cert.quiescent_Reference7Ideal := fun m ρ _ =>
  (θ_run _ _ _).mono (fun r h => ⟨fun c => (h c).2, Idealize.ShloMosaic.sem_eq_zero_of_no_sems (by decide) r.2⟩)
    (Cert.Reference7Ideal.Value.run (F := Ideal) m ρ)

/-- The input projection: the kernel's result is the reference's. -/
theorem project [Cert.Kernel7Ideal.Facts] [Cert.Reference7Ideal.Facts] : Cert.algebraic_Kernel7Ideal_Reference7Ideal := by
  pair_intro
  · run_from Cert.Kernel7Ideal.Gen.run_main m g
  · run_from Cert.Reference7Ideal.Value.run m' g'
    exact (Cert.Kernel7Ideal.Project.final m c).symm

/-- The convolution: the kernel's two results are the reference's. -/
theorem conv_bwd [Cert.KernelIdeal.Facts] [Cert.ReferenceIdeal.Facts] : Cert.algebraic_KernelIdeal_ReferenceIdeal := by
  intro m g m' g' hpre hagree
  refine ⟨fun c => Cert.KernelIdeal.Conv.outGrad (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)),
    fun c => Cert.KernelIdeal.Conv.outTaps (m ((c.tc : Thread _ _).loc Cert.KernelIdeal.main_arg0))
      (m ((c.tc : Thread _ _).loc Cert.KernelIdeal.main_arg1)), ?_, ?_⟩
  · exact (θ_run _ _ _).mono (fun r h c => ⟨((h.1 c).1 5).trans (Cert.KernelIdeal.Conv.final5 m c),
      ((h.1 c).2 Cert.KernelIdeal.main_v4 (Pipeline.mem_restRefs_of Cert.KernelIdeal.main_v4 (by decide) (by decide))).trans
        (Cert.KernelIdeal.Conv.final4 m c), h.2 c⟩)
      (θ_run_and (Cert.KernelIdeal.Gen.run_main m g) (Cert.KernelIdeal.Gen.unchanged m g))
  · refine (θ_run _ _ _).mono (fun r h c => ?_) (Cert.ReferenceIdeal.Conv.run_ref m' g')
    obtain ⟨h0, h1, hargs⟩ := h c
    obtain ⟨a0, a1, a2, a3⟩ := hagree c
    refine ⟨h0.trans ?_, h1.trans ?_, hargs⟩
    · rw [a0, a1, a2, a3]
    · rw [a0, a1]

/-- The reference of the modulation weight's gradient runs to its end and leaves its arguments as they were. -/
theorem frame_reference8 [Cert.Reference8Ideal.Facts] : Cert.quiescent_Reference8Ideal := fun m ρ _ =>
  (θ_run _ _ _).mono (fun r h => ⟨fun c => (h c).2, Idealize.ShloMosaic.sem_eq_zero_of_no_sems (by decide) r.2⟩)
    (Cert.Reference8Ideal.Value.run (F := Ideal) m ρ)

/-- The modulation weight's gradient: the kernel's result is the reference's. -/
theorem ada_bwd [Cert.Kernel8Ideal.Facts] [Cert.Reference8Ideal.Facts] : Cert.algebraic_Kernel8Ideal_Reference8Ideal := by
  pair_intro
  · run_from Cert.Kernel8Ideal.Gen.run_main m g
  · run_from Cert.Reference8Ideal.Value.run m' g'
    exact (Cert.Kernel8Ideal.Ada.final m c).symm

/-- The reference of the modulation runs to its end and leaves its arguments as they were. -/
theorem frame_reference9 [Cert.Reference9Ideal.Facts] : Cert.quiescent_Reference9Ideal := fun m ρ _ =>
  (θ_run _ _ _).mono (fun r h => ⟨fun c => (h c).2, Idealize.ShloMosaic.sem_eq_zero_of_no_sems (by decide) r.2⟩)
    (Cert.Reference9Ideal.Value.run (F := Ideal) m ρ)

/-- The modulation: the kernel's result is the reference's. -/
theorem ada_fwd [Cert.Kernel9Ideal.Facts] [Cert.Reference9Ideal.Facts] : Cert.algebraic_Kernel9Ideal_Reference9Ideal := by
  pair_intro
  · run_from Cert.Kernel9Ideal.Gen.run_main m g
  · run_from Cert.Reference9Ideal.Value.run m' g'
    exact (Cert.Kernel9Ideal.Ada.final m c).symm

/-- The reference of the modulation weight's step runs to its end and leaves its arguments as they were. -/
theorem frame_reference10 [Cert.Reference10Ideal.Facts] : Cert.quiescent_Reference10Ideal := fun m ρ _ =>
  (θ_run _ _ _).mono (fun r h => ⟨fun c => (h c).2.2.2.2, Idealize.ShloMosaic.sem_eq_zero_of_no_sems (by decide) r.2⟩)
    (Cert.Reference10Ideal.Value.run (F := Ideal) m ρ)

/-- The modulation weight's step: the kernel's gradient, weight's change and two moments are the reference's. -/
theorem step_ada [Cert.Kernel10Ideal.Facts] [Cert.Reference10Ideal.Facts] : Cert.algebraic_Kernel10Ideal_Reference10Ideal := by
  pair_intro
  · run_from Cert.Kernel10Ideal.Gen.run_main m g
  · refine (θ_run _ _ _).mono (fun r h c => ?_) (Cert.Reference10Ideal.Value.run (F := Ideal) m' g')
    obtain ⟨h0, h1, h2, h3, hargs⟩ := h c
    obtain ⟨a0, a1, a2, a3⟩ := hagree c
    obtain ⟨f0, f1, f2, f3⟩ := Cert.Kernel10Ideal.Adam.finals m c
    refine ⟨h0.trans (Eq.trans ?_ f0.symm), h1.trans (Eq.trans ?_ f1.symm), h2.trans (Eq.trans ?_ f2.symm),
      h3.trans (Eq.trans ?_ f3.symm), hargs⟩ <;>
      (simp only [← a0, ← a1, ← a2, ← a3] <;> rfl)

/-- The reference of the in-projection weight's step runs to its end and leaves its arguments as they were. -/
theorem frame_reference11 [Cert.Reference11Ideal.Facts] : Cert.quiescent_Reference11Ideal := fun m ρ _ =>
  (θ_run _ _ _).mono (fun r h => ⟨fun c => (h c).2.2.2.2, Idealize.ShloMosaic.sem_eq_zero_of_no_sems (by decide) r.2⟩)
    (Cert.Reference11Ideal.Value.run (F := Ideal) m ρ)

/-- The in-projection weight's step: the kernel's gradient, weight's change and two moments are the reference's. -/
theorem step_in [Cert.Kernel11Ideal.Facts] [Cert.Reference11Ideal.Facts] : Cert.algebraic_Kernel11Ideal_Reference11Ideal := by
  pair_intro
  · run_from Cert.Kernel11Ideal.Gen.run_main m g
  · refine (θ_run _ _ _).mono (fun r h c => ?_) (Cert.Reference11Ideal.Value.run (F := Ideal) m' g')
    obtain ⟨h0, h1, h2, h3, hargs⟩ := h c
    obtain ⟨a0, a1, a2, a3, a4⟩ := hagree c
    obtain ⟨f0, f1, f2, f3⟩ := Cert.Kernel11Ideal.Adam.finals m c
    refine ⟨h0.trans (Eq.trans ?_ f0.symm), h1.trans (Eq.trans ?_ f1.symm), h2.trans (Eq.trans ?_ f2.symm),
      h3.trans (Eq.trans ?_ f3.symm), hargs⟩ <;>
      (simp only [← a0, ← a1, ← a2, ← a3, ← a4] <;> rfl)

/-- The reference of the attention projection weight's step runs to its end and leaves its arguments as they were. -/
theorem frame_reference12 [Cert.Reference12Ideal.Facts] : Cert.quiescent_Reference12Ideal := fun m ρ _ =>
  (θ_run _ _ _).mono (fun r h => ⟨fun c => (h c).2.2.2.2, Idealize.ShloMosaic.sem_eq_zero_of_no_sems (by decide) r.2⟩)
    (Cert.Reference12Ideal.Value.run (F := Ideal) m ρ)

/-- The attention projection weight's step: the kernel's gradient, weight's change and two moments are the reference's. -/
theorem step_attn_proj [Cert.Kernel12Ideal.Facts] [Cert.Reference12Ideal.Facts] : Cert.algebraic_Kernel12Ideal_Reference12Ideal := by
  pair_intro
  · run_from Cert.Kernel12Ideal.Gen.run_main m g
  · refine (θ_run _ _ _).mono (fun r h c => ?_) (Cert.Reference12Ideal.Value.run (F := Ideal) m' g')
    obtain ⟨h0, h1, h2, h3, hargs⟩ := h c
    obtain ⟨a0, a1, a2, a3, a4⟩ := hagree c
    obtain ⟨f0, f1, f2, f3⟩ := Cert.Kernel12Ideal.Adam.finals m c
    refine ⟨h0.trans (Eq.trans ?_ f0.symm), h1.trans (Eq.trans ?_ f1.symm), h2.trans (Eq.trans ?_ f2.symm),
      h3.trans (Eq.trans ?_ f3.symm), hargs⟩ <;>
      (simp only [← a0, ← a1, ← a2, ← a3, ← a4] <;> rfl)

/-- The reference of the output projection weight's step runs to its end and leaves its arguments as they were. -/
theorem frame_reference13 [Cert.Reference13Ideal.Facts] : Cert.quiescent_Reference13Ideal := fun m ρ _ =>
  (θ_run _ _ _).mono (fun r h => ⟨fun c => (h c).2.2.2.2, Idealize.ShloMosaic.sem_eq_zero_of_no_sems (by decide) r.2⟩)
    (Cert.Reference13Ideal.Value.run (F := Ideal) m ρ)

/-- The output projection weight's step: the kernel's gradient, weight's change and two moments are the reference's. -/
theorem step_out [Cert.Kernel13Ideal.Facts] [Cert.Reference13Ideal.Facts] : Cert.algebraic_Kernel13Ideal_Reference13Ideal := by
  pair_intro
  · run_from Cert.Kernel13Ideal.Gen.run_main m g
  · refine (θ_run _ _ _).mono (fun r h c => ?_) (Cert.Reference13Ideal.Value.run (F := Ideal) m' g')
    obtain ⟨h0, h1, h2, h3, hargs⟩ := h c
    obtain ⟨a0, a1, a2, a3, a4⟩ := hagree c
    obtain ⟨f0, f1, f2, f3⟩ := Cert.Kernel13Ideal.Adam.finals m c
    refine ⟨h0.trans (Eq.trans ?_ f0.symm), h1.trans (Eq.trans ?_ f1.symm), h2.trans (Eq.trans ?_ f2.symm),
      h3.trans (Eq.trans ?_ f3.symm), hargs⟩ <;>
      (simp only [← a0, ← a1, ← a2, ← a3, ← a4] <;> rfl)

/-- The reference of the convolution weight's step runs to its end and leaves its arguments as they were. -/
theorem frame_reference14 [Cert.Reference14Ideal.Facts] : Cert.quiescent_Reference14Ideal := fun m ρ _ =>
  (θ_run _ _ _).mono (fun r h => ⟨fun c => (h c).2.2.2.2, Idealize.ShloMosaic.sem_eq_zero_of_no_sems (by decide) r.2⟩)
    (Cert.Reference14Ideal.Value.run (F := Ideal) m ρ)

/-- The convolution weight's step: the kernel's gradient, weight's change and two moments are the reference's. -/
theorem step_conv [Cert.Kernel14Ideal.Facts] [Cert.Reference14Ideal.Facts] : Cert.algebraic_Kernel14Ideal_Reference14Ideal := by
  pair_intro
  · run_from Cert.Kernel14Ideal.Gen.run_main m g
  · refine (θ_run _ _ _).mono (fun r h c => ?_) (Cert.Reference14Ideal.Value.run (F := Ideal) m' g')
    obtain ⟨h0, h1, h2, h3, hargs⟩ := h c
    obtain ⟨a0, a1, a2, a3⟩ := hagree c
    obtain ⟨f0, f1, f2, f3⟩ := Cert.Kernel14Ideal.Adam.finals m c
    refine ⟨h0.trans (Eq.trans ?_ f0.symm), h1.trans (Eq.trans ?_ f1.symm), h2.trans (Eq.trans ?_ f2.symm),
      h3.trans (Eq.trans ?_ f3.symm), hargs⟩ <;>
      (simp only [← a0, ← a1, ← a2, ← a3] <;> rfl)

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  Cert.Kernel15Ideal.Small.frame_kernel, Cert.Kernel15Ideal.Small.frame_ideal, Cert.Kernel15Ideal.Small.frame_reference,
  trivial, conv_bwd, trivial, norm_bwd, trivial, weight_bwd, trivial, out_weight, trivial, branch_weight, trivial, norm_fwd, trivial, project, trivial, ada_bwd, trivial, ada_fwd, trivial, step_ada, trivial, step_in, trivial, step_attn_proj, trivial, step_out, trivial, step_conv, trivial, Cert.Kernel15Ideal.Small.step_small⟩

end Cert.Proof

end
